-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5)
      ∧ r.2.mem ((c.tc : Thread Cert.Kernel33.nD Cert.Kernel33.τ).loc Cert.Kernel33.main_arg6) = m ((c.tc : Thread Cert.Kernel33.nD Cert.Kernel33.τ).loc Cert.Kernel33.main_arg6)
      ∧ r.2.mem ((c.tc : Thread Cert.Kernel33.nD Cert.Kernel33.τ).loc Cert.Kernel33.main_arg7) = m ((c.tc : Thread Cert.Kernel33.nD Cert.Kernel33.τ).loc Cert.Kernel33.main_arg7)
      ∧ r.2.mem ((c.tc : Thread Cert.Kernel33.nD Cert.Kernel33.τ).loc Cert.Kernel33.main_arg8) = m ((c.tc : Thread Cert.Kernel33.nD Cert.Kernel33.τ).loc Cert.Kernel33.main_arg8)
      ∧ r.2.mem ((c.tc : Thread Cert.Kernel33.nD Cert.Kernel33.τ).loc Cert.Kernel33.main_arg9) = m ((c.tc : Thread Cert.Kernel33.nD Cert.Kernel33.τ).loc Cert.Kernel33.main_arg9)
      ∧ r.2.mem ((c.tc : Thread Cert.Kernel33.nD Cert.Kernel33.τ).loc Cert.Kernel33.main_arg10) = m ((c.tc : Thread Cert.Kernel33.nD Cert.Kernel33.τ).loc Cert.Kernel33.main_arg10)
      ∧ r.2.mem ((c.tc : Thread Cert.Kernel33.nD Cert.Kernel33.τ).loc Cert.Kernel33.main_arg11) = m ((c.tc : Thread Cert.Kernel33.nD Cert.Kernel33.τ).loc Cert.Kernel33.main_arg11))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
      ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
      ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8)
      ∧ r.2.mem ((c.tc : Thread Cert.Kernel33Ideal.nD Cert.Kernel33Ideal.τ).loc Cert.Kernel33Ideal.main_arg9) = m ((c.tc : Thread Cert.Kernel33Ideal.nD Cert.Kernel33Ideal.τ).loc Cert.Kernel33Ideal.main_arg9)
      ∧ r.2.mem ((c.tc : Thread Cert.Kernel33Ideal.nD Cert.Kernel33Ideal.τ).loc Cert.Kernel33Ideal.main_arg10) = m ((c.tc : Thread Cert.Kernel33Ideal.nD Cert.Kernel33Ideal.τ).loc Cert.Kernel33Ideal.main_arg10)
      ∧ r.2.mem ((c.tc : Thread Cert.Kernel33Ideal.nD Cert.Kernel33Ideal.τ).loc Cert.Kernel33Ideal.main_arg11) = m ((c.tc : Thread Cert.Kernel33Ideal.nD Cert.Kernel33Ideal.τ).loc Cert.Kernel33Ideal.main_arg11))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6)
      ∧ r.2.mem ((c.tc : Thread Cert.Reference33Ideal.nD Cert.Reference33Ideal.τ).loc Cert.Reference33Ideal.main_arg7) = m ((c.tc : Thread Cert.Reference33Ideal.nD Cert.Reference33Ideal.τ).loc Cert.Reference33Ideal.main_arg7)
      ∧ r.2.mem ((c.tc : Thread Cert.Reference33Ideal.nD Cert.Reference33Ideal.τ).loc Cert.Reference33Ideal.main_arg8) = m ((c.tc : Thread Cert.Reference33Ideal.nD Cert.Reference33Ideal.τ).loc Cert.Reference33Ideal.main_arg8)
      ∧ r.2.mem ((c.tc : Thread Cert.Reference33Ideal.nD Cert.Reference33Ideal.τ).loc Cert.Reference33Ideal.main_arg9) = m ((c.tc : Thread Cert.Reference33Ideal.nD Cert.Reference33Ideal.τ).loc Cert.Reference33Ideal.main_arg9)
      ∧ r.2.mem ((c.tc : Thread Cert.Reference33Ideal.nD Cert.Reference33Ideal.τ).loc Cert.Reference33Ideal.main_arg10) = m ((c.tc : Thread Cert.Reference33Ideal.nD Cert.Reference33Ideal.τ).loc Cert.Reference33Ideal.main_arg10)
      ∧ r.2.mem ((c.tc : Thread Cert.Reference33Ideal.nD Cert.Reference33Ideal.τ).loc Cert.Reference33Ideal.main_arg11) = m ((c.tc : Thread Cert.Reference33Ideal.nD Cert.Reference33Ideal.τ).loc Cert.Reference33Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_v22) = v3 c
          ∧ r.2.mem ((c.tc : Thread Cert.Reference5Ideal.nD Cert.Reference5Ideal.τ).loc Cert.Reference5Ideal.main_v23) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v15)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v15) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v5) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)) (v2 : (c : Dev Cert.Kernel30Ideal.nD) → Buf (Elt Ideal) ((c.tc : Thread Cert.Kernel30Ideal.nD Cert.Kernel30Ideal.τ).loc Cert.Kernel30Ideal.main_v1_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_v1_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v52) = v0 c
          ∧ r.2.mem ((c.tc : Thread Cert.Reference30Ideal.nD Cert.Reference30Ideal.τ).loc Cert.Reference30Ideal.main_v53) = v1 c
          ∧ r.2.mem ((c.tc : Thread Cert.Reference30Ideal.nD Cert.Reference30Ideal.τ).loc Cert.Reference30Ideal.main_v54) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v4_0)) (v1 : (c : Dev Cert.Kernel31Ideal.nD) → Buf (Elt Ideal) ((c.tc : Thread Cert.Kernel31Ideal.nD Cert.Kernel31Ideal.τ).loc Cert.Kernel31Ideal.main_v4_1)) (v2 : (c : Dev Cert.Kernel31Ideal.nD) → Buf (Elt Ideal) ((c.tc : Thread Cert.Kernel31Ideal.nD Cert.Kernel31Ideal.τ).loc Cert.Kernel31Ideal.main_v4_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4_0) = v0 c
          ∧ r.2.mem ((c.tc : Thread Cert.Kernel31Ideal.nD Cert.Kernel31Ideal.τ).loc Cert.Kernel31Ideal.main_v4_1) = v1 c
          ∧ r.2.mem ((c.tc : Thread Cert.Kernel31Ideal.nD Cert.Kernel31Ideal.τ).loc Cert.Kernel31Ideal.main_v4_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v24) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v26) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)) →
    ∃ (v0 : (c : Dev Cert.Kernel32Ideal.nD) → Buf (Elt Ideal) ((c.tc : Thread Cert.Kernel32Ideal.nD Cert.Kernel32Ideal.τ).loc Cert.Kernel32Ideal.main_v3_0)) (v1 : (c : Dev Cert.Kernel32Ideal.nD) → Buf (Elt Ideal) ((c.tc : Thread Cert.Kernel32Ideal.nD Cert.Kernel32Ideal.τ).loc Cert.Kernel32Ideal.main_v3_1)) (v2 : (c : Dev Cert.Kernel32Ideal.nD) → Buf (Elt Ideal) ((c.tc : Thread Cert.Kernel32Ideal.nD Cert.Kernel32Ideal.τ).loc Cert.Kernel32Ideal.main_v3_2)) (v3 : (c : Dev Cert.Kernel32Ideal.nD) → Buf (Elt Ideal) ((c.tc : Thread Cert.Kernel32Ideal.nD Cert.Kernel32Ideal.τ).loc Cert.Kernel32Ideal.main_v3_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v3_0) = v0 c
          ∧ r.2.mem ((c.tc : Thread Cert.Kernel32Ideal.nD Cert.Kernel32Ideal.τ).loc Cert.Kernel32Ideal.main_v3_1) = v1 c
          ∧ r.2.mem ((c.tc : Thread Cert.Kernel32Ideal.nD Cert.Kernel32Ideal.τ).loc Cert.Kernel32Ideal.main_v3_2) = v2 c
          ∧ r.2.mem ((c.tc : Thread Cert.Kernel32Ideal.nD Cert.Kernel32Ideal.τ).loc Cert.Kernel32Ideal.main_v3_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v37) = v0 c
          ∧ r.2.mem ((c.tc : Thread Cert.Reference32Ideal.nD Cert.Reference32Ideal.τ).loc Cert.Reference32Ideal.main_v38) = v1 c
          ∧ r.2.mem ((c.tc : Thread Cert.Reference32Ideal.nD Cert.Reference32Ideal.τ).loc Cert.Reference32Ideal.main_v39) = v2 c
          ∧ r.2.mem ((c.tc : Thread Cert.Reference32Ideal.nD Cert.Reference32Ideal.τ).loc Cert.Reference32Ideal.main_v40) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)
      ∧ m' ((c.tc : Thread Cert.Reference33Ideal.nD Cert.Reference33Ideal.τ).loc Cert.Reference33Ideal.main_arg6) = m ((c.tc : Thread Cert.Kernel33Ideal.nD Cert.Kernel33Ideal.τ).loc Cert.Kernel33Ideal.main_arg6)
      ∧ m' ((c.tc : Thread Cert.Reference33Ideal.nD Cert.Reference33Ideal.τ).loc Cert.Reference33Ideal.main_arg7) = m ((c.tc : Thread Cert.Kernel33Ideal.nD Cert.Kernel33Ideal.τ).loc Cert.Kernel33Ideal.main_arg7)
      ∧ m' ((c.tc : Thread Cert.Reference33Ideal.nD Cert.Reference33Ideal.τ).loc Cert.Reference33Ideal.main_arg8) = m ((c.tc : Thread Cert.Kernel33Ideal.nD Cert.Kernel33Ideal.τ).loc Cert.Kernel33Ideal.main_arg8)
      ∧ m' ((c.tc : Thread Cert.Reference33Ideal.nD Cert.Reference33Ideal.τ).loc Cert.Reference33Ideal.main_arg9) = m ((c.tc : Thread Cert.Kernel33Ideal.nD Cert.Kernel33Ideal.τ).loc Cert.Kernel33Ideal.main_arg9)
      ∧ m' ((c.tc : Thread Cert.Reference33Ideal.nD Cert.Reference33Ideal.τ).loc Cert.Reference33Ideal.main_arg10) = m ((c.tc : Thread Cert.Kernel33Ideal.nD Cert.Kernel33Ideal.τ).loc Cert.Kernel33Ideal.main_arg10)
      ∧ m' ((c.tc : Thread Cert.Reference33Ideal.nD Cert.Reference33Ideal.τ).loc Cert.Reference33Ideal.main_arg11) = m ((c.tc : Thread Cert.Kernel33Ideal.nD Cert.Kernel33Ideal.τ).loc Cert.Kernel33Ideal.main_arg11)) →
    ∃ (v0 : (c : Dev Cert.Kernel33Ideal.nD) → Buf (Elt Ideal) ((c.tc : Thread Cert.Kernel33Ideal.nD Cert.Kernel33Ideal.τ).loc Cert.Kernel33Ideal.main_v6_0)) (v1 : (c : Dev Cert.Kernel33Ideal.nD) → Buf (Elt Ideal) ((c.tc : Thread Cert.Kernel33Ideal.nD Cert.Kernel33Ideal.τ).loc Cert.Kernel33Ideal.main_v6_1)) (v2 : (c : Dev Cert.Kernel33Ideal.nD) → Buf (Elt Ideal) ((c.tc : Thread Cert.Kernel33Ideal.nD Cert.Kernel33Ideal.τ).loc Cert.Kernel33Ideal.main_v6_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v6_0) = v0 c
          ∧ r.2.mem ((c.tc : Thread Cert.Kernel33Ideal.nD Cert.Kernel33Ideal.τ).loc Cert.Kernel33Ideal.main_v6_1) = v1 c
          ∧ r.2.mem ((c.tc : Thread Cert.Kernel33Ideal.nD Cert.Kernel33Ideal.τ).loc Cert.Kernel33Ideal.main_v6_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
          ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
          ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
          ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8)
          ∧ r.2.mem ((c.tc : Thread Cert.Kernel33Ideal.nD Cert.Kernel33Ideal.τ).loc Cert.Kernel33Ideal.main_arg9) = m ((c.tc : Thread Cert.Kernel33Ideal.nD Cert.Kernel33Ideal.τ).loc Cert.Kernel33Ideal.main_arg9)
          ∧ r.2.mem ((c.tc : Thread Cert.Kernel33Ideal.nD Cert.Kernel33Ideal.τ).loc Cert.Kernel33Ideal.main_arg10) = m ((c.tc : Thread Cert.Kernel33Ideal.nD Cert.Kernel33Ideal.τ).loc Cert.Kernel33Ideal.main_arg10)
          ∧ r.2.mem ((c.tc : Thread Cert.Kernel33Ideal.nD Cert.Kernel33Ideal.τ).loc Cert.Kernel33Ideal.main_arg11) = m ((c.tc : Thread Cert.Kernel33Ideal.nD Cert.Kernel33Ideal.τ).loc Cert.Kernel33Ideal.main_arg11))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v53) = v0 c
          ∧ r.2.mem ((c.tc : Thread Cert.Reference33Ideal.nD Cert.Reference33Ideal.τ).loc Cert.Reference33Ideal.main_v52) = v1 c
          ∧ r.2.mem ((c.tc : Thread Cert.Reference33Ideal.nD Cert.Reference33Ideal.τ).loc Cert.Reference33Ideal.main_v54) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5)
          ∧ r.2.mem ((c.tc : Thread Cert.Reference33Ideal.nD Cert.Reference33Ideal.τ).loc Cert.Reference33Ideal.main_arg6) = m' ((c.tc : Thread Cert.Reference33Ideal.nD Cert.Reference33Ideal.τ).loc Cert.Reference33Ideal.main_arg6)
          ∧ r.2.mem ((c.tc : Thread Cert.Reference33Ideal.nD Cert.Reference33Ideal.τ).loc Cert.Reference33Ideal.main_arg7) = m' ((c.tc : Thread Cert.Reference33Ideal.nD Cert.Reference33Ideal.τ).loc Cert.Reference33Ideal.main_arg7)
          ∧ r.2.mem ((c.tc : Thread Cert.Reference33Ideal.nD Cert.Reference33Ideal.τ).loc Cert.Reference33Ideal.main_arg8) = m' ((c.tc : Thread Cert.Reference33Ideal.nD Cert.Reference33Ideal.τ).loc Cert.Reference33Ideal.main_arg8)
          ∧ r.2.mem ((c.tc : Thread Cert.Reference33Ideal.nD Cert.Reference33Ideal.τ).loc Cert.Reference33Ideal.main_arg9) = m' ((c.tc : Thread Cert.Reference33Ideal.nD Cert.Reference33Ideal.τ).loc Cert.Reference33Ideal.main_arg9)
          ∧ r.2.mem ((c.tc : Thread Cert.Reference33Ideal.nD Cert.Reference33Ideal.τ).loc Cert.Reference33Ideal.main_arg10) = m' ((c.tc : Thread Cert.Reference33Ideal.nD Cert.Reference33Ideal.τ).loc Cert.Reference33Ideal.main_arg10)
          ∧ r.2.mem ((c.tc : Thread Cert.Reference33Ideal.nD Cert.Reference33Ideal.τ).loc Cert.Reference33Ideal.main_arg11) = m' ((c.tc : Thread Cert.Reference33Ideal.nD Cert.Reference33Ideal.τ).loc Cert.Reference33Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_finite.lean ====
abbrev S16512x2816 : Shape := ⟨2, ![16512, 2816]⟩
abbrev S2816x1024 : Shape := ⟨2, ![2816, 1024]⟩
abbrev S16512x1024 : Shape := ⟨2, ![16512, 1024]⟩
abbrev S_ : Shape := ⟨0, ![]⟩

class Facts : Prop where
  bcast_S_S16512x2816 : S_.BroadcastsInDim S16512x2816 (![] : Fin 0 → Fin S16512x2816.rank)
  reducesTo_S16512x2816_S_d0_1 : S16512x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16512x1024 : S_.BroadcastsInDim S16512x1024 (![] : Fin 0 → Fin S16512x1024.rank)
  reducesTo_S16512x1024_S_d0_1 : S16512x1024.ReducesTo [0, 1] S_

variable [Facts]

def fn {F : FTy → Type} [FloatOps F] (main_arg0 : FVec F S16512x2816 .f32) (main_arg1 : FVec F S16512x2816 .f32) (main_arg2 : FVec F S2816x1024 .f32) (main_arg3 : FVec F S16512x1024 .f32) : IVec S_ 1 :=
  let main_v0 : FVec F S16512x2816 .f32 := Host.absf main_arg1
  let main_cst : FVec F S_ .f32 := constant S_ .f32 0x7F800000#32
  let main_v1 : FVec F S16512x2816 .f32 := broadcastInDim S16512x2816 ![] bcast_S_S16512x2816 main_cst
  let main_v2 : IVec S16512x2816 1 := cmpf .olt main_v0 main_v1
  let main_c : IVec S_ 1 := constantI S_ 1 1#1
  let main_v3 : IVec S_ 1 := (fun x v => Host.reduce IntOp.andi x v reducesTo_S16512x2816_S_d0_1 h_S_) main_v2 main_c
  let main_v4 : FVec F S2816x1024 .f32 := Host.absf main_arg2
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S16512x1024 .f32 := Host.absf main_arg3
  let main_cst_2 : FVec F S_ .f32 := constant S_ .f32 0x7F800000#32
  let main_v10 : FVec F S16512x1024 .f32 := broadcastInDim S16512x1024 ![] bcast_S_S16512x1024 main_cst_2
  let main_v11 : IVec S16512x1024 1 := cmpf .olt main_v9 main_v10
  let main_c_3 : IVec S_ 1 := constantI S_ 1 1#1
  let main_v12 : IVec S_ 1 := (fun x v => Host.reduce IntOp.andi x v reducesTo_S16512x1024_S_d0_1 h_S_) main_v11 main_c_3
  let main_v13 : IVec S_ 1 := andi main_v8 main_v12
  main_v13
-- ==== Kernel.lean ====
abbrev S16512x2816 : Shape := ⟨2, ![16512, 2816]⟩
abbrev S2816x1024 : Shape := ⟨2, ![2816, 1024]⟩
abbrev S16512x1024 : Shape := ⟨2, ![16512, 1024]⟩
abbrev S_ : Shape := ⟨0, ![]⟩
abbrev S384x1024 : Shape := ⟨2, ![384, 1024]⟩
abbrev S384x2816 : Shape := ⟨2, ![384, 2816]⟩
abbrev S1 : Shape := ⟨1, ![1]⟩
abbrev S1408x1024 : Shape := ⟨2, ![1408, 1024]⟩
abbrev S384x1408 : Shape := ⟨2, ![384, 1408]⟩

abbrev nBuf : Space → Nat
  | .hbm => 29
  | .vmem => 13
  | .smem => 0
  | _ => 0

abbrev bufTy : (tb : Table) → Fin (tcTables nBuf tb) → BufTy
  | .hbm, ⟨0, _⟩ => ⟨S16512x2816, .f32⟩
  | .hbm, ⟨1, _⟩ => ⟨S16512x2816, .f32⟩
  | .hbm, ⟨2, _⟩ => ⟨S2816x1024, .f32⟩
  | .hbm, ⟨3, _⟩ => ⟨S16512x1024, .f32⟩
  | .hbm, ⟨4, _⟩ => ⟨S16512x2816, .f32⟩
  | .hbm, ⟨5, _⟩ => ⟨S16512x2816, .f32⟩
  | .hbm, ⟨6, _⟩ => ⟨S_, .f32⟩
  | .hbm, ⟨7, _⟩ => ⟨S16512x2816, .f32⟩
  | .hbm, ⟨8, _⟩ => ⟨S16512x2816, .f32⟩
  | .hbm, ⟨9, _⟩ => ⟨S_, .f32⟩
  | .hbm, ⟨10, _⟩ => ⟨S16512x2816, .f32⟩
  | .hbm, ⟨11, _⟩ => ⟨S16512x2816, .f32⟩
  | .hbm, ⟨12, _⟩ => ⟨S_, .f32⟩
  | .hbm, ⟨13, _⟩ => ⟨S16512x2816, .f32⟩
  | .hbm, ⟨14, _⟩ => ⟨S16512x2816, .f32⟩
  | .hbm, ⟨15, _⟩ => ⟨S16512x2816, .f32⟩
  | .hbm, ⟨16, _⟩ => ⟨S16512x2816, .f32⟩
  | .hbm, ⟨17, _⟩ => ⟨S_, .f32⟩
  | .hbm, ⟨18, _⟩ => ⟨S16512x2816, .f32⟩
  | .hbm, ⟨19, _⟩ => ⟨S16512x2816, .f32⟩
  | .hbm, ⟨20, _⟩ => ⟨S16512x2816, .f32⟩
  | .hbm, ⟨21, _⟩ => ⟨S16512x2816, .f32⟩
  | .hbm, ⟨22, _⟩ => ⟨S16512x2816, .f32⟩
  | .hbm, ⟨23, _⟩ => ⟨S16512x2816, .bf16⟩
  | .hbm, ⟨24, _⟩ => ⟨S16512x2816, .bf16⟩
  | .hbm, ⟨25, _⟩ => ⟨S16512x2816, .bf16⟩
  | .hbm, ⟨26, _⟩ => ⟨S2816x1024, .bf16⟩
  | .hbm, ⟨27, _⟩ => ⟨S16512x2816, .bf16⟩
  | .hbm, ⟨28, _⟩ => ⟨S16512x2816, .bf16⟩
  | .local _ .vmem, ⟨0, _⟩ => ⟨S384x1024, .f32⟩
  | .local _ .vmem, ⟨1, _⟩ => ⟨S384x1024, .f32⟩
  | .local _ .vmem, ⟨2, _⟩ => ⟨S384x2816, .bf16⟩
  | .local _ .vmem, ⟨3, _⟩ => ⟨S384x2816, .bf16⟩
  | .local _ .vmem, ⟨4, _⟩ => ⟨S384x2816, .bf16⟩
  | .local _ .vmem, ⟨5, _⟩ => ⟨S384x2816, .bf16⟩
  | .local _ .vmem, ⟨6, _⟩ => ⟨S384x2816, .bf16⟩
  | .local _ .vmem, ⟨7, _⟩ => ⟨S384x2816, .bf16⟩
  | .local _ .vmem, ⟨8, _⟩ => ⟨S384x2816, .bf16⟩
  | .local _ .vmem, ⟨9, _⟩ => ⟨S384x2816, .bf16⟩
  | .local _ .vmem, ⟨10, _⟩ => ⟨S384x2816, .bf16⟩
  | .local _ .vmem, ⟨11, _⟩ => ⟨S384x2816, .bf16⟩
  | .local _ .vmem, ⟨12, _⟩ => ⟨S2816x1024, .bf16⟩
  | _, _ => ⟨S16512x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_cst : Ref sig .tc := ⟨.hbm, 17, rfl⟩
abbrev main_v1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7_0 : Ref sig .tc := ⟨.hbm, 27, rfl⟩
abbrev main_v7_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16512x2816 : Shape := ⟨2, ![16512, 2816]⟩
abbrev S2816x1024 : Shape := ⟨2, ![2816, 1024]⟩
abbrev S16512x1024 : Shape := ⟨2, ![16512, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16512x2816, .f32⟩
  | .hbm, ⟨1, _⟩ => ⟨S16512x2816, .f32⟩
  | .hbm, ⟨2, _⟩ => ⟨S2816x1024, .f32⟩
  | .hbm, ⟨3, _⟩ => ⟨S16512x1024, .f32⟩
  | .hbm, ⟨4, _⟩ => ⟨S16512x2816, .f32⟩
  | .hbm, ⟨5, _⟩ => ⟨S16512x2816, .f32⟩
  | .hbm, ⟨6, _⟩ => ⟨S_, .f32⟩
  | .hbm, ⟨7, _⟩ => ⟨S16512x2816, .f32⟩
  | .hbm, ⟨8, _⟩ => ⟨S16512x2816, .f32⟩
  | .hbm, ⟨9, _⟩ => ⟨S_, .f32⟩
  | .hbm, ⟨10, _⟩ => ⟨S16512x2816, .f32⟩
  | .hbm, ⟨11, _⟩ => ⟨S16512x2816, .f32⟩
  | .hbm, ⟨12, _⟩ => ⟨S_, .f32⟩
  | .hbm, ⟨13, _⟩ => ⟨S16512x2816, .f32⟩
  | .hbm, ⟨14, _⟩ => ⟨S16512x2816, .f32⟩
  | .hbm, ⟨15, _⟩ => ⟨S16512x2816, .f32⟩
  | .hbm, ⟨16, _⟩ => ⟨S16512x2816, .f32⟩
  | .hbm, ⟨17, _⟩ => ⟨S16512x2816, .f32⟩
  | .hbm, ⟨18, _⟩ => ⟨S16512x1024, .f32⟩
  | .hbm, ⟨19, _⟩ => ⟨S_, .f32⟩
  | .hbm, ⟨20, _⟩ => ⟨S16512x1024, .f32⟩
  | .hbm, ⟨21, _⟩ => ⟨S16512x1024, .f32⟩
  | .hbm, ⟨22, _⟩ => ⟨S_, .f32⟩
  | .hbm, ⟨23, _⟩ => ⟨S16512x1024, .f32⟩
  | .hbm, ⟨24, _⟩ => ⟨S16512x1024, .f32⟩
  | .hbm, ⟨25, _⟩ => ⟨S16512x2816, .f32⟩
  | .hbm, ⟨26, _⟩ => ⟨S16512x2816, .f32⟩
  | .hbm, ⟨27, _⟩ => ⟨S16512x2816, .f32⟩
  | .hbm, ⟨28, _⟩ => ⟨S16512x2816, .f32⟩
  | .hbm, ⟨29, _⟩ => ⟨S16512x2816, .f32⟩
  | .hbm, ⟨30, _⟩ => ⟨S16512x2816, .f32⟩
  | .hbm, ⟨31, _⟩ => ⟨S16512x2816, .f32⟩
  | .hbm, ⟨32, _⟩ => ⟨S16512x2816, .bf16⟩
  | .hbm, ⟨33, _⟩ => ⟨S16512x2816, .bf16⟩
  | _, _ => ⟨S16512x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Kernel2.lean ====
abbrev S16512x1024 : Shape := ⟨2, ![16512, 1024]⟩
abbrev S1024 : Shape := ⟨1, ![1024]⟩
abbrev S1024x2816 : Shape := ⟨2, ![1024, 2816]⟩
abbrev S16512x2816 : Shape := ⟨2, ![16512, 2816]⟩
abbrev S1x1024 : Shape := ⟨2, ![1, 1024]⟩
abbrev S384x2816 : Shape := ⟨2, ![384, 2816]⟩
abbrev S384x1024 : Shape := ⟨2, ![384, 1024]⟩
abbrev S3 : Shape := ⟨1, ![3]⟩
abbrev S1 : Shape := ⟨1, ![1]⟩
abbrev S_ : Shape := ⟨0, ![]⟩
abbrev S384 : Shape := ⟨1, ![384]⟩
abbrev S384x1 : Shape := ⟨2, ![384, 1]⟩

abbrev nBuf : Space → Nat
  | .hbm => 14
  | .vmem => 14
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S16512x1024, .f32⟩
  | .hbm, ⟨5, _⟩ => ⟨S16512x2816, .f32⟩
  | .hbm, ⟨6, _⟩ => ⟨S16512x2816, .f32⟩
  | .hbm, ⟨7, _⟩ => ⟨S16512x2816, .bf16⟩
  | .hbm, ⟨8, _⟩ => ⟨S16512x2816, .bf16⟩
  | .hbm, ⟨9, _⟩ => ⟨S1024x2816, .bf16⟩
  | .hbm, ⟨10, _⟩ => ⟨S1024x2816, .bf16⟩
  | .hbm, ⟨11, _⟩ => ⟨S1x1024, .f32⟩
  | .hbm, ⟨12, _⟩ => ⟨S16512x1024, .f32⟩
  | .hbm, ⟨13, _⟩ => ⟨S1x1024, .f32⟩
  | .local _ .vmem, ⟨0, _⟩ => ⟨S384x2816, .bf16⟩
  | .local _ .vmem, ⟨1, _⟩ => ⟨S384x2816, .bf16⟩
  | .local _ .vmem, ⟨2, _⟩ => ⟨S384x2816, .bf16⟩
  | .local _ .vmem, ⟨3, _⟩ => ⟨S384x2816, .bf16⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S1x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S16512x1024 : Shape := ⟨2, ![16512, 1024]⟩
abbrev S1024 : Shape := ⟨1, ![1024]⟩
abbrev S1024x2816 : Shape := ⟨2, ![1024, 2816]⟩
abbrev S16512x2816 : Shape := ⟨2, ![16512, 2816]⟩
abbrev S_ : Shape := ⟨0, ![]⟩
abbrev S16512 : Shape := ⟨1, ![16512]⟩
abbrev S16512x1 : Shape := ⟨2, ![16512, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S16512x1024, .f32⟩
  | .hbm, ⟨5, _⟩ => ⟨S16512x2816, .f32⟩
  | .hbm, ⟨6, _⟩ => ⟨S16512x2816, .f32⟩
  | .hbm, ⟨7, _⟩ => ⟨S16512x1024, .f32⟩
  | .hbm, ⟨8, _⟩ => ⟨S_, .f32⟩
  | .hbm, ⟨9, _⟩ => ⟨S16512, .f32⟩
  | .hbm, ⟨10, _⟩ => ⟨S16512x1, .f32⟩
  | .hbm, ⟨11, _⟩ => ⟨S_, .f32⟩
  | .hbm, ⟨12, _⟩ => ⟨S16512x1, .f32⟩
  | .hbm, ⟨13, _⟩ => ⟨S16512x1, .f32⟩
  | .hbm, ⟨14, _⟩ => ⟨S_, .f32⟩
  | .hbm, ⟨15, _⟩ => ⟨S16512x1, .f32⟩
  | .hbm, ⟨16, _⟩ => ⟨S16512x1, .f32⟩
  | .hbm, ⟨17, _⟩ => ⟨S16512x1, .f32⟩
  | .hbm, ⟨18, _⟩ => ⟨S16512x1, .f32⟩
  | .hbm, ⟨19, _⟩ => ⟨S_, .f32⟩
  | .hbm, ⟨20, _⟩ => ⟨S16512x1, .f32⟩
  | .hbm, ⟨21, _⟩ => ⟨S16512x1, .f32⟩
  | .hbm, ⟨22, _⟩ => ⟨S16512x1024, .f32⟩
  | .hbm, ⟨23, _⟩ => ⟨S16512x1024, .f32⟩
  | .hbm, ⟨24, _⟩ => ⟨S1x1024, .f32⟩
  | .hbm, ⟨25, _⟩ => ⟨S16512x1024, .f32⟩
  | .hbm, ⟨26, _⟩ => ⟨S16512x1024, .f32⟩
  | .hbm, ⟨27, _⟩ => ⟨S16512x2816, .f32⟩
  | .hbm, ⟨28, _⟩ => ⟨S16512x2816, .f32⟩
  | .hbm, ⟨29, _⟩ => ⟨S16512x1024, .f32⟩
  | .hbm, ⟨30, _⟩ => ⟨S16512x1024, .f32⟩
  | .hbm, ⟨31, _⟩ => ⟨S16512x1024, .f32⟩
  | .hbm, ⟨32, _⟩ => ⟨S16512x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16512x1024, .f32⟩
  | .hbm, ⟨37, _⟩ => ⟨S16512x1024, .f32⟩
  | .hbm, ⟨38, _⟩ => ⟨S_, .f32⟩
  | .hbm, ⟨39, _⟩ => ⟨S1024, .f32⟩
  | .hbm, ⟨40, _⟩ => ⟨S16512x1024, .f32⟩
  | .hbm, ⟨41, _⟩ => ⟨S_, .f32⟩
  | .hbm, ⟨42, _⟩ => ⟨S16512, .f32⟩
  | .hbm, ⟨43, _⟩ => ⟨S16512x1, .f32⟩
  | .hbm, ⟨44, _⟩ => ⟨S16512x1024, .f32⟩
  | .hbm, ⟨45, _⟩ => ⟨S16512x1024, .f32⟩
  | .hbm, ⟨46, _⟩ => ⟨S16512x1024, .f32⟩
  | .hbm, ⟨47, _⟩ => ⟨S16512x1, .f32⟩
  | .hbm, ⟨48, _⟩ => ⟨S_, .f32⟩
  | .hbm, ⟨49, _⟩ => ⟨S16512x1, .f32⟩
  | .hbm, ⟨50, _⟩ => ⟨S16512x1, .f32⟩
  | .hbm, ⟨51, _⟩ => ⟨S_, .f32⟩
  | .hbm, ⟨52, _⟩ => ⟨S16512, .f32⟩
  | .hbm, ⟨53, _⟩ => ⟨S16512x1024, .f32⟩
  | .hbm, ⟨54, _⟩ => ⟨S16512x1024, .f32⟩
  | .hbm, ⟨55, _⟩ => ⟨S16512x1024, .f32⟩
  | .hbm, ⟨56, _⟩ => ⟨S16512x1024, .f32⟩
  | .hbm, ⟨57, _⟩ => ⟨S16512x1024, .f32⟩
  | .hbm, ⟨58, _⟩ => ⟨S1x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel3.lean ====
abbrev S16512x2816 : Shape := ⟨2, ![16512, 2816]⟩
abbrev S16512x1024 : Shape := ⟨2, ![16512, 1024]⟩
abbrev S_ : Shape := ⟨0, ![]⟩
abbrev S2816x1024 : Shape := ⟨2, ![2816, 1024]⟩
abbrev S2064x1408 : Shape := ⟨2, ![2064, 1408]⟩
abbrev S2064x1024 : Shape := ⟨2, ![2064, 1024]⟩
abbrev S1408x1024 : Shape := ⟨2, ![1408, 1024]⟩

abbrev nBuf : Space → Nat
  | .hbm => 15
  | .vmem => 6
  | .smem => 0
  | _ => 0

abbrev bufTy : (tb : Table) → Fin (tcTables nBuf tb) → BufTy
  | .hbm, ⟨0, _⟩ => ⟨S16512x2816, .f32⟩
  | .hbm, ⟨1, _⟩ => ⟨S16512x2816, .f32⟩
  | .hbm, ⟨2, _⟩ => ⟨S16512x1024, .f32⟩
  | .hbm, ⟨3, _⟩ => ⟨S16512x2816, .f32⟩
  | .hbm, ⟨4, _⟩ => ⟨S16512x2816, .f32⟩
  | .hbm, ⟨5, _⟩ => ⟨S_, .f32⟩
  | .hbm, ⟨6, _⟩ => ⟨S16512x2816, .f32⟩
  | .hbm, ⟨7, _⟩ => ⟨S16512x2816, .f32⟩
  | .hbm, ⟨8, _⟩ => ⟨S_, .f32⟩
  | .hbm, ⟨9, _⟩ => ⟨S16512x2816, .f32⟩
  | .hbm, ⟨10, _⟩ => ⟨S16512x2816, .f32⟩
  | .hbm, ⟨11, _⟩ => ⟨S16512x2816, .f32⟩
  | .hbm, ⟨12, _⟩ => ⟨S16512x2816, .f32⟩
  | .hbm, ⟨13, _⟩ => ⟨S16512x2816, .bf16⟩
  | .hbm, ⟨14, _⟩ => ⟨S2816x1024, .f32⟩
  | .local _ .vmem, ⟨0, _⟩ => ⟨S2064x1408, .bf16⟩
  | .local _ .vmem, ⟨1, _⟩ => ⟨S2064x1408, .bf16⟩
  | .local _ .vmem, ⟨2, _⟩ => ⟨S2064x1024, .f32⟩
  | .local _ .vmem, ⟨3, _⟩ => ⟨S2064x1024, .f32⟩
  | .local _ .vmem, ⟨4, _⟩ => ⟨S1408x1024, .f32⟩
  | .local _ .vmem, ⟨5, _⟩ => ⟨S1408x1024, .f32⟩
  | _, _ => ⟨S16512x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2064x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2064x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16512x2816 : Shape := ⟨2, ![16512, 2816]⟩
abbrev S16512x1024 : Shape := ⟨2, ![16512, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 24
  | .vmem => 0
  | .smem => 0
  | _ => 0

abbrev bufTy : (tb : Table) → Fin (tcTables nBuf tb) → BufTy
  | .hbm, ⟨0, _⟩ => ⟨S16512x2816, .f32⟩
  | .hbm, ⟨1, _⟩ => ⟨S16512x2816, .f32⟩
  | .hbm, ⟨2, _⟩ => ⟨S16512x1024, .f32⟩
  | .hbm, ⟨3, _⟩ => ⟨S16512x2816, .f32⟩
  | .hbm, ⟨4, _⟩ => ⟨S16512x2816, .f32⟩
  | .hbm, ⟨5, _⟩ => ⟨S_, .f32⟩
  | .hbm, ⟨6, _⟩ => ⟨S16512x2816, .f32⟩
  | .hbm, ⟨7, _⟩ => ⟨S16512x2816, .f32⟩
  | .hbm, ⟨8, _⟩ => ⟨S_, .f32⟩
  | .hbm, ⟨9, _⟩ => ⟨S16512x2816, .f32⟩
  | .hbm, ⟨10, _⟩ => ⟨S16512x2816, .f32⟩
  | .hbm, ⟨11, _⟩ => ⟨S16512x2816, .f32⟩
  | .hbm, ⟨12, _⟩ => ⟨S16512x2816, .f32⟩
  | .hbm, ⟨13, _⟩ => ⟨S_, .f32⟩
  | .hbm, ⟨14, _⟩ => ⟨S2816x1024, .f32⟩
  | .hbm, ⟨15, _⟩ => ⟨S16512x1024, .f32⟩
  | .hbm, ⟨16, _⟩ => ⟨S_, .f32⟩
  | .hbm, ⟨17, _⟩ => ⟨S16512x1024, .f32⟩
  | .hbm, ⟨18, _⟩ => ⟨S16512x1024, .f32⟩
  | .hbm, ⟨19, _⟩ => ⟨S_, .f32⟩
  | .hbm, ⟨20, _⟩ => ⟨S16512x1024, .f32⟩
  | .hbm, ⟨21, _⟩ => ⟨S16512x1024, .f32⟩
  | .hbm, ⟨22, _⟩ => ⟨S1024x2816, .f32⟩
  | .hbm, ⟨23, _⟩ => ⟨S2816x1024, .f32⟩
  | _, _ => ⟨S16512x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩

abbrev nD : Nat := 1
abbrev τ : Topo := Topo.v7x

variable {F : FTy → Type} [FloatOps F]
-- ==== Kernel4.lean ====
abbrev S16512x1024 : Shape := ⟨2, ![16512, 1024]⟩
abbrev S1024 : Shape := ⟨1, ![1024]⟩
abbrev S16512x2816 : Shape := ⟨2, ![16512, 2816]⟩
abbrev S_ : Shape := ⟨0, ![]⟩
abbrev S16512 : Shape := ⟨1, ![16512]⟩
abbrev S16512x1 : Shape := ⟨2, ![16512, 1]⟩
abbrev S1x1024 : Shape := ⟨2, ![1, 1024]⟩
abbrev S1024x2816 : Shape := ⟨2, ![1024, 2816]⟩
abbrev S2064x1024 : Shape := ⟨2, ![2064, 1024]⟩
abbrev S2064x1408 : Shape := ⟨2, ![2064, 1408]⟩
abbrev S1024x1408 : Shape := ⟨2, ![1024, 1408]⟩

abbrev nBuf : Space → Nat
  | .hbm => 22
  | .vmem => 6
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S16512x2816, .f32⟩
  | .hbm, ⟨3, _⟩ => ⟨S16512x1024, .f32⟩
  | .hbm, ⟨4, _⟩ => ⟨S_, .f32⟩
  | .hbm, ⟨5, _⟩ => ⟨S16512, .f32⟩
  | .hbm, ⟨6, _⟩ => ⟨S16512x1, .f32⟩
  | .hbm, ⟨7, _⟩ => ⟨S_, .f32⟩
  | .hbm, ⟨8, _⟩ => ⟨S16512x1, .f32⟩
  | .hbm, ⟨9, _⟩ => ⟨S16512x1, .f32⟩
  | .hbm, ⟨10, _⟩ => ⟨S_, .f32⟩
  | .hbm, ⟨11, _⟩ => ⟨S16512x1, .f32⟩
  | .hbm, ⟨12, _⟩ => ⟨S16512x1, .f32⟩
  | .hbm, ⟨13, _⟩ => ⟨S16512x1, .f32⟩
  | .hbm, ⟨14, _⟩ => ⟨S16512x1024, .f32⟩
  | .hbm, ⟨15, _⟩ => ⟨S16512x1024, .f32⟩
  | .hbm, ⟨16, _⟩ => ⟨S1x1024, .f32⟩
  | .hbm, ⟨17, _⟩ => ⟨S16512x1024, .f32⟩
  | .hbm, ⟨18, _⟩ => ⟨S16512x1024, .f32⟩
  | .hbm, ⟨19, _⟩ => ⟨S16512x1024, .bf16⟩
  | .hbm, ⟨20, _⟩ => ⟨S16512x2816, .bf16⟩
  | .hbm, ⟨21, _⟩ => ⟨S1024x2816, .f32⟩
  | .local _ .vmem, ⟨0, _⟩ => ⟨S2064x1024, .bf16⟩
  | .local _ .vmem, ⟨1, _⟩ => ⟨S2064x1024, .bf16⟩
  | .local _ .vmem, ⟨2, _⟩ => ⟨S2064x1408, .bf16⟩
  | .local _ .vmem, ⟨3, _⟩ => ⟨S2064x1408, .bf16⟩
  | .local _ .vmem, ⟨4, _⟩ => ⟨S1024x1408, .f32⟩
  | .local _ .vmem, ⟨5, _⟩ => ⟨S1024x1408, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2064x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2064x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16512x1024 : Shape := ⟨2, ![16512, 1024]⟩
abbrev S1024 : Shape := ⟨1, ![1024]⟩
abbrev S16512x2816 : Shape := ⟨2, ![16512, 2816]⟩
abbrev S_ : Shape := ⟨0, ![]⟩
abbrev S16512 : Shape := ⟨1, ![16512]⟩
abbrev S16512x1 : Shape := ⟨2, ![16512, 1]⟩
abbrev S1x1024 : Shape := ⟨2, ![1, 1024]⟩
abbrev S1024x2816 : Shape := ⟨2, ![1024, 2816]⟩
abbrev S2816x1024 : Shape := ⟨2, ![2816, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S16512x2816, .f32⟩
  | .hbm, ⟨3, _⟩ => ⟨S16512x1024, .f32⟩
  | .hbm, ⟨4, _⟩ => ⟨S_, .f32⟩
  | .hbm, ⟨5, _⟩ => ⟨S16512, .f32⟩
  | .hbm, ⟨6, _⟩ => ⟨S16512x1, .f32⟩
  | .hbm, ⟨7, _⟩ => ⟨S_, .f32⟩
  | .hbm, ⟨8, _⟩ => ⟨S16512x1, .f32⟩
  | .hbm, ⟨9, _⟩ => ⟨S16512x1, .f32⟩
  | .hbm, ⟨10, _⟩ => ⟨S_, .f32⟩
  | .hbm, ⟨11, _⟩ => ⟨S16512x1, .f32⟩
  | .hbm, ⟨12, _⟩ => ⟨S16512x1, .f32⟩
  | .hbm, ⟨13, _⟩ => ⟨S16512x1, .f32⟩
  | .hbm, ⟨14, _⟩ => ⟨S16512x1024, .f32⟩
  | .hbm, ⟨15, _⟩ => ⟨S16512x1024, .f32⟩
  | .hbm, ⟨16, _⟩ => ⟨S1x1024, .f32⟩
  | .hbm, ⟨17, _⟩ => ⟨S16512x1024, .f32⟩
  | .hbm, ⟨18, _⟩ => ⟨S16512x1024, .f32⟩
  | .hbm, ⟨19, _⟩ => ⟨S_, .f32⟩
  | .hbm, ⟨20, _⟩ => ⟨S1024x2816, .f32⟩
  | .hbm, ⟨21, _⟩ => ⟨S16512x2816, .f32⟩
  | .hbm, ⟨22, _⟩ => ⟨S2816x1024, .f32⟩
  | .hbm, ⟨23, _⟩ => ⟨S1024x2816, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S16512x1024 : Shape := ⟨2, ![16512, 1024]⟩
abbrev S1024 : Shape := ⟨1, ![1024]⟩
abbrev S1024x2816 : Shape := ⟨2, ![1024, 2816]⟩
abbrev S1x1024 : Shape := ⟨2, ![1, 1024]⟩
abbrev S16512x2816 : Shape := ⟨2, ![16512, 2816]⟩
abbrev S192x1024 : Shape := ⟨2, ![192, 1024]⟩
abbrev S192x2816 : Shape := ⟨2, ![192, 2816]⟩
abbrev S3 : Shape := ⟨1, ![3]⟩
abbrev S1 : Shape := ⟨1, ![1]⟩
abbrev S_ : Shape := ⟨0, ![]⟩
abbrev S192 : Shape := ⟨1, ![192]⟩
abbrev S192x1 : Shape := ⟨2, ![192, 1]⟩

abbrev nBuf : Space → Nat
  | .hbm => 12
  | .vmem => 15
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S1x1024, .f32⟩
  | .hbm, ⟨5, _⟩ => ⟨S1024x2816, .bf16⟩
  | .hbm, ⟨6, _⟩ => ⟨S1024x2816, .bf16⟩
  | .hbm, ⟨7, _⟩ => ⟨S16512x1024, .bf16⟩
  | .hbm, ⟨8, _⟩ => ⟨S16512x2816, .bf16⟩
  | .hbm, ⟨9, _⟩ => ⟨S16512x2816, .bf16⟩
  | .hbm, ⟨10, _⟩ => ⟨S16512x2816, .bf16⟩
  | .hbm, ⟨11, _⟩ => ⟨S16512x2816, .bf16⟩
  | .local _ .vmem, ⟨0, _⟩ => ⟨S192x1024, .f32⟩
  | .local _ .vmem, ⟨1, _⟩ => ⟨S192x1024, .f32⟩
  | .local _ .vmem, ⟨2, _⟩ => ⟨S192x1024, .bf16⟩
  | .local _ .vmem, ⟨3, _⟩ => ⟨S192x1024, .bf16⟩
  | .local _ .vmem, ⟨4, _⟩ => ⟨S192x2816, .bf16⟩
  | .local _ .vmem, ⟨5, _⟩ => ⟨S192x2816, .bf16⟩
  | .local _ .vmem, ⟨6, _⟩ => ⟨S192x2816, .bf16⟩
  | .local _ .vmem, ⟨7, _⟩ => ⟨S192x2816, .bf16⟩
  | .local _ .vmem, ⟨8, _⟩ => ⟨S192x2816, .bf16⟩
  | .local _ .vmem, ⟨9, _⟩ => ⟨S192x2816, .bf16⟩
  | .local _ .vmem, ⟨10, _⟩ => ⟨S192x2816, .bf16⟩
  | .local _ .vmem, ⟨11, _⟩ => ⟨S192x2816, .bf16⟩
  | .local _ .vmem, ⟨12, _⟩ => ⟨S1024x2816, .bf16⟩
  | .local _ .vmem, ⟨13, _⟩ => ⟨S1024x2816, .bf16⟩
  | .local _ .vmem, ⟨14, _⟩ => ⟨S1x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16512x1024 : Shape := ⟨2, ![16512, 1024]⟩
abbrev S1024 : Shape := ⟨1, ![1024]⟩
abbrev S1024x2816 : Shape := ⟨2, ![1024, 2816]⟩
abbrev S_ : Shape := ⟨0, ![]⟩
abbrev S16512 : Shape := ⟨1, ![16512]⟩
abbrev S16512x1 : Shape := ⟨2, ![16512, 1]⟩
abbrev S1x1024 : Shape := ⟨2, ![1, 1024]⟩
abbrev S16512x2816 : Shape := ⟨2, ![16512, 2816]⟩

abbrev nBuf : Space → Nat
  | .hbm => 47
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S16512x1024, .f32⟩
  | .hbm, ⟨5, _⟩ => ⟨S_, .f32⟩
  | .hbm, ⟨6, _⟩ => ⟨S16512, .f32⟩
  | .hbm, ⟨7, _⟩ => ⟨S16512x1, .f32⟩
  | .hbm, ⟨8, _⟩ => ⟨S_, .f32⟩
  | .hbm, ⟨9, _⟩ => ⟨S16512x1, .f32⟩
  | .hbm, ⟨10, _⟩ => ⟨S16512x1, .f32⟩
  | .hbm, ⟨11, _⟩ => ⟨S_, .f32⟩
  | .hbm, ⟨12, _⟩ => ⟨S16512x1, .f32⟩
  | .hbm, ⟨13, _⟩ => ⟨S16512x1, .f32⟩
  | .hbm, ⟨14, _⟩ => ⟨S16512x1, .f32⟩
  | .hbm, ⟨15, _⟩ => ⟨S16512x1024, .f32⟩
  | .hbm, ⟨16, _⟩ => ⟨S16512x1024, .f32⟩
  | .hbm, ⟨17, _⟩ => ⟨S1x1024, .f32⟩
  | .hbm, ⟨18, _⟩ => ⟨S16512x1024, .f32⟩
  | .hbm, ⟨19, _⟩ => ⟨S16512x1024, .f32⟩
  | .hbm, ⟨20, _⟩ => ⟨S16512x2816, .f32⟩
  | .hbm, ⟨21, _⟩ => ⟨S16512x2816, .f32⟩
  | .hbm, ⟨22, _⟩ => ⟨S16512x2816, .f32⟩
  | .hbm, ⟨23, _⟩ => ⟨S16512x2816, .f32⟩
  | .hbm, ⟨24, _⟩ => ⟨S_, .f32⟩
  | .hbm, ⟨25, _⟩ => ⟨S16512x2816, .f32⟩
  | .hbm, ⟨26, _⟩ => ⟨S16512x2816, .f32⟩
  | .hbm, ⟨27, _⟩ => ⟨S_, .f32⟩
  | .hbm, ⟨28, _⟩ => ⟨S16512x2816, .f32⟩
  | .hbm, ⟨29, _⟩ => ⟨S16512x2816, .f32⟩
  | .hbm, ⟨30, _⟩ => ⟨S_, .f32⟩
  | .hbm, ⟨31, _⟩ => ⟨S16512x2816, .f32⟩
  | .hbm, ⟨32, _⟩ => ⟨S16512x2816, .f32⟩
  | .hbm, ⟨33, _⟩ => ⟨S16512x2816, .f32⟩
  | .hbm, ⟨34, _⟩ => ⟨S16512x2816, .f32⟩
  | .hbm, ⟨35, _⟩ => ⟨S_, .f32⟩
  | .hbm, ⟨36, _⟩ => ⟨S16512x2816, .f32⟩
  | .hbm, ⟨37, _⟩ => ⟨S16512x2816, .f32⟩
  | .hbm, ⟨38, _⟩ => ⟨S16512x2816, .f32⟩
  | .hbm, ⟨39, _⟩ => ⟨S16512x2816, .f32⟩
  | .hbm, ⟨40, _⟩ => ⟨S16512x2816, .f32⟩
  | .hbm, ⟨41, _⟩ => ⟨S16512x2816, .f32⟩
  | .hbm, ⟨42, _⟩ => ⟨S16512x1024, .bf16⟩
  | .hbm, ⟨43, _⟩ => ⟨S16512x2816, .bf16⟩
  | .hbm, ⟨44, _⟩ => ⟨S16512x2816, .bf16⟩
  | .hbm, ⟨45, _⟩ => ⟨S16512x2816, .bf16⟩
  | .hbm, ⟨46, _⟩ => ⟨S16512x2816, .bf16⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v15_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v15_1 : Ref sig .tc := ⟨.hbm, 33, rfl⟩
abbrev main_v15_0 : Ref sig .tc := ⟨.hbm, 34, rfl⟩
abbrev main_cst_2 : Ref sig .tc := ⟨.hbm, 35, rfl⟩
abbrev main_v16 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]
-- ==== Kernel6.lean ====
abbrev S16512x2816 : Shape := ⟨2, ![16512, 2816]⟩
abbrev S16512x1024 : Shape := ⟨2, ![16512, 1024]⟩
abbrev S2816x1024 : Shape := ⟨2, ![2816, 1024]⟩
abbrev S384x2816 : Shape := ⟨2, ![384, 2816]⟩
abbrev S384x1024 : Shape := ⟨2, ![384, 1024]⟩
abbrev S1 : Shape := ⟨1, ![1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S16512x2816, .f32⟩
  | .hbm, ⟨1, _⟩ => ⟨S16512x1024, .f32⟩
  | .hbm, ⟨2, _⟩ => ⟨S2816x1024, .f32⟩
  | .hbm, ⟨3, _⟩ => ⟨S16512x2816, .bf16⟩
  | .hbm, ⟨4, _⟩ => ⟨S2816x1024, .bf16⟩
  | .hbm, ⟨5, _⟩ => ⟨S16512x1024, .f32⟩
  | .local _ .vmem, ⟨0, _⟩ => ⟨S384x2816, .bf16⟩
  | .local _ .vmem, ⟨1, _⟩ => ⟨S384x2816, .bf16⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S2816x1024, .bf16⟩
  | _, _ => ⟨S16512x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S16512x2816 : Shape := ⟨2, ![16512, 2816]⟩
abbrev S16512x1024 : Shape := ⟨2, ![16512, 1024]⟩
abbrev S2816x1024 : Shape := ⟨2, ![2816, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16512x2816, .f32⟩
  | .hbm, ⟨1, _⟩ => ⟨S16512x1024, .f32⟩
  | .hbm, ⟨2, _⟩ => ⟨S2816x1024, .f32⟩
  | .hbm, ⟨3, _⟩ => ⟨S16512x1024, .f32⟩
  | .hbm, ⟨4, _⟩ => ⟨S_, .f32⟩
  | .hbm, ⟨5, _⟩ => ⟨S16512x1024, .f32⟩
  | .hbm, ⟨6, _⟩ => ⟨S16512x1024, .f32⟩
  | .hbm, ⟨7, _⟩ => ⟨S16512x1024, .f32⟩
  | _, _ => ⟨S16512x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S16512x1024 : Shape := ⟨2, ![16512, 1024]⟩
abbrev S1024 : Shape := ⟨1, ![1024]⟩
abbrev S1024x4096 : Shape := ⟨2, ![1024, 4096]⟩
abbrev S1x1024 : Shape := ⟨2, ![1, 1024]⟩
abbrev S16512x4096 : Shape := ⟨2, ![16512, 4096]⟩
abbrev S384x1024 : Shape := ⟨2, ![384, 1024]⟩
abbrev S384x4096 : Shape := ⟨2, ![384, 4096]⟩
abbrev S2 : Shape := ⟨1, ![2]⟩
abbrev S1 : Shape := ⟨1, ![1]⟩
abbrev S_ : Shape := ⟨0, ![]⟩
abbrev S384 : Shape := ⟨1, ![384]⟩
abbrev S384x1 : Shape := ⟨2, ![384, 1]⟩

abbrev nBuf : Space → Nat
  | .hbm => 7
  | .vmem => 8
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S16512x1024, .bf16⟩
  | .hbm, ⟨6, _⟩ => ⟨S16512x4096, .f32⟩
  | .local _ .vmem, ⟨0, _⟩ => ⟨S384x1024, .f32⟩
  | .local _ .vmem, ⟨1, _⟩ => ⟨S384x1024, .f32⟩
  | .local _ .vmem, ⟨2, _⟩ => ⟨S384x1024, .bf16⟩
  | .local _ .vmem, ⟨3, _⟩ => ⟨S384x1024, .bf16⟩
  | .local _ .vmem, ⟨4, _⟩ => ⟨S384x4096, .f32⟩
  | .local _ .vmem, ⟨5, _⟩ => ⟨S384x4096, .f32⟩
  | .local _ .vmem, ⟨6, _⟩ => ⟨S1024x4096, .bf16⟩
  | .local _ .vmem, ⟨7, _⟩ => ⟨S1x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S16512x1024 : Shape := ⟨2, ![16512, 1024]⟩
abbrev S1024 : Shape := ⟨1, ![1024]⟩
abbrev S1024x4096 : Shape := ⟨2, ![1024, 4096]⟩
abbrev S_ : Shape := ⟨0, ![]⟩
abbrev S16512 : Shape := ⟨1, ![16512]⟩
abbrev S16512x1 : Shape := ⟨2, ![16512, 1]⟩
abbrev S1x1024 : Shape := ⟨2, ![1, 1024]⟩
abbrev S16512x4096 : Shape := ⟨2, ![16512, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x4096, .f32⟩
  | .hbm, ⟨3, _⟩ => ⟨S16512x1024, .f32⟩
  | .hbm, ⟨4, _⟩ => ⟨S_, .f32⟩
  | .hbm, ⟨5, _⟩ => ⟨S16512, .f32⟩
  | .hbm, ⟨6, _⟩ => ⟨S16512x1, .f32⟩
  | .hbm, ⟨7, _⟩ => ⟨S_, .f32⟩
  | .hbm, ⟨8, _⟩ => ⟨S16512x1, .f32⟩
  | .hbm, ⟨9, _⟩ => ⟨S16512x1, .f32⟩
  | .hbm, ⟨10, _⟩ => ⟨S_, .f32⟩
  | .hbm, ⟨11, _⟩ => ⟨S16512x1, .f32⟩
  | .hbm, ⟨12, _⟩ => ⟨S16512x1, .f32⟩
  | .hbm, ⟨13, _⟩ => ⟨S16512x1, .f32⟩
  | .hbm, ⟨14, _⟩ => ⟨S16512x1024, .f32⟩
  | .hbm, ⟨15, _⟩ => ⟨S16512x1024, .f32⟩
  | .hbm, ⟨16, _⟩ => ⟨S1x1024, .f32⟩
  | .hbm, ⟨17, _⟩ => ⟨S16512x1024, .f32⟩
  | .hbm, ⟨18, _⟩ => ⟨S16512x1024, .f32⟩
  | .hbm, ⟨19, _⟩ => ⟨S16512x1024, .bf16⟩
  | .hbm, ⟨20, _⟩ => ⟨S16512x4096, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel8.lean ====
abbrev S16512x1024 : Shape := ⟨2, ![16512, 1024]⟩
abbrev S1024 : Shape := ⟨1, ![1024]⟩
abbrev S16512x4096 : Shape := ⟨2, ![16512, 4096]⟩
abbrev S_ : Shape := ⟨0, ![]⟩
abbrev S16512 : Shape := ⟨1, ![16512]⟩
abbrev S16512x1 : Shape := ⟨2, ![16512, 1]⟩
abbrev S1x1024 : Shape := ⟨2, ![1, 1024]⟩
abbrev S1024x4096 : Shape := ⟨2, ![1024, 4096]⟩
abbrev S2064x1024 : Shape := ⟨2, ![2064, 1024]⟩
abbrev S2064x2048 : Shape := ⟨2, ![2064, 2048]⟩
abbrev S1024x2048 : Shape := ⟨2, ![1024, 2048]⟩

abbrev nBuf : Space → Nat
  | .hbm => 22
  | .vmem => 6
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S16512x4096, .f32⟩
  | .hbm, ⟨3, _⟩ => ⟨S16512x1024, .f32⟩
  | .hbm, ⟨4, _⟩ => ⟨S_, .f32⟩
  | .hbm, ⟨5, _⟩ => ⟨S16512, .f32⟩
  | .hbm, ⟨6, _⟩ => ⟨S16512x1, .f32⟩
  | .hbm, ⟨7, _⟩ => ⟨S_, .f32⟩
  | .hbm, ⟨8, _⟩ => ⟨S16512x1, .f32⟩
  | .hbm, ⟨9, _⟩ => ⟨S16512x1, .f32⟩
  | .hbm, ⟨10, _⟩ => ⟨S_, .f32⟩
  | .hbm, ⟨11, _⟩ => ⟨S16512x1, .f32⟩
  | .hbm, ⟨12, _⟩ => ⟨S16512x1, .f32⟩
  | .hbm, ⟨13, _⟩ => ⟨S16512x1, .f32⟩
  | .hbm, ⟨14, _⟩ => ⟨S16512x1024, .f32⟩
  | .hbm, ⟨15, _⟩ => ⟨S16512x1024, .f32⟩
  | .hbm, ⟨16, _⟩ => ⟨S1x1024, .f32⟩
  | .hbm, ⟨17, _⟩ => ⟨S16512x1024, .f32⟩
  | .hbm, ⟨18, _⟩ => ⟨S16512x1024, .f32⟩
  | .hbm, ⟨19, _⟩ => ⟨S16512x1024, .bf16⟩
  | .hbm, ⟨20, _⟩ => ⟨S16512x4096, .bf16⟩
  | .hbm, ⟨21, _⟩ => ⟨S1024x4096, .f32⟩
  | .local _ .vmem, ⟨0, _⟩ => ⟨S2064x1024, .bf16⟩
  | .local _ .vmem, ⟨1, _⟩ => ⟨S2064x1024, .bf16⟩
  | .local _ .vmem, ⟨2, _⟩ => ⟨S2064x2048, .bf16⟩
  | .local _ .vmem, ⟨3, _⟩ => ⟨S2064x2048, .bf16⟩
  | .local _ .vmem, ⟨4, _⟩ => ⟨S1024x2048, .f32⟩
  | .local _ .vmem, ⟨5, _⟩ => ⟨S1024x2048, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2064x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2064x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16512x1024 : Shape := ⟨2, ![16512, 1024]⟩
abbrev S1024 : Shape := ⟨1, ![1024]⟩
abbrev S16512x4096 : Shape := ⟨2, ![16512, 4096]⟩
abbrev S_ : Shape := ⟨0, ![]⟩
abbrev S16512 : Shape := ⟨1, ![16512]⟩
abbrev S16512x1 : Shape := ⟨2, ![16512, 1]⟩
abbrev S1x1024 : Shape := ⟨2, ![1, 1024]⟩
abbrev S1024x4096 : Shape := ⟨2, ![1024, 4096]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S16512x4096, .f32⟩
  | .hbm, ⟨3, _⟩ => ⟨S16512x1024, .f32⟩
  | .hbm, ⟨4, _⟩ => ⟨S_, .f32⟩
  | .hbm, ⟨5, _⟩ => ⟨S16512, .f32⟩
  | .hbm, ⟨6, _⟩ => ⟨S16512x1, .f32⟩
  | .hbm, ⟨7, _⟩ => ⟨S_, .f32⟩
  | .hbm, ⟨8, _⟩ => ⟨S16512x1, .f32⟩
  | .hbm, ⟨9, _⟩ => ⟨S16512x1, .f32⟩
  | .hbm, ⟨10, _⟩ => ⟨S_, .f32⟩
  | .hbm, ⟨11, _⟩ => ⟨S16512x1, .f32⟩
  | .hbm, ⟨12, _⟩ => ⟨S16512x1, .f32⟩
  | .hbm, ⟨13, _⟩ => ⟨S16512x1, .f32⟩
  | .hbm, ⟨14, _⟩ => ⟨S16512x1024, .f32⟩
  | .hbm, ⟨15, _⟩ => ⟨S16512x1024, .f32⟩
  | .hbm, ⟨16, _⟩ => ⟨S1x1024, .f32⟩
  | .hbm, ⟨17, _⟩ => ⟨S16512x1024, .f32⟩
  | .hbm, ⟨18, _⟩ => ⟨S16512x1024, .f32⟩
  | .hbm, ⟨19, _⟩ => ⟨S_, .f32⟩
  | .hbm, ⟨20, _⟩ => ⟨S1024x4096, .f32⟩
  | .hbm, ⟨21, _⟩ => ⟨S16512x4096, .f32⟩
  | .hbm, ⟨22, _⟩ => ⟨S4096x1024, .f32⟩
  | .hbm, ⟨23, _⟩ => ⟨S1024x4096, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel9.lean ====
abbrev S16512x1024 : Shape := ⟨2, ![16512, 1024]⟩
abbrev S1024x1024 : Shape := ⟨2, ![1024, 1024]⟩
abbrev S2064x1024 : Shape := ⟨2, ![2064, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S16512x1024, .bf16⟩
  | .hbm, ⟨3, _⟩ => ⟨S1024x1024, .f32⟩
  | .local _ .vmem, ⟨0, _⟩ => ⟨S2064x1024, .bf16⟩
  | .local _ .vmem, ⟨1, _⟩ => ⟨S2064x1024, .bf16⟩
  | .local _ .vmem, ⟨2, _⟩ => ⟨S2064x1024, .f32⟩
  | .local _ .vmem, ⟨3, _⟩ => ⟨S2064x1024, .f32⟩
  | .local _ .vmem, ⟨4, _⟩ => ⟨S1024x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2064x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2064x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S16512x1024 : Shape := ⟨2, ![16512, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S_, .f32⟩
  | .hbm, ⟨3, _⟩ => ⟨S1024x1024, .f32⟩
  | .hbm, ⟨4, _⟩ => ⟨S16512x1024, .f32⟩
  | .hbm, ⟨5, _⟩ => ⟨S1024x1024, .f32⟩
  | .hbm, ⟨6, _⟩ => ⟨S1024x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S16512x1024 : Shape := ⟨2, ![16512, 1024]⟩
abbrev S1024x1024 : Shape := ⟨2, ![1024, 1024]⟩
abbrev S2064x1024 : Shape := ⟨2, ![2064, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S16512x1024, .bf16⟩
  | .hbm, ⟨3, _⟩ => ⟨S16512x1024, .bf16⟩
  | .hbm, ⟨4, _⟩ => ⟨S1024x1024, .f32⟩
  | .local _ .vmem, ⟨0, _⟩ => ⟨S2064x1024, .bf16⟩
  | .local _ .vmem, ⟨1, _⟩ => ⟨S2064x1024, .bf16⟩
  | .local _ .vmem, ⟨2, _⟩ => ⟨S2064x1024, .bf16⟩
  | .local _ .vmem, ⟨3, _⟩ => ⟨S2064x1024, .bf16⟩
  | .local _ .vmem, ⟨4, _⟩ => ⟨S1024x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2064x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2064x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S16512x1024 : Shape := ⟨2, ![16512, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S_, .f32⟩
  | .hbm, ⟨3, _⟩ => ⟨S1024x1024, .f32⟩
  | .hbm, ⟨4, _⟩ => ⟨S16512x1024, .f32⟩
  | .hbm, ⟨5, _⟩ => ⟨S1024x1024, .f32⟩
  | .hbm, ⟨6, _⟩ => ⟨S1024x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S16512x512 : Shape := ⟨2, ![16512, 512]⟩
abbrev S16512x1024 : Shape := ⟨2, ![16512, 1024]⟩
abbrev S512x1024 : Shape := ⟨2, ![512, 1024]⟩
abbrev S2064x512 : Shape := ⟨2, ![2064, 512]⟩
abbrev S2064x1024 : Shape := ⟨2, ![2064, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16512x512, .f32⟩
  | .hbm, ⟨1, _⟩ => ⟨S16512x1024, .f32⟩
  | .hbm, ⟨2, _⟩ => ⟨S16512x512, .bf16⟩
  | .hbm, ⟨3, _⟩ => ⟨S16512x1024, .bf16⟩
  | .hbm, ⟨4, _⟩ => ⟨S512x1024, .f32⟩
  | .local _ .vmem, ⟨0, _⟩ => ⟨S2064x512, .bf16⟩
  | .local _ .vmem, ⟨1, _⟩ => ⟨S2064x512, .bf16⟩
  | .local _ .vmem, ⟨2, _⟩ => ⟨S2064x1024, .bf16⟩
  | .local _ .vmem, ⟨3, _⟩ => ⟨S2064x1024, .bf16⟩
  | .local _ .vmem, ⟨4, _⟩ => ⟨S512x1024, .f32⟩
  | _, _ => ⟨S16512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2064x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S16512x512 : Shape := ⟨2, ![16512, 512]⟩
abbrev S16512x1024 : Shape := ⟨2, ![16512, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16512x512, .f32⟩
  | .hbm, ⟨1, _⟩ => ⟨S16512x1024, .f32⟩
  | .hbm, ⟨2, _⟩ => ⟨S_, .f32⟩
  | .hbm, ⟨3, _⟩ => ⟨S512x1024, .f32⟩
  | .hbm, ⟨4, _⟩ => ⟨S16512x1024, .f32⟩
  | .hbm, ⟨5, _⟩ => ⟨S1024x512, .f32⟩
  | .hbm, ⟨6, _⟩ => ⟨S512x1024, .f32⟩
  | _, _ => ⟨S16512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S16512x512 : Shape := ⟨2, ![16512, 512]⟩
abbrev S512x512 : Shape := ⟨2, ![512, 512]⟩
abbrev S2064x512 : Shape := ⟨2, ![2064, 512]⟩

abbrev nBuf : Space → Nat
  | .hbm => 5
  | .vmem => 5
  | .smem => 0
  | _ => 0

abbrev bufTy : (tb : Table) → Fin (tcTables nBuf tb) → BufTy
  | .hbm, ⟨0, _⟩ => ⟨S16512x512, .f32⟩
  | .hbm, ⟨1, _⟩ => ⟨S16512x512, .f32⟩
  | .hbm, ⟨2, _⟩ => ⟨S16512x512, .bf16⟩
  | .hbm, ⟨3, _⟩ => ⟨S16512x512, .bf16⟩
  | .hbm, ⟨4, _⟩ => ⟨S512x512, .f32⟩
  | .local _ .vmem, ⟨0, _⟩ => ⟨S2064x512, .bf16⟩
  | .local _ .vmem, ⟨1, _⟩ => ⟨S2064x512, .bf16⟩
  | .local _ .vmem, ⟨2, _⟩ => ⟨S2064x512, .bf16⟩
  | .local _ .vmem, ⟨3, _⟩ => ⟨S2064x512, .bf16⟩
  | .local _ .vmem, ⟨4, _⟩ => ⟨S512x512, .f32⟩
  | _, _ => ⟨S16512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2064x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S16512x512 : Shape := ⟨2, ![16512, 512]⟩
abbrev S_ : Shape := ⟨0, ![]⟩
abbrev S512x512 : Shape := ⟨2, ![512, 512]⟩

abbrev nBuf : Space → Nat
  | .hbm => 7
  | .vmem => 0
  | .smem => 0
  | _ => 0

abbrev bufTy : (tb : Table) → Fin (tcTables nBuf tb) → BufTy
  | .hbm, ⟨0, _⟩ => ⟨S16512x512, .f32⟩
  | .hbm, ⟨1, _⟩ => ⟨S16512x512, .f32⟩
  | .hbm, ⟨2, _⟩ => ⟨S_, .f32⟩
  | .hbm, ⟨3, _⟩ => ⟨S512x512, .f32⟩
  | .hbm, ⟨4, _⟩ => ⟨S16512x512, .f32⟩
  | .hbm, ⟨5, _⟩ => ⟨S512x512, .f32⟩
  | .hbm, ⟨6, _⟩ => ⟨S512x512, .f32⟩
  | _, _ => ⟨S16512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S16512x1024 : Shape := ⟨2, ![16512, 1024]⟩
abbrev S1024x1024 : Shape := ⟨2, ![1024, 1024]⟩
abbrev S384x1024 : Shape := ⟨2, ![384, 1024]⟩
abbrev S1 : Shape := ⟨1, ![1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S1024x1024, .f32⟩
  | .hbm, ⟨3, _⟩ => ⟨S16512x1024, .bf16⟩
  | .hbm, ⟨4, _⟩ => ⟨S1024x1024, .bf16⟩
  | .hbm, ⟨5, _⟩ => ⟨S16512x1024, .f32⟩
  | .local _ .vmem, ⟨0, _⟩ => ⟨S384x1024, .bf16⟩
  | .local _ .vmem, ⟨1, _⟩ => ⟨S384x1024, .bf16⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S1024x1024, .bf16⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S16512x1024 : Shape := ⟨2, ![16512, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S1024x1024, .f32⟩
  | .hbm, ⟨3, _⟩ => ⟨S16512x1024, .f32⟩
  | .hbm, ⟨4, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S16512x1024 : Shape := ⟨2, ![16512, 1024]⟩
abbrev S512x1024 : Shape := ⟨2, ![512, 1024]⟩
abbrev S1024x1024 : Shape := ⟨2, ![1024, 1024]⟩
abbrev S16512x512 : Shape := ⟨2, ![16512, 512]⟩
abbrev S384x1024 : Shape := ⟨2, ![384, 1024]⟩
abbrev S384x512 : Shape := ⟨2, ![384, 512]⟩
abbrev S2 : Shape := ⟨1, ![2]⟩
abbrev S1 : Shape := ⟨1, ![1]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S512x1024, .f32⟩
  | .hbm, ⟨3, _⟩ => ⟨S1024x1024, .f32⟩
  | .hbm, ⟨4, _⟩ => ⟨S16512x1024, .bf16⟩
  | .hbm, ⟨5, _⟩ => ⟨S16512x1024, .bf16⟩
  | .hbm, ⟨6, _⟩ => ⟨S512x1024, .bf16⟩
  | .hbm, ⟨7, _⟩ => ⟨S1024x1024, .bf16⟩
  | .hbm, ⟨8, _⟩ => ⟨S16512x1024, .f32⟩
  | .hbm, ⟨9, _⟩ => ⟨S16512x512, .f32⟩
  | .local _ .vmem, ⟨0, _⟩ => ⟨S384x1024, .bf16⟩
  | .local _ .vmem, ⟨1, _⟩ => ⟨S384x1024, .bf16⟩
  | .local _ .vmem, ⟨2, _⟩ => ⟨S384x1024, .bf16⟩
  | .local _ .vmem, ⟨3, _⟩ => ⟨S384x1024, .bf16⟩
  | .local _ .vmem, ⟨4, _⟩ => ⟨S384x1024, .f32⟩
  | .local _ .vmem, ⟨5, _⟩ => ⟨S384x1024, .f32⟩
  | .local _ .vmem, ⟨6, _⟩ => ⟨S384x512, .f32⟩
  | .local _ .vmem, ⟨7, _⟩ => ⟨S384x512, .f32⟩
  | .local _ .vmem, ⟨8, _⟩ => ⟨S512x1024, .bf16⟩
  | .local _ .vmem, ⟨9, _⟩ => ⟨S1024x1024, .bf16⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S16512x1024 : Shape := ⟨2, ![16512, 1024]⟩
abbrev S512x1024 : Shape := ⟨2, ![512, 1024]⟩
abbrev S1024x1024 : Shape := ⟨2, ![1024, 1024]⟩
abbrev S_ : Shape := ⟨0, ![]⟩
abbrev S16512x512 : Shape := ⟨2, ![16512, 512]⟩

abbrev nBuf : Space → Nat
  | .hbm => 12
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S512x1024, .f32⟩
  | .hbm, ⟨3, _⟩ => ⟨S1024x1024, .f32⟩
  | .hbm, ⟨4, _⟩ => ⟨S_, .f32⟩
  | .hbm, ⟨5, _⟩ => ⟨S16512x1024, .f32⟩
  | .hbm, ⟨6, _⟩ => ⟨S_, .f32⟩
  | .hbm, ⟨7, _⟩ => ⟨S16512x512, .f32⟩
  | .hbm, ⟨8, _⟩ => ⟨S16512x1024, .f32⟩
  | .hbm, ⟨9, _⟩ => ⟨S16512x1024, .f32⟩
  | .hbm, ⟨10, _⟩ => ⟨S16512x1024, .f32⟩
  | .hbm, ⟨11, _⟩ => ⟨S16512x512, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel15.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2816x1024 : Shape := ⟨2, ![2816, 1024]⟩
abbrev S704x1024 : Shape := ⟨2, ![704, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S704x1024, .f32⟩
  | .local _ .vmem, ⟨1, _⟩ => ⟨S704x1024, .f32⟩
  | .local _ .vmem, ⟨2, _⟩ => ⟨S704x1024, .f32⟩
  | .local _ .vmem, ⟨3, _⟩ => ⟨S704x1024, .f32⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .f32⟩
  | .local _ .vmem, ⟨9, _⟩ => ⟨S704x1024, .f32⟩
  | .local _ .vmem, ⟨10, _⟩ => ⟨S704x1024, .f32⟩
  | .local _ .vmem, ⟨11, _⟩ => ⟨S704x1024, .f32⟩
  | .local _ .vmem, ⟨12, _⟩ => ⟨S704x1024, .f32⟩
  | .local _ .vmem, ⟨13, _⟩ => ⟨S704x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S4096x1024 : Shape := ⟨2, ![4096, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2048x256 : Shape := ⟨2, ![2048, 256]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S2048x256 : Shape := ⟨2, ![2048, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S_, .f32⟩
  | .hbm, ⟨5, _⟩ => ⟨S2048x256, .f32⟩
  | .hbm, ⟨6, _⟩ => ⟨S2048x256, .f32⟩
  | .hbm, ⟨7, _⟩ => ⟨S_, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S_, .f32⟩
  | .hbm, ⟨12, _⟩ => ⟨S2048x256, .f32⟩
  | .hbm, ⟨13, _⟩ => ⟨S2048x256, .f32⟩
  | .hbm, ⟨14, _⟩ => ⟨S2048x256, .f32⟩
  | .hbm, ⟨15, _⟩ => ⟨S_, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S_, .f32⟩
  | .hbm, ⟨20, _⟩ => ⟨S2048x256, .f32⟩
  | .hbm, ⟨21, _⟩ => ⟨S2048x256, .f32⟩
  | .hbm, ⟨22, _⟩ => ⟨S_, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S_, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S_, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S_, .f32⟩
  | .hbm, ⟨35, _⟩ => ⟨S2048x256, .f32⟩
  | .hbm, ⟨36, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S256x64 : Shape := ⟨2, ![256, 64]⟩

abbrev nBuf : Space → Nat
  | .hbm => 7
  | .vmem => 7
  | .smem => 0
  | _ => 0

abbrev bufTy : (tb : Table) → Fin (tcTables nBuf tb) → BufTy
  | .hbm, ⟨0, _⟩ => ⟨S256x64, .f32⟩
  | .hbm, ⟨1, _⟩ => ⟨S256x64, .f32⟩
  | .hbm, ⟨2, _⟩ => ⟨S256x64, .f32⟩
  | .hbm, ⟨3, _⟩ => ⟨S256x64, .f32⟩
  | .hbm, ⟨4, _⟩ => ⟨S256x64, .f32⟩
  | .hbm, ⟨5, _⟩ => ⟨S256x64, .f32⟩
  | .hbm, ⟨6, _⟩ => ⟨S256x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S256x64 : Shape := ⟨2, ![256, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x64, .f32⟩
  | .hbm, ⟨1, _⟩ => ⟨S256x64, .f32⟩
  | .hbm, ⟨2, _⟩ => ⟨S256x64, .f32⟩
  | .hbm, ⟨3, _⟩ => ⟨S256x64, .f32⟩
  | .hbm, ⟨4, _⟩ => ⟨S_, .f32⟩
  | .hbm, ⟨5, _⟩ => ⟨S256x64, .f32⟩
  | .hbm, ⟨6, _⟩ => ⟨S256x64, .f32⟩
  | .hbm, ⟨7, _⟩ => ⟨S_, .f32⟩
  | .hbm, ⟨8, _⟩ => ⟨S256x64, .f32⟩
  | .hbm, ⟨9, _⟩ => ⟨S256x64, .f32⟩
  | .hbm, ⟨10, _⟩ => ⟨S256x64, .f32⟩
  | .hbm, ⟨11, _⟩ => ⟨S_, .f32⟩
  | .hbm, ⟨12, _⟩ => ⟨S256x64, .f32⟩
  | .hbm, ⟨13, _⟩ => ⟨S256x64, .f32⟩
  | .hbm, ⟨14, _⟩ => ⟨S256x64, .f32⟩
  | .hbm, ⟨15, _⟩ => ⟨S_, .f32⟩
  | .hbm, ⟨16, _⟩ => ⟨S256x64, .f32⟩
  | .hbm, ⟨17, _⟩ => ⟨S256x64, .f32⟩
  | .hbm, ⟨18, _⟩ => ⟨S256x64, .f32⟩
  | .hbm, ⟨19, _⟩ => ⟨S_, .f32⟩
  | .hbm, ⟨20, _⟩ => ⟨S256x64, .f32⟩
  | .hbm, ⟨21, _⟩ => ⟨S256x64, .f32⟩
  | .hbm, ⟨22, _⟩ => ⟨S_, .f32⟩
  | .hbm, ⟨23, _⟩ => ⟨S256x64, .f32⟩
  | .hbm, ⟨24, _⟩ => ⟨S256x64, .f32⟩
  | .hbm, ⟨25, _⟩ => ⟨S256x64, .f32⟩
  | .hbm, ⟨26, _⟩ => ⟨S_, .f32⟩
  | .hbm, ⟨27, _⟩ => ⟨S256x64, .f32⟩
  | .hbm, ⟨28, _⟩ => ⟨S256x64, .f32⟩
  | .hbm, ⟨29, _⟩ => ⟨S256x64, .f32⟩
  | .hbm, ⟨30, _⟩ => ⟨S_, .f32⟩
  | .hbm, ⟨31, _⟩ => ⟨S256x64, .f32⟩
  | .hbm, ⟨32, _⟩ => ⟨S256x64, .f32⟩
  | .hbm, ⟨33, _⟩ => ⟨S256x64, .f32⟩
  | .hbm, ⟨34, _⟩ => ⟨S_, .f32⟩
  | .hbm, ⟨35, _⟩ => ⟨S256x64, .f32⟩
  | .hbm, ⟨36, _⟩ => ⟨S256x64, .f32⟩
  | _, _ => ⟨S256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S8x32 : Shape := ⟨2, ![8, 32]⟩

abbrev nBuf : Space → Nat
  | .hbm => 7
  | .vmem => 7
  | .smem => 0
  | _ => 0

abbrev bufTy : (tb : Table) → Fin (tcTables nBuf tb) → BufTy
  | .hbm, ⟨0, _⟩ => ⟨S8x32, .f32⟩
  | .hbm, ⟨1, _⟩ => ⟨S8x32, .f32⟩
  | .hbm, ⟨2, _⟩ => ⟨S8x32, .f32⟩
  | .hbm, ⟨3, _⟩ => ⟨S8x32, .f32⟩
  | .hbm, ⟨4, _⟩ => ⟨S8x32, .f32⟩
  | .hbm, ⟨5, _⟩ => ⟨S8x32, .f32⟩
  | .hbm, ⟨6, _⟩ => ⟨S8x32, .f32⟩
  | .local _ .vmem, ⟨0, _⟩ => ⟨S8x32, .f32⟩
  | .local _ .vmem, ⟨1, _⟩ => ⟨S8x32, .f32⟩
  | .local _ .vmem, ⟨2, _⟩ => ⟨S8x32, .f32⟩
  | .local _ .vmem, ⟨3, _⟩ => ⟨S8x32, .f32⟩
  | .local _ .vmem, ⟨4, _⟩ => ⟨S8x32, .f32⟩
  | .local _ .vmem, ⟨5, _⟩ => ⟨S8x32, .f32⟩
  | .local _ .vmem, ⟨6, _⟩ => ⟨S8x32, .f32⟩
  | _, _ => ⟨S8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S8x32 : Shape := ⟨2, ![8, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x32, .f32⟩
  | .hbm, ⟨1, _⟩ => ⟨S8x32, .f32⟩
  | .hbm, ⟨2, _⟩ => ⟨S8x32, .f32⟩
  | .hbm, ⟨3, _⟩ => ⟨S8x32, .f32⟩
  | .hbm, ⟨4, _⟩ => ⟨S_, .f32⟩
  | .hbm, ⟨5, _⟩ => ⟨S8x32, .f32⟩
  | .hbm, ⟨6, _⟩ => ⟨S8x32, .f32⟩
  | .hbm, ⟨7, _⟩ => ⟨S_, .f32⟩
  | .hbm, ⟨8, _⟩ => ⟨S8x32, .f32⟩
  | .hbm, ⟨9, _⟩ => ⟨S8x32, .f32⟩
  | .hbm, ⟨10, _⟩ => ⟨S8x32, .f32⟩
  | .hbm, ⟨11, _⟩ => ⟨S_, .f32⟩
  | .hbm, ⟨12, _⟩ => ⟨S8x32, .f32⟩
  | .hbm, ⟨13, _⟩ => ⟨S8x32, .f32⟩
  | .hbm, ⟨14, _⟩ => ⟨S8x32, .f32⟩
  | .hbm, ⟨15, _⟩ => ⟨S_, .f32⟩
  | .hbm, ⟨16, _⟩ => ⟨S8x32, .f32⟩
  | .hbm, ⟨17, _⟩ => ⟨S8x32, .f32⟩
  | .hbm, ⟨18, _⟩ => ⟨S8x32, .f32⟩
  | .hbm, ⟨19, _⟩ => ⟨S_, .f32⟩
  | .hbm, ⟨20, _⟩ => ⟨S8x32, .f32⟩
  | .hbm, ⟨21, _⟩ => ⟨S8x32, .f32⟩
  | .hbm, ⟨22, _⟩ => ⟨S_, .f32⟩
  | .hbm, ⟨23, _⟩ => ⟨S8x32, .f32⟩
  | .hbm, ⟨24, _⟩ => ⟨S8x32, .f32⟩
  | .hbm, ⟨25, _⟩ => ⟨S8x32, .f32⟩
  | .hbm, ⟨26, _⟩ => ⟨S_, .f32⟩
  | .hbm, ⟨27, _⟩ => ⟨S8x32, .f32⟩
  | .hbm, ⟨28, _⟩ => ⟨S8x32, .f32⟩
  | .hbm, ⟨29, _⟩ => ⟨S8x32, .f32⟩
  | .hbm, ⟨30, _⟩ => ⟨S_, .f32⟩
  | .hbm, ⟨31, _⟩ => ⟨S8x32, .f32⟩
  | .hbm, ⟨32, _⟩ => ⟨S8x32, .f32⟩
  | .hbm, ⟨33, _⟩ => ⟨S8x32, .f32⟩
  | .hbm, ⟨34, _⟩ => ⟨S_, .f32⟩
  | .hbm, ⟨35, _⟩ => ⟨S8x32, .f32⟩
  | .hbm, ⟨36, _⟩ => ⟨S8x32, .f32⟩
  | _, _ => ⟨S8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S16384x16 : Shape := ⟨2, ![16384, 16]⟩
abbrev S2048x16 : Shape := ⟨2, ![2048, 16]⟩

abbrev nBuf : Space → Nat
  | .hbm => 7
  | .vmem => 14
  | .smem => 0
  | _ => 0

abbrev bufTy : (tb : Table) → Fin (tcTables nBuf tb) → BufTy
  | .hbm, ⟨0, _⟩ => ⟨S16384x16, .f32⟩
  | .hbm, ⟨1, _⟩ => ⟨S16384x16, .f32⟩
  | .hbm, ⟨2, _⟩ => ⟨S16384x16, .f32⟩
  | .hbm, ⟨3, _⟩ => ⟨S16384x16, .f32⟩
  | .hbm, ⟨4, _⟩ => ⟨S16384x16, .f32⟩
  | .hbm, ⟨5, _⟩ => ⟨S16384x16, .f32⟩
  | .hbm, ⟨6, _⟩ => ⟨S16384x16, .f32⟩
  | .local _ .vmem, ⟨0, _⟩ => ⟨S2048x16, .f32⟩
  | .local _ .vmem, ⟨1, _⟩ => ⟨S2048x16, .f32⟩
  | .local _ .vmem, ⟨2, _⟩ => ⟨S2048x16, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | .local _ .vmem, ⟨6, _⟩ => ⟨S2048x16, .f32⟩
  | .local _ .vmem, ⟨7, _⟩ => ⟨S2048x16, .f32⟩
  | .local _ .vmem, ⟨8, _⟩ => ⟨S2048x16, .f32⟩
  | .local _ .vmem, ⟨9, _⟩ => ⟨S2048x16, .f32⟩
  | .local _ .vmem, ⟨10, _⟩ => ⟨S2048x16, .f32⟩
  | .local _ .vmem, ⟨11, _⟩ => ⟨S2048x16, .f32⟩
  | .local _ .vmem, ⟨12, _⟩ => ⟨S2048x16, .f32⟩
  | .local _ .vmem, ⟨13, _⟩ => ⟨S2048x16, .f32⟩
  | _, _ => ⟨S16384x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S16384x16 : Shape := ⟨2, ![16384, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16384x16, .f32⟩
  | .hbm, ⟨1, _⟩ => ⟨S16384x16, .f32⟩
  | .hbm, ⟨2, _⟩ => ⟨S16384x16, .f32⟩
  | .hbm, ⟨3, _⟩ => ⟨S16384x16, .f32⟩
  | .hbm, ⟨4, _⟩ => ⟨S_, .f32⟩
  | .hbm, ⟨5, _⟩ => ⟨S16384x16, .f32⟩
  | .hbm, ⟨6, _⟩ => ⟨S16384x16, .f32⟩
  | .hbm, ⟨7, _⟩ => ⟨S_, .f32⟩
  | .hbm, ⟨8, _⟩ => ⟨S16384x16, .f32⟩
  | .hbm, ⟨9, _⟩ => ⟨S16384x16, .f32⟩
  | .hbm, ⟨10, _⟩ => ⟨S16384x16, .f32⟩
  | .hbm, ⟨11, _⟩ => ⟨S_, .f32⟩
  | .hbm, ⟨12, _⟩ => ⟨S16384x16, .f32⟩
  | .hbm, ⟨13, _⟩ => ⟨S16384x16, .f32⟩
  | .hbm, ⟨14, _⟩ => ⟨S16384x16, .f32⟩
  | .hbm, ⟨15, _⟩ => ⟨S_, .f32⟩
  | .hbm, ⟨16, _⟩ => ⟨S16384x16, .f32⟩
  | .hbm, ⟨17, _⟩ => ⟨S16384x16, .f32⟩
  | .hbm, ⟨18, _⟩ => ⟨S16384x16, .f32⟩
  | .hbm, ⟨19, _⟩ => ⟨S_, .f32⟩
  | .hbm, ⟨20, _⟩ => ⟨S16384x16, .f32⟩
  | .hbm, ⟨21, _⟩ => ⟨S16384x16, .f32⟩
  | .hbm, ⟨22, _⟩ => ⟨S_, .f32⟩
  | .hbm, ⟨23, _⟩ => ⟨S16384x16, .f32⟩
  | .hbm, ⟨24, _⟩ => ⟨S16384x16, .f32⟩
  | .hbm, ⟨25, _⟩ => ⟨S16384x16, .f32⟩
  | .hbm, ⟨26, _⟩ => ⟨S_, .f32⟩
  | .hbm, ⟨27, _⟩ => ⟨S16384x16, .f32⟩
  | .hbm, ⟨28, _⟩ => ⟨S16384x16, .f32⟩
  | .hbm, ⟨29, _⟩ => ⟨S16384x16, .f32⟩
  | .hbm, ⟨30, _⟩ => ⟨S_, .f32⟩
  | .hbm, ⟨31, _⟩ => ⟨S16384x16, .f32⟩
  | .hbm, ⟨32, _⟩ => ⟨S16384x16, .f32⟩
  | .hbm, ⟨33, _⟩ => ⟨S16384x16, .f32⟩
  | .hbm, ⟨34, _⟩ => ⟨S_, .f32⟩
  | .hbm, ⟨35, _⟩ => ⟨S16384x16, .f32⟩
  | .hbm, ⟨36, _⟩ => ⟨S16384x16, .f32⟩
  | _, _ => ⟨S16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S4096x64 : Shape := ⟨2, ![4096, 64]⟩
abbrev S2048x64 : Shape := ⟨2, ![2048, 64]⟩

abbrev nBuf : Space → Nat
  | .hbm => 7
  | .vmem => 14
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S4096x64, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S4096x64 : Shape := ⟨2, ![4096, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S4096x64, .f32⟩
  | .hbm, ⟨4, _⟩ => ⟨S_, .f32⟩
  | .hbm, ⟨5, _⟩ => ⟨S4096x64, .f32⟩
  | .hbm, ⟨6, _⟩ => ⟨S4096x64, .f32⟩
  | .hbm, ⟨7, _⟩ => ⟨S_, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S_, .f32⟩
  | .hbm, ⟨12, _⟩ => ⟨S4096x64, .f32⟩
  | .hbm, ⟨13, _⟩ => ⟨S4096x64, .f32⟩
  | .hbm, ⟨14, _⟩ => ⟨S4096x64, .f32⟩
  | .hbm, ⟨15, _⟩ => ⟨S_, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S_, .f32⟩
  | .hbm, ⟨20, _⟩ => ⟨S4096x64, .f32⟩
  | .hbm, ⟨21, _⟩ => ⟨S4096x64, .f32⟩
  | .hbm, ⟨22, _⟩ => ⟨S_, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S_, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S_, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S_, .f32⟩
  | .hbm, ⟨35, _⟩ => ⟨S4096x64, .f32⟩
  | .hbm, ⟨36, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S4x16 : Shape := ⟨2, ![4, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S16512x1024 : Shape := ⟨2, ![16512, 1024]⟩
abbrev S1024 : Shape := ⟨1, ![1024]⟩
abbrev S16384x1024 : Shape := ⟨2, ![16384, 1024]⟩
abbrev S1x1024 : Shape := ⟨2, ![1, 1024]⟩
abbrev S1x128 : Shape := ⟨2, ![1, 128]⟩
abbrev S128x1024 : Shape := ⟨2, ![128, 1024]⟩
abbrev S1 : Shape := ⟨1, ![1]⟩
abbrev S_ : Shape := ⟨0, ![]⟩
abbrev S128 : Shape := ⟨1, ![128]⟩
abbrev S128x1 : Shape := ⟨2, ![128, 1]⟩
abbrev S1x128x1024 : Shape := ⟨3, ![1, 128, 1024]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16512x1024, .f32⟩
  | .hbm, ⟨5, _⟩ => ⟨S1x128, .f32⟩
  | .hbm, ⟨6, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128, .f32⟩
  | .local _ .vmem, ⟨7, _⟩ => ⟨S1x1024, .f32⟩
  | .local _ .vmem, ⟨8, _⟩ => ⟨S1x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference30Ideal.lean ====
abbrev S16512x1024 : Shape := ⟨2, ![16512, 1024]⟩
abbrev S1024 : Shape := ⟨1, ![1024]⟩
abbrev S16384x1024 : Shape := ⟨2, ![16384, 1024]⟩
abbrev S_ : Shape := ⟨0, ![]⟩
abbrev S16512 : Shape := ⟨1, ![16512]⟩
abbrev S16512x1 : Shape := ⟨2, ![16512, 1]⟩
abbrev S1x1024 : Shape := ⟨2, ![1, 1024]⟩
abbrev S16384 : Shape := ⟨1, ![16384]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S16384x1024, .f32⟩
  | .hbm, ⟨3, _⟩ => ⟨S16512x1024, .f32⟩
  | .hbm, ⟨4, _⟩ => ⟨S_, .f32⟩
  | .hbm, ⟨5, _⟩ => ⟨S16512, .f32⟩
  | .hbm, ⟨6, _⟩ => ⟨S16512x1, .f32⟩
  | .hbm, ⟨7, _⟩ => ⟨S_, .f32⟩
  | .hbm, ⟨8, _⟩ => ⟨S16512x1, .f32⟩
  | .hbm, ⟨9, _⟩ => ⟨S16512x1, .f32⟩
  | .hbm, ⟨10, _⟩ => ⟨S_, .f32⟩
  | .hbm, ⟨11, _⟩ => ⟨S16512x1, .f32⟩
  | .hbm, ⟨12, _⟩ => ⟨S16512x1, .f32⟩
  | .hbm, ⟨13, _⟩ => ⟨S16512x1, .f32⟩
  | .hbm, ⟨14, _⟩ => ⟨S16512x1, .f32⟩
  | .hbm, ⟨15, _⟩ => ⟨S_, .f32⟩
  | .hbm, ⟨16, _⟩ => ⟨S16512x1, .f32⟩
  | .hbm, ⟨17, _⟩ => ⟨S16512x1, .f32⟩
  | .hbm, ⟨18, _⟩ => ⟨S16512x1024, .f32⟩
  | .hbm, ⟨19, _⟩ => ⟨S16512x1024, .f32⟩
  | .hbm, ⟨20, _⟩ => ⟨S1x1024, .f32⟩
  | .hbm, ⟨21, _⟩ => ⟨S16512x1024, .f32⟩
  | .hbm, ⟨22, _⟩ => ⟨S16512x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16512x1024, .f32⟩
  | .hbm, ⟨49, _⟩ => ⟨S16512x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16512x1024, .f32⟩
  | .hbm, ⟨54, _⟩ => ⟨S16512x1024, .f32⟩
  | .hbm, ⟨55, _⟩ => ⟨S_, .f32⟩
  | .hbm, ⟨56, _⟩ => ⟨S1024, .f32⟩
  | .hbm, ⟨57, _⟩ => ⟨S16512x1024, .f32⟩
  | .hbm, ⟨58, _⟩ => ⟨S_, .f32⟩
  | .hbm, ⟨59, _⟩ => ⟨S16512, .f32⟩
  | .hbm, ⟨60, _⟩ => ⟨S16512x1, .f32⟩
  | .hbm, ⟨61, _⟩ => ⟨S16512x1024, .f32⟩
  | .hbm, ⟨62, _⟩ => ⟨S16512x1024, .f32⟩
  | .hbm, ⟨63, _⟩ => ⟨S16512x1, .f32⟩
  | .hbm, ⟨64, _⟩ => ⟨S_, .f32⟩
  | .hbm, ⟨65, _⟩ => ⟨S16512x1, .f32⟩
  | .hbm, ⟨66, _⟩ => ⟨S16512x1, .f32⟩
  | .hbm, ⟨67, _⟩ => ⟨S_, .f32⟩
  | .hbm, ⟨68, _⟩ => ⟨S16512, .f32⟩
  | .hbm, ⟨69, _⟩ => ⟨S16512x1024, .f32⟩
  | .hbm, ⟨70, _⟩ => ⟨S16512x1024, .f32⟩
  | .hbm, ⟨71, _⟩ => ⟨S16512x1024, .f32⟩
  | .hbm, ⟨72, _⟩ => ⟨S16512x1024, .f32⟩
  | .hbm, ⟨73, _⟩ => ⟨S16512x1024, .f32⟩
  | .hbm, ⟨74, _⟩ => ⟨S1x128, .f32⟩
  | .hbm, ⟨75, _⟩ => ⟨S1x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel31.lean ====
abbrev S16512x512 : Shape := ⟨2, ![16512, 512]⟩
abbrev S16512x1024 : Shape := ⟨2, ![16512, 1024]⟩
abbrev S16512x4096 : Shape := ⟨2, ![16512, 4096]⟩
abbrev S512x1024 : Shape := ⟨2, ![512, 1024]⟩
abbrev S1024x1024 : Shape := ⟨2, ![1024, 1024]⟩
abbrev S384x512 : Shape := ⟨2, ![384, 512]⟩
abbrev S384x1024 : Shape := ⟨2, ![384, 1024]⟩
abbrev S2 : Shape := ⟨1, ![2]⟩
abbrev S1 : Shape := ⟨1, ![1]⟩
abbrev S_ : Shape := ⟨0, ![]⟩

abbrev nBuf : Space → Nat
  | .hbm => 12
  | .vmem => 16
  | .smem => 0
  | _ => 0

abbrev bufTy : (tb : Table) → Fin (tcTables nBuf tb) → BufTy
  | .hbm, ⟨0, _⟩ => ⟨S16512x512, .f32⟩
  | .hbm, ⟨1, _⟩ => ⟨S16512x1024, .f32⟩
  | .hbm, ⟨2, _⟩ => ⟨S16512x4096, .f32⟩
  | .hbm, ⟨3, _⟩ => ⟨S512x1024, .f32⟩
  | .hbm, ⟨4, _⟩ => ⟨S1024x1024, .f32⟩
  | .hbm, ⟨5, _⟩ => ⟨S16512x512, .bf16⟩
  | .hbm, ⟨6, _⟩ => ⟨S16512x1024, .bf16⟩
  | .hbm, ⟨7, _⟩ => ⟨S512x1024, .bf16⟩
  | .hbm, ⟨8, _⟩ => ⟨S1024x1024, .bf16⟩
  | .hbm, ⟨9, _⟩ => ⟨S16512x1024, .bf16⟩
  | .hbm, ⟨10, _⟩ => ⟨S16512x1024, .bf16⟩
  | .hbm, ⟨11, _⟩ => ⟨S16512x1024, .bf16⟩
  | .local _ .vmem, ⟨0, _⟩ => ⟨S384x512, .bf16⟩
  | .local _ .vmem, ⟨1, _⟩ => ⟨S384x512, .bf16⟩
  | .local _ .vmem, ⟨2, _⟩ => ⟨S384x1024, .bf16⟩
  | .local _ .vmem, ⟨3, _⟩ => ⟨S384x1024, .bf16⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .bf16⟩
  | .local _ .vmem, ⟨9, _⟩ => ⟨S384x1024, .bf16⟩
  | .local _ .vmem, ⟨10, _⟩ => ⟨S384x1024, .bf16⟩
  | .local _ .vmem, ⟨11, _⟩ => ⟨S384x1024, .bf16⟩
  | .local _ .vmem, ⟨12, _⟩ => ⟨S384x1024, .bf16⟩
  | .local _ .vmem, ⟨13, _⟩ => ⟨S384x1024, .bf16⟩
  | .local _ .vmem, ⟨14, _⟩ => ⟨S512x1024, .bf16⟩
  | .local _ .vmem, ⟨15, _⟩ => ⟨S1024x1024, .bf16⟩
  | _, _ => ⟨S16512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S16512x512 : Shape := ⟨2, ![16512, 512]⟩
abbrev S16512x1024 : Shape := ⟨2, ![16512, 1024]⟩
abbrev S16512x4096 : Shape := ⟨2, ![16512, 4096]⟩
abbrev S512x1024 : Shape := ⟨2, ![512, 1024]⟩
abbrev S1024x1024 : Shape := ⟨2, ![1024, 1024]⟩
abbrev S_ : Shape := ⟨0, ![]⟩
abbrev S16512 : Shape := ⟨1, ![16512]⟩
abbrev S16512x1 : Shape := ⟨2, ![16512, 1]⟩

abbrev nBuf : Space → Nat
  | .hbm => 41
  | .vmem => 0
  | .smem => 0
  | _ => 0

abbrev bufTy : (tb : Table) → Fin (tcTables nBuf tb) → BufTy
  | .hbm, ⟨0, _⟩ => ⟨S16512x512, .f32⟩
  | .hbm, ⟨1, _⟩ => ⟨S16512x1024, .f32⟩
  | .hbm, ⟨2, _⟩ => ⟨S16512x4096, .f32⟩
  | .hbm, ⟨3, _⟩ => ⟨S512x1024, .f32⟩
  | .hbm, ⟨4, _⟩ => ⟨S1024x1024, .f32⟩
  | .hbm, ⟨5, _⟩ => ⟨S16512x1024, .f32⟩
  | .hbm, ⟨6, _⟩ => ⟨S16512x1024, .f32⟩
  | .hbm, ⟨7, _⟩ => ⟨S16512x1024, .f32⟩
  | .hbm, ⟨8, _⟩ => ⟨S16512x1024, .f32⟩
  | .hbm, ⟨9, _⟩ => ⟨S16512x1024, .f32⟩
  | .hbm, ⟨10, _⟩ => ⟨S16512x1024, .f32⟩
  | .hbm, ⟨11, _⟩ => ⟨S_, .f32⟩
  | .hbm, ⟨12, _⟩ => ⟨S16512x1024, .f32⟩
  | .hbm, ⟨13, _⟩ => ⟨S16512x1024, .f32⟩
  | .hbm, ⟨14, _⟩ => ⟨S_, .f32⟩
  | .hbm, ⟨15, _⟩ => ⟨S16512x1024, .f32⟩
  | .hbm, ⟨16, _⟩ => ⟨S16512x1024, .f32⟩
  | .hbm, ⟨17, _⟩ => ⟨S16512x1024, .f32⟩
  | .hbm, ⟨18, _⟩ => ⟨S16512x1024, .f32⟩
  | .hbm, ⟨19, _⟩ => ⟨S16512x1024, .f32⟩
  | .hbm, ⟨20, _⟩ => ⟨S_, .f32⟩
  | .hbm, ⟨21, _⟩ => ⟨S16512x1024, .f32⟩
  | .hbm, ⟨22, _⟩ => ⟨S16512x1024, .f32⟩
  | .hbm, ⟨23, _⟩ => ⟨S_, .f32⟩
  | .hbm, ⟨24, _⟩ => ⟨S16512x1024, .f32⟩
  | .hbm, ⟨25, _⟩ => ⟨S16512x1024, .f32⟩
  | .hbm, ⟨26, _⟩ => ⟨S16512x1024, .f32⟩
  | .hbm, ⟨27, _⟩ => ⟨S16512x1024, .f32⟩
  | .hbm, ⟨28, _⟩ => ⟨S16512, .i32⟩
  | .hbm, ⟨29, _⟩ => ⟨S16512x1, .i32⟩
  | .hbm, ⟨30, _⟩ => ⟨S_, .i32⟩
  | .hbm, ⟨31, _⟩ => ⟨S16512x1, .i32⟩
  | .hbm, ⟨32, _⟩ => ⟨S16512x1, .i1⟩
  | .hbm, ⟨33, _⟩ => ⟨S_, .f32⟩
  | .hbm, ⟨34, _⟩ => ⟨S_, .f32⟩
  | .hbm, ⟨35, _⟩ => ⟨S16512x1024, .i1⟩
  | .hbm, ⟨36, _⟩ => ⟨S16512x1024, .f32⟩
  | .hbm, ⟨37, _⟩ => ⟨S16512x1024, .f32⟩
  | .hbm, ⟨38, _⟩ => ⟨S16512x1024, .bf16⟩
  | .hbm, ⟨39, _⟩ => ⟨S16512x1024, .bf16⟩
  | .hbm, ⟨40, _⟩ => ⟨S16512x1024, .bf16⟩
  | _, _ => ⟨S16512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel32.lean ====
abbrev S16512x1024 : Shape := ⟨2, ![16512, 1024]⟩
abbrev S16512x4096 : Shape := ⟨2, ![16512, 4096]⟩
abbrev S1024x1024 : Shape := ⟨2, ![1024, 1024]⟩
abbrev S384x1024 : Shape := ⟨2, ![384, 1024]⟩
abbrev S1 : Shape := ⟨1, ![1]⟩
abbrev S_ : Shape := ⟨0, ![]⟩

abbrev nBuf : Space → Nat
  | .hbm => 12
  | .vmem => 19
  | .smem => 0
  | _ => 0

abbrev bufTy : (tb : Table) → Fin (tcTables nBuf tb) → BufTy
  | .hbm, ⟨0, _⟩ => ⟨S16512x1024, .f32⟩
  | .hbm, ⟨1, _⟩ => ⟨S16512x4096, .f32⟩
  | .hbm, ⟨2, _⟩ => ⟨S16512x1024, .f32⟩
  | .hbm, ⟨3, _⟩ => ⟨S16512x1024, .f32⟩
  | .hbm, ⟨4, _⟩ => ⟨S1024x1024, .f32⟩
  | .hbm, ⟨5, _⟩ => ⟨S16512x1024, .bf16⟩
  | .hbm, ⟨6, _⟩ => ⟨S16512x1024, .bf16⟩
  | .hbm, ⟨7, _⟩ => ⟨S1024x1024, .bf16⟩
  | .hbm, ⟨8, _⟩ => ⟨S16512x1024, .bf16⟩
  | .hbm, ⟨9, _⟩ => ⟨S16512x1024, .bf16⟩
  | .hbm, ⟨10, _⟩ => ⟨S16512x1024, .bf16⟩
  | .hbm, ⟨11, _⟩ => ⟨S16512x1024, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .bf16⟩
  | .local _ .vmem, ⟨7, _⟩ => ⟨S384x1024, .bf16⟩
  | .local _ .vmem, ⟨8, _⟩ => ⟨S384x1024, .bf16⟩
  | .local _ .vmem, ⟨9, _⟩ => ⟨S384x1024, .bf16⟩
  | .local _ .vmem, ⟨10, _⟩ => ⟨S384x1024, .bf16⟩
  | .local _ .vmem, ⟨11, _⟩ => ⟨S384x1024, .bf16⟩
  | .local _ .vmem, ⟨12, _⟩ => ⟨S384x1024, .bf16⟩
  | .local _ .vmem, ⟨13, _⟩ => ⟨S384x1024, .bf16⟩
  | .local _ .vmem, ⟨14, _⟩ => ⟨S384x1024, .bf16⟩
  | .local _ .vmem, ⟨15, _⟩ => ⟨S384x1024, .bf16⟩
  | .local _ .vmem, ⟨16, _⟩ => ⟨S384x1024, .bf16⟩
  | .local _ .vmem, ⟨17, _⟩ => ⟨S384x1024, .bf16⟩
  | .local _ .vmem, ⟨18, _⟩ => ⟨S1024x1024, .bf16⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference32Ideal.lean ====
abbrev S16512x1024 : Shape := ⟨2, ![16512, 1024]⟩
abbrev S16512x4096 : Shape := ⟨2, ![16512, 4096]⟩
abbrev S1024x1024 : Shape := ⟨2, ![1024, 1024]⟩
abbrev S_ : Shape := ⟨0, ![]⟩
abbrev S16512 : Shape := ⟨1, ![16512]⟩
abbrev S16512x1 : Shape := ⟨2, ![16512, 1]⟩

abbrev nBuf : Space → Nat
  | .hbm => 61
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x4096, .f32⟩
  | .hbm, ⟨2, _⟩ => ⟨S16512x1024, .f32⟩
  | .hbm, ⟨3, _⟩ => ⟨S16512x1024, .f32⟩
  | .hbm, ⟨4, _⟩ => ⟨S1024x1024, .f32⟩
  | .hbm, ⟨5, _⟩ => ⟨S16512x1024, .f32⟩
  | .hbm, ⟨6, _⟩ => ⟨S16512x1024, .f32⟩
  | .hbm, ⟨7, _⟩ => ⟨S16512x1024, .f32⟩
  | .hbm, ⟨8, _⟩ => ⟨S16512x1024, .f32⟩
  | .hbm, ⟨9, _⟩ => ⟨S_, .f32⟩
  | .hbm, ⟨10, _⟩ => ⟨S16512x1024, .f32⟩
  | .hbm, ⟨11, _⟩ => ⟨S16512x1024, .f32⟩
  | .hbm, ⟨12, _⟩ => ⟨S_, .f32⟩
  | .hbm, ⟨13, _⟩ => ⟨S16512x1024, .f32⟩
  | .hbm, ⟨14, _⟩ => ⟨S16512x1024, .f32⟩
  | .hbm, ⟨15, _⟩ => ⟨S_, .f32⟩
  | .hbm, ⟨16, _⟩ => ⟨S16512x1024, .f32⟩
  | .hbm, ⟨17, _⟩ => ⟨S16512x1024, .f32⟩
  | .hbm, ⟨18, _⟩ => ⟨S16512x1024, .f32⟩
  | .hbm, ⟨19, _⟩ => ⟨S16512x1024, .f32⟩
  | .hbm, ⟨20, _⟩ => ⟨S16512x1024, .f32⟩
  | .hbm, ⟨21, _⟩ => ⟨S16512x1024, .f32⟩
  | .hbm, ⟨22, _⟩ => ⟨S_, .f32⟩
  | .hbm, ⟨23, _⟩ => ⟨S16512x1024, .f32⟩
  | .hbm, ⟨24, _⟩ => ⟨S16512x1024, .f32⟩
  | .hbm, ⟨25, _⟩ => ⟨S_, .f32⟩
  | .hbm, ⟨26, _⟩ => ⟨S16512x1024, .f32⟩
  | .hbm, ⟨27, _⟩ => ⟨S16512x1024, .f32⟩
  | .hbm, ⟨28, _⟩ => ⟨S_, .f32⟩
  | .hbm, ⟨29, _⟩ => ⟨S16512x1024, .f32⟩
  | .hbm, ⟨30, _⟩ => ⟨S16512x1024, .f32⟩
  | .hbm, ⟨31, _⟩ => ⟨S16512x1024, .f32⟩
  | .hbm, ⟨32, _⟩ => ⟨S16512x1024, .f32⟩
  | .hbm, ⟨33, _⟩ => ⟨S16512x1024, .f32⟩
  | .hbm, ⟨34, _⟩ => ⟨S16512, .i32⟩
  | .hbm, ⟨35, _⟩ => ⟨S16512x1, .i32⟩
  | .hbm, ⟨36, _⟩ => ⟨S_, .i32⟩
  | .hbm, ⟨37, _⟩ => ⟨S16512x1, .i32⟩
  | .hbm, ⟨38, _⟩ => ⟨S16512x1, .i1⟩
  | .hbm, ⟨39, _⟩ => ⟨S_, .f32⟩
  | .hbm, ⟨40, _⟩ => ⟨S_, .f32⟩
  | .hbm, ⟨41, _⟩ => ⟨S16512x1024, .i1⟩
  | .hbm, ⟨42, _⟩ => ⟨S16512x1024, .f32⟩
  | .hbm, ⟨43, _⟩ => ⟨S16512x1024, .f32⟩
  | .hbm, ⟨44, _⟩ => ⟨S_, .f32⟩
  | .hbm, ⟨45, _⟩ => ⟨S16512x1024, .f32⟩
  | .hbm, ⟨46, _⟩ => ⟨S16512x1024, .f32⟩
  | .hbm, ⟨47, _⟩ => ⟨S16512x1024, .f32⟩
  | .hbm, ⟨48, _⟩ => ⟨S_, .f32⟩
  | .hbm, ⟨49, _⟩ => ⟨S16512x1024, .f32⟩
  | .hbm, ⟨50, _⟩ => ⟨S16512x1024, .f32⟩
  | .hbm, ⟨51, _⟩ => ⟨S16512x1024, .f32⟩
  | .hbm, ⟨52, _⟩ => ⟨S16512x1024, .f32⟩
  | .hbm, ⟨53, _⟩ => ⟨S16512x1024, .f32⟩
  | .hbm, ⟨54, _⟩ => ⟨S16512x1024, .f32⟩
  | .hbm, ⟨55, _⟩ => ⟨S16512x1024, .f32⟩
  | .hbm, ⟨56, _⟩ => ⟨S16512x1024, .f32⟩
  | .hbm, ⟨57, _⟩ => ⟨S16512x1024, .bf16⟩
  | .hbm, ⟨58, _⟩ => ⟨S16512x1024, .bf16⟩
  | .hbm, ⟨59, _⟩ => ⟨S16512x1024, .bf16⟩
  | .hbm, ⟨60, _⟩ => ⟨S16512x1024, .bf16⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_call0_v0 : Ref sig .tc := ⟨.hbm, 40, rfl⟩
abbrev main_v27_1 : Ref sig .tc := ⟨.hbm, 41, rfl⟩
abbrev main_call0_v2 : Ref sig .tc := ⟨.hbm, 42, rfl⟩
abbrev main_v27_0 : Ref sig .tc := ⟨.hbm, 43, rfl⟩
abbrev main_call0_cst : Ref sig .tc := ⟨.hbm, 44, rfl⟩
abbrev main_v27_2 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel33.lean ====
abbrev S16512x1024 : Shape := ⟨2, ![16512, 1024]⟩
abbrev S1024 : Shape := ⟨1, ![1024]⟩
abbrev S1024x4096 : Shape := ⟨2, ![1024, 4096]⟩
abbrev S16512x256 : Shape := ⟨2, ![16512, 256]⟩
abbrev S16512x512 : Shape := ⟨2, ![16512, 512]⟩
abbrev S16x256 : Shape := ⟨2, ![16, 256]⟩
abbrev S1x1024 : Shape := ⟨2, ![1, 1024]⟩
abbrev S16512x4096 : Shape := ⟨2, ![16512, 4096]⟩
abbrev S384x1024 : Shape := ⟨2, ![384, 1024]⟩
abbrev S384x256 : Shape := ⟨2, ![384, 256]⟩
abbrev S384x512 : Shape := ⟨2, ![384, 512]⟩
abbrev S384x4096 : Shape := ⟨2, ![384, 4096]⟩
abbrev S4 : Shape := ⟨1, ![4]⟩
abbrev S1 : Shape := ⟨1, ![1]⟩
abbrev S_ : Shape := ⟨0, ![]⟩
abbrev S112x256 : Shape := ⟨2, ![112, 256]⟩
abbrev S256x256 : Shape := ⟨2, ![256, 256]⟩
abbrev S384 : Shape := ⟨1, ![384]⟩
abbrev S384x1 : Shape := ⟨2, ![384, 1]⟩

abbrev nBuf : Space → Nat
  | .hbm => 21
  | .vmem => 25
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x4096, .f32⟩
  | .hbm, ⟨3, _⟩ => ⟨S16512x1024, .f32⟩
  | .hbm, ⟨4, _⟩ => ⟨S16512x1024, .f32⟩
  | .hbm, ⟨5, _⟩ => ⟨S16512x256, .f32⟩
  | .hbm, ⟨6, _⟩ => ⟨S16512x256, .f32⟩
  | .hbm, ⟨7, _⟩ => ⟨S16512x512, .f32⟩
  | .hbm, ⟨8, _⟩ => ⟨S16512x1024, .f32⟩
  | .hbm, ⟨9, _⟩ => ⟨S16512x1024, .f32⟩
  | .hbm, ⟨10, _⟩ => ⟨S16x256, .f32⟩
  | .hbm, ⟨11, _⟩ => ⟨S16x256, .f32⟩
  | .hbm, ⟨12, _⟩ => ⟨S16512x1024, .bf16⟩
  | .hbm, ⟨13, _⟩ => ⟨S16512x512, .bf16⟩
  | .hbm, ⟨14, _⟩ => ⟨S16512x1024, .bf16⟩
  | .hbm, ⟨15, _⟩ => ⟨S16512x1024, .bf16⟩
  | .hbm, ⟨16, _⟩ => ⟨S1024x4096, .bf16⟩
  | .hbm, ⟨17, _⟩ => ⟨S1x1024, .f32⟩
  | .hbm, ⟨18, _⟩ => ⟨S16512x4096, .bf16⟩
  | .hbm, ⟨19, _⟩ => ⟨S16512x1024, .f32⟩
  | .hbm, ⟨20, _⟩ => ⟨S1x1024, .f32⟩
  | .local _ .vmem, ⟨0, _⟩ => ⟨S384x1024, .bf16⟩
  | .local _ .vmem, ⟨1, _⟩ => ⟨S384x1024, .bf16⟩
  | .local _ .vmem, ⟨2, _⟩ => ⟨S384x256, .f32⟩
  | .local _ .vmem, ⟨3, _⟩ => ⟨S384x256, .f32⟩
  | .local _ .vmem, ⟨4, _⟩ => ⟨S384x256, .f32⟩
  | .local _ .vmem, ⟨5, _⟩ => ⟨S384x256, .f32⟩
  | .local _ .vmem, ⟨6, _⟩ => ⟨S384x512, .bf16⟩
  | .local _ .vmem, ⟨7, _⟩ => ⟨S384x512, .bf16⟩
  | .local _ .vmem, ⟨8, _⟩ => ⟨S384x1024, .bf16⟩
  | .local _ .vmem, ⟨9, _⟩ => ⟨S384x1024, .bf16⟩
  | .local _ .vmem, ⟨10, _⟩ => ⟨S384x1024, .bf16⟩
  | .local _ .vmem, ⟨11, _⟩ => ⟨S384x1024, .bf16⟩
  | .local _ .vmem, ⟨12, _⟩ => ⟨S384x1024, .f32⟩
  | .local _ .vmem, ⟨13, _⟩ => ⟨S384x1024, .f32⟩
  | .local _ .vmem, ⟨14, _⟩ => ⟨S384x1024, .f32⟩
  | .local _ .vmem, ⟨15, _⟩ => ⟨S384x1024, .f32⟩
  | .local _ .vmem, ⟨16, _⟩ => ⟨S384x4096, .bf16⟩
  | .local _ .vmem, ⟨17, _⟩ => ⟨S384x4096, .bf16⟩
  | .local _ .vmem, ⟨18, _⟩ => ⟨S384x1024, .f32⟩
  | .local _ .vmem, ⟨19, _⟩ => ⟨S384x1024, .f32⟩
  | .local _ .vmem, ⟨20, _⟩ => ⟨S1x1024, .f32⟩
  | .local _ .vmem, ⟨21, _⟩ => ⟨S16x256, .f32⟩
  | .local _ .vmem, ⟨22, _⟩ => ⟨S16x256, .f32⟩
  | .local _ .vmem, ⟨23, _⟩ => ⟨S1024x4096, .bf16⟩
  | .local _ .vmem, ⟨24, _⟩ => ⟨S1x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference33Ideal.lean ====
abbrev S16512x1024 : Shape := ⟨2, ![16512, 1024]⟩
abbrev S1024 : Shape := ⟨1, ![1024]⟩
abbrev S1024x4096 : Shape := ⟨2, ![1024, 4096]⟩
abbrev S16512x256 : Shape := ⟨2, ![16512, 256]⟩
abbrev S16512x512 : Shape := ⟨2, ![16512, 512]⟩
abbrev S16x256 : Shape := ⟨2, ![16, 256]⟩
abbrev S_ : Shape := ⟨0, ![]⟩
abbrev S112x256 : Shape := ⟨2, ![112, 256]⟩
abbrev S16384x256 : Shape := ⟨2, ![16384, 256]⟩
abbrev S16512x4096 : Shape := ⟨2, ![16512, 4096]⟩
abbrev S16512 : Shape := ⟨1, ![16512]⟩
abbrev S16512x1 : Shape := ⟨2, ![16512, 1]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1024, .f32⟩
  | .hbm, ⟨2, _⟩ => ⟨S1024x4096, .f32⟩
  | .hbm, ⟨3, _⟩ => ⟨S16512x1024, .f32⟩
  | .hbm, ⟨4, _⟩ => ⟨S16512x1024, .f32⟩
  | .hbm, ⟨5, _⟩ => ⟨S16512x256, .f32⟩
  | .hbm, ⟨6, _⟩ => ⟨S16512x256, .f32⟩
  | .hbm, ⟨7, _⟩ => ⟨S16512x512, .f32⟩
  | .hbm, ⟨8, _⟩ => ⟨S16512x1024, .f32⟩
  | .hbm, ⟨9, _⟩ => ⟨S16512x1024, .f32⟩
  | .hbm, ⟨10, _⟩ => ⟨S16x256, .f32⟩
  | .hbm, ⟨11, _⟩ => ⟨S16x256, .f32⟩
  | .hbm, ⟨12, _⟩ => ⟨S_, .f32⟩
  | .hbm, ⟨13, _⟩ => ⟨S112x256, .f32⟩
  | .hbm, ⟨14, _⟩ => ⟨S_, .f32⟩
  | .hbm, ⟨15, _⟩ => ⟨S16384x256, .f32⟩
  | .hbm, ⟨16, _⟩ => ⟨S16512x256, .f32⟩
  | .hbm, ⟨17, _⟩ => ⟨S16512x256, .f32⟩
  | .hbm, ⟨18, _⟩ => ⟨S_, .f32⟩
  | .hbm, ⟨19, _⟩ => ⟨S112x256, .f32⟩
  | .hbm, ⟨20, _⟩ => ⟨S_, .f32⟩
  | .hbm, ⟨21, _⟩ => ⟨S16384x256, .f32⟩
  | .hbm, ⟨22, _⟩ => ⟨S16512x256, .f32⟩
  | .hbm, ⟨23, _⟩ => ⟨S16512x256, .f32⟩
  | .hbm, ⟨24, _⟩ => ⟨S16512x4096, .f32⟩
  | .hbm, ⟨25, _⟩ => ⟨S16512, .i32⟩
  | .hbm, ⟨26, _⟩ => ⟨S16512x1, .i32⟩
  | .hbm, ⟨27, _⟩ => ⟨S_, .i32⟩
  | .hbm, ⟨28, _⟩ => ⟨S16512x1, .i32⟩
  | .hbm, ⟨29, _⟩ => ⟨S16512x1, .i1⟩
  | .hbm, ⟨30, _⟩ => ⟨S_, .f32⟩
  | .hbm, ⟨31, _⟩ => ⟨S_, .f32⟩
  | .hbm, ⟨32, _⟩ => ⟨S16512x4096, .i1⟩
  | .hbm, ⟨33, _⟩ => ⟨S16512x4096, .f32⟩
  | .hbm, ⟨34, _⟩ => ⟨S16512x4096, .f32⟩
  | .hbm, ⟨35, _⟩ => ⟨S16512x1024, .f32⟩
  | .hbm, ⟨36, _⟩ => ⟨S_, .f32⟩
  | .hbm, ⟨37, _⟩ => ⟨S16512, .f32⟩
  | .hbm, ⟨38, _⟩ => ⟨S16512x1, .f32⟩
  | .hbm, ⟨39, _⟩ => ⟨S_, .f32⟩
  | .hbm, ⟨40, _⟩ => ⟨S16512x1, .f32⟩
  | .hbm, ⟨41, _⟩ => ⟨S16512x1, .f32⟩
  | .hbm, ⟨42, _⟩ => ⟨S_, .f32⟩
  | .hbm, ⟨43, _⟩ => ⟨S16512x1, .f32⟩
  | .hbm, ⟨44, _⟩ => ⟨S16512x1, .f32⟩
  | .hbm, ⟨45, _⟩ => ⟨S16512x1, .f32⟩
  | .hbm, ⟨46, _⟩ => ⟨S16512x1, .f32⟩
  | .hbm, ⟨47, _⟩ => ⟨S_, .f32⟩
  | .hbm, ⟨48, _⟩ => ⟨S16512x1, .f32⟩
  | .hbm, ⟨49, _⟩ => ⟨S16512x1, .f32⟩
  | .hbm, ⟨50, _⟩ => ⟨S16512x1024, .f32⟩
  | .hbm, ⟨51, _⟩ => ⟨S16512x1024, .f32⟩
  | .hbm, ⟨52, _⟩ => ⟨S1x1024, .f32⟩
  | .hbm, ⟨53, _⟩ => ⟨S16512x1024, .f32⟩
  | .hbm, ⟨54, _⟩ => ⟨S16512x1024, .f32⟩
  | .hbm, ⟨55, _⟩ => ⟨S16512x4096, .f32⟩
  | .hbm, ⟨56, _⟩ => ⟨S16512x1024, .f32⟩
  | .hbm, ⟨57, _⟩ => ⟨S16512x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S16512x1024, .f32⟩
  | .hbm, ⟨62, _⟩ => ⟨S16512x1024, .f32⟩
  | .hbm, ⟨63, _⟩ => ⟨S_, .f32⟩
  | .hbm, ⟨64, _⟩ => ⟨S1024, .f32⟩
  | .hbm, ⟨65, _⟩ => ⟨S16512x1024, .f32⟩
  | .hbm, ⟨66, _⟩ => ⟨S_, .f32⟩
  | .hbm, ⟨67, _⟩ => ⟨S16512, .f32⟩
  | .hbm, ⟨68, _⟩ => ⟨S16512x1, .f32⟩
  | .hbm, ⟨69, _⟩ => ⟨S16512x1024, .f32⟩
  | .hbm, ⟨70, _⟩ => ⟨S16512x1024, .f32⟩
  | .hbm, ⟨71, _⟩ => ⟨S16512x1024, .f32⟩
  | .hbm, ⟨72, _⟩ => ⟨S16512x1, .f32⟩
  | .hbm, ⟨73, _⟩ => ⟨S_, .f32⟩
  | .hbm, ⟨74, _⟩ => ⟨S16512x1, .f32⟩
  | .hbm, ⟨75, _⟩ => ⟨S16512x1, .f32⟩
  | .hbm, ⟨76, _⟩ => ⟨S_, .f32⟩
  | .hbm, ⟨77, _⟩ => ⟨S16512, .f32⟩
  | .hbm, ⟨78, _⟩ => ⟨S16512x1024, .f32⟩
  | .hbm, ⟨79, _⟩ => ⟨S16512x1024, .f32⟩
  | .hbm, ⟨80, _⟩ => ⟨S16512x1024, .f32⟩
  | .hbm, ⟨81, _⟩ => ⟨S16512x1024, .f32⟩
  | .hbm, ⟨82, _⟩ => ⟨S16512x1024, .f32⟩
  | .hbm, ⟨83, _⟩ => ⟨S16512x4096, .bf16⟩
  | .hbm, ⟨84, _⟩ => ⟨S1x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v13 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_v16 : Ref sig .tc := ⟨.hbm, 38, rfl⟩
abbrev main_cst_5 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_9 : Ref sig .tc := ⟨.hbm, 63, rfl⟩
abbrev main_v37 : Ref sig .tc := ⟨.hbm, 64, rfl⟩
abbrev main_v38 : Ref sig .tc := ⟨.hbm, 65, rfl⟩
abbrev main_cst_10 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_11 : Ref sig .tc := ⟨.hbm, 73, rfl⟩
abbrev main_v45 : Ref sig .tc := ⟨.hbm, 74, rfl⟩
abbrev main_v46 : Ref sig .tc := ⟨.hbm, 75, rfl⟩
abbrev main_cst_12 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]
-- ==== Proof.Refs.lean ====
/- The references run to their end, and leave their arguments as they were. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference26Ideal.Run
public import proofs.«01_k».proof.Proof.Gen.Reference27Ideal.Run
public import proofs.«01_k».proof.Proof.Gen.Reference28Ideal.Run
public import proofs.«01_k».proof.Proof.Gen.Reference29Ideal.Run
public import proofs.«01_k».proof.Proof.Gen.Reference30Ideal.Run
public import proofs.«01_k».proof.Proof.Gen.Reference31Ideal.Run
public import proofs.«01_k».proof.Proof.Gen.Reference32Ideal.Run
public import proofs.«01_k».proof.Proof.Gen.Reference33Ideal.Run
public import proofs.«01_k».proof.Proof.Gen.Pre_finite
public import Idealize.ShloMosaic.Lib.Quiescent

@[expose] public section

noncomputable section

open Idealize.ShloMosaic Idealize.SL.Sem

theorem Cert.ReferenceIdeal.Hand.frame : Cert.quiescent_ReferenceIdeal := fun m ρ _ =>
  (θ_run _ _ _).mono (fun r h => ⟨fun c => (h c).2.2, sem_eq_zero_of_no_sems rfl r.2⟩) (Cert.ReferenceIdeal.Value.run m ρ)

theorem Cert.ReferenceIdeal.Hand.frame_finite : Cert.quiescent_ReferenceIdeal_pre_finite := fun m ρ _ =>
  (θ_run _ _ _).mono (fun r h => ⟨fun c => (h c).2.2, sem_eq_zero_of_no_sems rfl r.2⟩) (Cert.ReferenceIdeal.Value.run m ρ)

theorem Cert.Reference2Ideal.Hand.frame : Cert.quiescent_Reference2Ideal := fun m ρ _ =>
  (θ_run _ _ _).mono (fun r h => ⟨fun c => (h c).2.2, sem_eq_zero_of_no_sems rfl r.2⟩) (Cert.Reference2Ideal.Value.run m ρ)

theorem Cert.Reference3Ideal.Hand.frame : Cert.quiescent_Reference3Ideal := fun m ρ _ =>
  (θ_run _ _ _).mono (fun r h => ⟨fun c => (h c).2, sem_eq_zero_of_no_sems rfl r.2⟩) (Cert.Reference3Ideal.Value.run m ρ)

theorem Cert.Reference4Ideal.Hand.frame : Cert.quiescent_Reference4Ideal := fun m ρ _ =>
  (θ_run _ _ _).mono (fun r h => ⟨fun c => (h c).2, sem_eq_zero_of_no_sems rfl r.2⟩) (Cert.Reference4Ideal.Value.run m ρ)

theorem Cert.Reference5Ideal.Hand.frame : Cert.quiescent_Reference5Ideal := fun m ρ _ =>
  (θ_run _ _ _).mono (fun r h => ⟨fun c => (h c).2.2.2.2.2, sem_eq_zero_of_no_sems rfl r.2⟩) (Cert.Reference5Ideal.Value.run m ρ)

theorem Cert.Reference6Ideal.Hand.frame : Cert.quiescent_Reference6Ideal := fun m ρ _ =>
  (θ_run _ _ _).mono (fun r h => ⟨fun c => (h c).2, sem_eq_zero_of_no_sems rfl r.2⟩) (Cert.Reference6Ideal.Value.run m ρ)

theorem Cert.Reference7Ideal.Hand.frame : Cert.quiescent_Reference7Ideal := fun m ρ _ =>
  (θ_run _ _ _).mono (fun r h => ⟨fun c => (h c).2.2, sem_eq_zero_of_no_sems rfl r.2⟩) (Cert.Reference7Ideal.Value.run m ρ)

theorem Cert.Reference8Ideal.Hand.frame : Cert.quiescent_Reference8Ideal := fun m ρ _ =>
  (θ_run _ _ _).mono (fun r h => ⟨fun c => (h c).2, sem_eq_zero_of_no_sems rfl r.2⟩) (Cert.Reference8Ideal.Value.run m ρ)

theorem Cert.Reference9Ideal.Hand.frame : Cert.quiescent_Reference9Ideal := fun m ρ _ =>
  (θ_run _ _ _).mono (fun r h => ⟨fun c => (h c).2, sem_eq_zero_of_no_sems rfl r.2⟩) (Cert.Reference9Ideal.Value.run m ρ)

theorem Cert.Reference10Ideal.Hand.frame : Cert.quiescent_Reference10Ideal := fun m ρ _ =>
  (θ_run _ _ _).mono (fun r h => ⟨fun c => (h c).2, sem_eq_zero_of_no_sems rfl r.2⟩) (Cert.Reference10Ideal.Value.run m ρ)

theorem Cert.Reference11Ideal.Hand.frame : Cert.quiescent_Reference11Ideal := fun m ρ _ =>
  (θ_run _ _ _).mono (fun r h => ⟨fun c => (h c).2, sem_eq_zero_of_no_sems rfl r.2⟩) (Cert.Reference11Ideal.Value.run m ρ)

theorem Cert.Reference12Ideal.Hand.frame : Cert.quiescent_Reference12Ideal := fun m ρ _ =>
  (θ_run _ _ _).mono (fun r h => ⟨fun c => (h c).2, sem_eq_zero_of_no_sems rfl r.2⟩) (Cert.Reference12Ideal.Value.run m ρ)

theorem Cert.Reference13Ideal.Hand.frame : Cert.quiescent_Reference13Ideal := fun m ρ _ =>
  (θ_run _ _ _).mono (fun r h => ⟨fun c => (h c).2, sem_eq_zero_of_no_sems rfl r.2⟩) (Cert.Reference13Ideal.Value.run m ρ)

theorem Cert.Reference14Ideal.Hand.frame : Cert.quiescent_Reference14Ideal := fun m ρ _ =>
  (θ_run _ _ _).mono (fun r h => ⟨fun c => (h c).2.2, sem_eq_zero_of_no_sems rfl r.2⟩) (Cert.Reference14Ideal.Value.run m ρ)

theorem Cert.Reference15Ideal.Hand.frame : Cert.quiescent_Reference15Ideal := fun m ρ _ =>
  (θ_run _ _ _).mono (fun r h => ⟨fun c => (h c).2.2.2, sem_eq_zero_of_no_sems rfl r.2⟩) (Cert.Reference15Ideal.Value.run m ρ)

theorem Cert.Reference16Ideal.Hand.frame : Cert.quiescent_Reference16Ideal := fun m ρ _ =>
  (θ_run _ _ _).mono (fun r h => ⟨fun c => (h c).2.2.2, sem_eq_zero_of_no_sems rfl r.2⟩) (Cert.Reference16Ideal.Value.run m ρ)

theorem Cert.Reference17Ideal.Hand.frame : Cert.quiescent_Reference17Ideal := fun m ρ _ =>
  (θ_run _ _ _).mono (fun r h => ⟨fun c => (h c).2.2.2, sem_eq_zero_of_no_sems rfl r.2⟩) (Cert.Reference17Ideal.Value.run m ρ)

theorem Cert.Reference18Ideal.Hand.frame : Cert.quiescent_Reference18Ideal := fun m ρ _ =>
  (θ_run _ _ _).mono (fun r h => ⟨fun c => (h c).2.2.2, sem_eq_zero_of_no_sems rfl r.2⟩) (Cert.Reference18Ideal.Value.run m ρ)

theorem Cert.Reference19Ideal.Hand.frame : Cert.quiescent_Reference19Ideal := fun m ρ _ =>
  (θ_run _ _ _).mono (fun r h => ⟨fun c => (h c).2.2.2, sem_eq_zero_of_no_sems rfl r.2⟩) (Cert.Reference19Ideal.Value.run m ρ)

theorem Cert.Reference20Ideal.Hand.frame : Cert.quiescent_Reference20Ideal := fun m ρ _ =>
  (θ_run _ _ _).mono (fun r h => ⟨fun c => (h c).2.2.2, sem_eq_zero_of_no_sems rfl r.2⟩) (Cert.Reference20Ideal.Value.run m ρ)

theorem Cert.Reference21Ideal.Hand.frame : Cert.quiescent_Reference21Ideal := fun m ρ _ =>
  (θ_run _ _ _).mono (fun r h => ⟨fun c => (h c).2.2.2, sem_eq_zero_of_no_sems rfl r.2⟩) (Cert.Reference21Ideal.Value.run m ρ)

theorem Cert.Reference22Ideal.Hand.frame : Cert.quiescent_Reference22Ideal := fun m ρ _ =>
  (θ_run _ _ _).mono (fun r h => ⟨fun c => (h c).2.2.2, sem_eq_zero_of_no_sems rfl r.2⟩) (Cert.Reference22Ideal.Value.run m ρ)

theorem Cert.Reference23Ideal.Hand.frame : Cert.quiescent_Reference23Ideal := fun m ρ _ =>
  (θ_run _ _ _).mono (fun r h => ⟨fun c => (h c).2.2.2, sem_eq_zero_of_no_sems rfl r.2⟩) (Cert.Reference23Ideal.Value.run m ρ)

theorem Cert.Reference24Ideal.Hand.frame : Cert.quiescent_Reference24Ideal := fun m ρ _ =>
  (θ_run _ _ _).mono (fun r h => ⟨fun c => (h c).2.2.2, sem_eq_zero_of_no_sems rfl r.2⟩) (Cert.Reference24Ideal.Value.run m ρ)

theorem Cert.Reference25Ideal.Hand.frame : Cert.quiescent_Reference25Ideal := fun m ρ _ =>
  (θ_run _ _ _).mono (fun r h => ⟨fun c => (h c).2.2.2, sem_eq_zero_of_no_sems rfl r.2⟩) (Cert.Reference25Ideal.Value.run m ρ)

theorem Cert.Reference26Ideal.Hand.frame : Cert.quiescent_Reference26Ideal := fun m ρ _ =>
  (θ_run _ _ _).mono (fun r h => ⟨fun c => (h c).2.2.2, sem_eq_zero_of_no_sems rfl r.2⟩) (Cert.Reference26Ideal.Value.run m ρ)

theorem Cert.Reference27Ideal.Hand.frame : Cert.quiescent_Reference27Ideal := fun m ρ _ =>
  (θ_run _ _ _).mono (fun r h => ⟨fun c => (h c).2.2.2, sem_eq_zero_of_no_sems rfl r.2⟩) (Cert.Reference27Ideal.Value.run m ρ)

theorem Cert.Reference28Ideal.Hand.frame : Cert.quiescent_Reference28Ideal := fun m ρ _ =>
  (θ_run _ _ _).mono (fun r h => ⟨fun c => (h c).2.2.2, sem_eq_zero_of_no_sems rfl r.2⟩) (Cert.Reference28Ideal.Value.run m ρ)

theorem Cert.Reference29Ideal.Hand.frame : Cert.quiescent_Reference29Ideal := fun m ρ _ =>
  (θ_run _ _ _).mono (fun r h => ⟨fun c => (h c).2.2.2, sem_eq_zero_of_no_sems rfl r.2⟩) (Cert.Reference29Ideal.Value.run m ρ)

theorem Cert.Reference30Ideal.Hand.frame : Cert.quiescent_Reference30Ideal := fun m ρ _ =>
  (θ_run _ _ _).mono (fun r h => ⟨fun c => (h c).2.2.2, sem_eq_zero_of_no_sems rfl r.2⟩) (Cert.Reference30Ideal.Value.run m ρ)

theorem Cert.Reference31Ideal.Hand.frame : Cert.quiescent_Reference31Ideal := fun m ρ _ =>
  (θ_run _ _ _).mono (fun r h => ⟨fun c => (h c).2.2.2, sem_eq_zero_of_no_sems rfl r.2⟩) (Cert.Reference31Ideal.Value.run m ρ)

theorem Cert.Reference32Ideal.Hand.frame : Cert.quiescent_Reference32Ideal := fun m ρ _ =>
  (θ_run _ _ _).mono (fun r h => ⟨fun c => (h c).2.2.2.2, sem_eq_zero_of_no_sems rfl r.2⟩) (Cert.Reference32Ideal.Value.run m ρ)

theorem Cert.Reference33Ideal.Hand.frame : Cert.quiescent_Reference33Ideal := fun m ρ _ =>
  (θ_run _ _ _).mono (fun r h => ⟨fun c => (h c).2.2.2, sem_eq_zero_of_no_sems rfl r.2⟩) (Cert.Reference33Ideal.Value.run m ρ)

end
-- ==== Proof.Common.lean ====
/- What several of the programs need: a scratch that a copy filled whole, and laws of the extended reals. -/
module

public import Idealize.ShloMosaic.Lib.Pipeline.ValueKit
public import Idealize.ShloMosaic.Lib.Pipeline.ReadBack
public import Idealize.ShloMosaic.Lib.Pointwise

@[expose] public section

noncomputable section

namespace Cert.Hand

open Idealize.ShloMosaic Idealize.SL.Sem

variable {Val : EltTy → Type} {S : Shape} {e : EltTy}

/-- A copy over the whole buffer leaves what was copied. -/
theorem canon_whole [∀ e, Nonempty (Val e)] (w : S.Idx → Val e) (L : List (View.Piece Val S e)) :
    View.canon ((⟨Rect.whole S, w⟩ : View.Piece Val S e) :: L) = w :=
  View.canon_cons_unit_zero rfl _ w L

/-- A load of the whole buffer after such a copy. -/
theorem readCov_whole [∀ e, Nonempty (Val e)] {sig : RefSig} {κ : Kind} {sp : Space} (v : View sig κ sp S e) {off : Fin S.rank → ℕ}
    (h : off = fun _ => 0) (inb : ∀ a, off a + S.size a ≤ S.size a) (w : S.Idx → Val e) :
    v.readCov [(⟨Rect.whole S, w⟩ : View.Piece Val S e)] (Rect.unit off S.size inb).toLoadRect = w := by
  subst h
  exact View.readCov_unit_zero v rfl _ w

/-- A load of a part of the buffer after such a copy. -/
theorem readCov_part [∀ e, Nonempty (Val e)] {sig : RefSig} {κ : Kind} {sp : Space} (v : View sig κ sp S e) (B : Rect S) (w : S.Idx → Val e) :
    v.readCov [(⟨Rect.whole S, w⟩ : View.Piece Val S e)] B.toLoadRect = View.ld w B :=
  funext fun j => (View.read_writes_junk_apply_eq_canon v (B.toLoadRect.idx j) _).trans (congrFun (canon_whole w []) _)

/-! ## Finite entries -/

/-- A number that is neither of the infinities. -/
def Fin' (x : EReal) : Prop := ∃ r : ℝ, x = (r : EReal)

/-- What the comparison of the absolute value with infinity says. -/
theorem fin_of_abs_lt (x : EReal) (h : FloatOps.cmpf (F := Ideal) (φ := .f32) .olt (FloatOps.hostAbsf x) (Ideal.ofBits .f32 0x7F800000#32) = 1#1) : Fin' x := by
  have ht : Ideal.ofBits .f32 0x7F800000#32 = ⊤ := by simp [Ideal.ofBits, Ideal.ieee]
  rw [ht] at h
  have hx : max x (-x) < ⊤ := by
    by_contra hn
    have : FloatOps.cmpf (F := Ideal) (φ := .f32) .olt (FloatOps.hostAbsf x) ⊤ = BitVec.ofBool (decide (max x (-x) < ⊤)) := rfl
    rw [this, decide_eq_false hn] at h
    exact absurd h (by decide)
  induction x with
  | bot => simp at hx
  | top => simp at hx
  | coe r => exact ⟨r, rfl⟩

theorem and_one : ∀ a b : BitVec 1, IntOp.andi a b = 1#1 → a = 1#1 ∧ b = 1#1 := by decide

instance : Subsingleton (Shape.Idx ⟨0, ![]⟩) := ⟨fun _ _ => funext fun i => i.elim0⟩

theorem Fin'.mul {x y : EReal} : Fin' x → Fin' y → Fin' (x * y)
  | ⟨a, ha⟩, ⟨b, hb⟩ => ⟨a * b, by rw [ha, hb, EReal.coe_mul]⟩

theorem Fin'.add {x y : EReal} : Fin' x → Fin' y → Fin' (x + y)
  | ⟨a, ha⟩, ⟨b, hb⟩ => ⟨a + b, by rw [ha, hb, EReal.coe_add]⟩

theorem Fin'.sum {n : ℕ} {f : Fin n → EReal} (h : ∀ k, Fin' (f k)) : Fin' (∑ k, f k) :=
  Finset.sum_induction f Fin' (fun _ _ => Fin'.add) ⟨0, EReal.coe_zero.symm⟩ fun k _ => h k

/-! ## The gate's function and its derivative, on all extended reals -/

theorem half : Ideal.ofBits .f32 0x3F000000#32 = ((1 / 2 : ℝ) : EReal) := by
  simp [Ideal.ofBits, Ideal.ieee, -EReal.coe_mul]; norm_num

/-- The logistic function. -/
def sg (x : EReal) : EReal := Ideal.div 1 (1 + Ideal.exp (-x))

theorem sg_coe (r : ℝ) : sg (r : EReal) = ((1 / (1 + Real.exp (-r)) : ℝ) : EReal) := by
  have h : (1 : ℝ) + Real.exp (-r) ≠ 0 := by positivity
  unfold sg Ideal.div
  rw [← EReal.coe_neg, Ideal.exp_coe, ← EReal.coe_one, ← EReal.coe_add, if_neg (by exact_mod_cast h), ← EReal.coe_inv, ← EReal.coe_mul, one_div, one_mul]

theorem sg_bot : sg ⊥ = 0 := by
  have h : (1 : EReal) + ⊤ = ⊤ := EReal.add_top_of_ne_bot (EReal.coe_ne_bot 1)
  simp [sg, Ideal.div, h]

theorem sg_top : sg ⊤ = 1 := by
  simp [sg, Ideal.div]

/-- The logistic function by the hyperbolic tangent of half the argument. -/
theorem tanh_half (x : EReal) :
    Ideal.ofBits .f32 0x3F000000#32 * Ideal.tanh (Ideal.ofBits .f32 0x3F000000#32 * x) + Ideal.ofBits .f32 0x3F000000#32 = sg x := by
  rw [half]
  induction x with
  | bot =>
    rw [sg_bot, EReal.coe_mul_bot_of_pos (by norm_num), Ideal.tanh_bot]
    have : (-1 : EReal) = ((-1 : ℝ) : EReal) := by norm_num
    rw [this, ← EReal.coe_mul, ← EReal.coe_add]
    norm_num
  | top =>
    rw [sg_top, EReal.coe_mul_top_of_pos (by norm_num), Ideal.tanh_top]
    have : (1 : EReal) = ((1 : ℝ) : EReal) := by norm_num
    rw [this, ← EReal.coe_mul, ← EReal.coe_add]
    norm_num
  | coe r =>
    rw [sg_coe, ← EReal.coe_mul, Ideal.tanh_coe, ← EReal.coe_mul, ← EReal.coe_add]
    congr 1
    have e : Real.exp (-(1 / 2 * r)) = (Real.exp (1 / 2 * r))⁻¹ := Real.exp_neg _
    have e2 : Real.exp (-r) = (Real.exp (1 / 2 * r))⁻¹ * (Real.exp (1 / 2 * r))⁻¹ := by
      rw [← Real.exp_neg, ← Real.exp_add]; congr 1; ring
    have hp := Real.exp_pos (1 / 2 * r)
    rw [Real.tanh_eq_sinh_div_cosh, Real.sinh_eq, Real.cosh_eq, e, e2]
    generalize Real.exp (1 / 2 * r) = u at hp
    have h1 : u + u⁻¹ ≠ 0 := by positivity
    have h2 : 1 + u⁻¹ * u⁻¹ ≠ 0 := by positivity
    field_simp
    ring

/-- The derivative of `x · sg x`, factored and as a sum. -/
theorem dsilu (x : EReal) : sg x * (1 + x * (1 - sg x)) = sg x + x * (sg x * (1 - sg x)) := by
  induction x with
  | bot => simp [sg_bot]
  | top => simp [sg_top]
  | coe r =>
    rw [sg_coe]
    generalize (1 / (1 + Real.exp (-r)) : ℝ) = s
    norm_cast
    ring

/-- The gradient of `x · sg x` for a finite `y`, with its two terms apart. -/
theorem dsilu_mul (x : EReal) {y : EReal} (h : Fin' y) :
    y * (sg x + x * (sg x * (1 - sg x))) = y * sg x + x * y * (sg x * (1 - sg x)) := by
  obtain ⟨r, rfl⟩ := h
  have h1 : (1 : EReal) - 1 = 0 := by rw [← EReal.coe_one, ← EReal.coe_sub, sub_self, EReal.coe_zero]
  induction x with
  | bot => simp [sg_bot]
  | top => simp [sg_top, h1]
  | coe a =>
    rw [sg_coe]
    generalize (1 / (1 + Real.exp (-a)) : ℝ) = s
    norm_cast
    ring

/-! ## The gradient of the root-mean-square norm, on finite entries -/

theorem c1024 : Ideal.ofBits .f32 0x44800000#32 = ((1024 : ℝ) : EReal) := by
  simp [Ideal.ofBits, Ideal.ieee, -EReal.coe_mul]; norm_num

theorem minus_half : Ideal.ofBits .f32 0xBF000000#32 = ((-(1 / 2) : ℝ) : EReal) := by
  simp [Ideal.ofBits, Ideal.ieee, -EReal.coe_mul]; norm_num

theorem eps : ∃ e : ℝ, 0 < e ∧ Ideal.ofBits .f32 0x358637BD#32 = (e : EReal) := by
  refine ⟨_, ?_, by simp [Ideal.ofBits, Ideal.ieee, -EReal.coe_mul]; rfl⟩
  norm_num

theorem div_real (x : EReal) {b : ℝ} (h : b ≠ 0) : Ideal.div x (b : EReal) = x * ((b⁻¹ : ℝ) : EReal) := by
  unfold Ideal.div
  rw [if_neg (by exact_mod_cast h), ← EReal.coe_inv]

theorem rsqrt_coe {s : ℝ} (h : 0 < s) : Ideal.rsqrt (s : EReal) = (((Real.sqrt s)⁻¹ : ℝ) : EReal) := by
  show (if s < 0 then (⊥ : EReal) else if s = 0 then ⊤ else (((Real.sqrt s)⁻¹ : ℝ) : EReal)) = _
  rw [if_neg h.le.not_gt, if_neg h.ne']

theorem rsqrt_top : Ideal.rsqrt ⊤ = 0 := rfl

/-- The mean of the squares, and a little more. -/
def ms (X : Fin 1024 → EReal) : EReal :=
  Ideal.div (∑ k, X k * X k) (Ideal.ofBits .f32 0x44800000#32) + Ideal.ofBits .f32 0x358637BD#32

theorem sq_nonneg' (x : EReal) : 0 ≤ x * x := by
  induction x with
  | bot => rw [EReal.bot_mul_bot]; exact le_top
  | top => rw [EReal.top_mul_top]; exact le_top
  | coe x => rw [← EReal.coe_mul]; exact_mod_cast mul_self_nonneg x

/-- It is a positive real, or infinite. -/
theorem ms_cases (X : Fin 1024 → EReal) : (∃ s : ℝ, 0 < s ∧ ms X = (s : EReal)) ∨ ms X = ⊤ := by
  obtain ⟨e, he, h⟩ := eps
  have h0 : 0 ≤ ∑ k, X k * X k := Finset.sum_nonneg fun k _ => sq_nonneg' _
  unfold ms
  rw [c1024, div_real _ (by norm_num), h]
  generalize ∑ k, X k * X k = w at h0
  induction w with
  | bot => exact absurd h0 (by simp)
  | top => right; rw [EReal.top_mul_coe_of_pos (by norm_num), EReal.top_add_coe]
  | coe w =>
    left
    refine ⟨w * (1024 : ℝ)⁻¹ + e, add_pos_of_nonneg_of_pos (mul_nonneg (by exact_mod_cast h0) (by norm_num)) he, ?_⟩
    rw [EReal.coe_add, EReal.coe_mul]

/-- A positive real goes into a sum. -/
theorem mul_sum_pos {r : ℝ} (hr : 0 < r) {n : ℕ} (f : Fin n → EReal) : (r : EReal) * ∑ k, f k = ∑ k, (r : EReal) * f k := by
  induction n with
  | zero => simp
  | succ n ih =>
    rw [Fin.sum_univ_succ, Fin.sum_univ_succ, ← ih,
      EReal.left_distrib_of_nonneg_of_ne_top (by exact_mod_cast hr.le) (EReal.coe_ne_top r)]

theorem twice (v : EReal) {a : ℝ} (ha : a < 0) : v * (a : EReal) + v * (a : EReal) = v * ((2 * a : ℝ) : EReal) := by
  have h2 : 2 * a < 0 := by linarith
  induction v with
  | bot => rw [EReal.bot_mul_coe_of_neg ha, EReal.bot_mul_coe_of_neg h2]; rfl
  | top => rw [EReal.top_mul_coe_of_neg ha, EReal.top_mul_coe_of_neg h2]; rfl
  | coe v => rw [← EReal.coe_mul, ← EReal.coe_mul, ← EReal.coe_add]; congr 1; ring

/-- The gradient of a row's entry through the norm: with the projection taken off the scaled gradient, and as the chain rule has it. -/
theorem rms_grad (X T : Fin 1024 → EReal) (y : EReal) (j : Fin 1024) :
    y + Ideal.rsqrt (ms X) * (T j - X j * Ideal.rsqrt (ms X)
        * Ideal.div (∑ k, T k * (X k * Ideal.rsqrt (ms X))) (Ideal.ofBits .f32 0x44800000#32))
      = y + T j * Ideal.rsqrt (ms X)
        + X j * (∑ _x : Fin 1, Ideal.div ((∑ k, X k * T k) * (Ideal.ofBits .f32 0xBF000000#32 * Ideal.div (Ideal.rsqrt (ms X)) (ms X)))
            (Ideal.ofBits .f32 0x44800000#32))
        + (∑ _x : Fin 1, Ideal.div ((∑ k, X k * T k) * (Ideal.ofBits .f32 0xBF000000#32 * Ideal.div (Ideal.rsqrt (ms X)) (ms X)))
            (Ideal.ofBits .f32 0x44800000#32)) * X j := by
  rw [c1024, minus_half, Fin.sum_univ_one]
  simp only [div_real _ (show (1024 : ℝ) ≠ 0 by norm_num)]
  rcases ms_cases X with ⟨s, hs, e⟩ | e
  · rw [e, rsqrt_coe hs, div_real _ hs.ne']
    have hr : 0 < (Real.sqrt s)⁻¹ := inv_pos.mpr (Real.sqrt_pos.mpr hs)
    have h3 : s⁻¹ = (Real.sqrt s)⁻¹ * (Real.sqrt s)⁻¹ := by
      rw [← mul_inv, Real.mul_self_sqrt hs.le]
    rw [h3]
    generalize (Real.sqrt s)⁻¹ = r at hr
    have h1 : ∑ k, T k * (X k * (r : EReal)) = (r : EReal) * ∑ k, X k * T k := by
      rw [mul_sum_pos hr]
      exact Finset.sum_congr rfl fun k _ => by rw [mul_comm, mul_comm (X k) (r : EReal), mul_assoc]
    rw [h1]
    generalize ∑ k, X k * T k = w
    have h4 : X j * (w * (((-(1 / 2) : ℝ) : EReal) * ((r : EReal) * ((r * r : ℝ) : EReal))) * (((1024 : ℝ)⁻¹ : ℝ) : EReal))
        = X j * w * ((-(1 / 2) * (r * (r * r)) * (1024 : ℝ)⁻¹ : ℝ) : EReal) := by
      rw [← EReal.coe_mul, ← EReal.coe_mul, mul_assoc w, ← EReal.coe_mul, mul_assoc]
      exact (mul_assoc _ _ _).symm
    have h5 : (r : EReal) * -(X j * (r : EReal) * ((r : EReal) * w * (((1024 : ℝ)⁻¹ : ℝ) : EReal)))
        = X j * w * ((2 * (-(1 / 2) * (r * (r * r)) * (1024 : ℝ)⁻¹) : ℝ) : EReal) := by
      have h6 : (2 * (-(1 / 2) * (r * (r * r)) * (1024 : ℝ)⁻¹) : ℝ) = -(r * (r * (r * (1024 : ℝ)⁻¹))) := by ring
      rw [h6, EReal.coe_neg, mul_neg, mul_neg, EReal.coe_mul, EReal.coe_mul, EReal.coe_mul]
      congr 1
      ac_rfl
    rw [mul_comm (w * _ * _) (X j), h4, sub_eq_add_neg, EReal.left_distrib_of_nonneg_of_ne_top (by exact_mod_cast hr.le) (EReal.coe_ne_top r), h5,
      add_assoc (y + T j * (r : EReal)), twice _ (by
        have : 0 < r * (r * r) := by positivity
        nlinarith), mul_comm (r : EReal) (T j), add_assoc]
  · rw [e, rsqrt_top]
    have h : Ideal.div 0 ⊤ = 0 := by
      unfold Ideal.div
      rw [if_neg (by simp), zero_mul]
    rw [h]
    simp only [zero_mul, mul_zero, add_zero]

end Cert.Hand

end
-- ==== Proof.Gate.lean ====
/- The gradient of the gate: the gradients of its two factors. -/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Common
public import proofs.«01_k».proof.Proof.Gen.Pre_finite
public import Idealize.ShloMosaic.Lib.ReduceAll

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the windows, at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, _)

theorem zero2 : (![0, 0] : Fin 2 → ℕ) = fun _ => 0 := by decide

/-- The weights lie in the carried scratch after every point, as the first point copied them. -/
theorem carried (c : Dev nD) : ∀ (n : ℕ) (h : n < cfg0.N), (outsAt0 m c n h).2.2 = V m c main_v6
  | 0, h => by
    rw [outsAt0_A m c ⟨0, h⟩ rfl]
    funext y
    dsimp only
    frame_out
    rw [Cert.Hand.canon_whole]
    rfl
  | n + 1, h => by
    have hN := lt_of_lt_of_eq h (show cfg0.N = 43 from N_0)
    rw [outsAt0_B m c ⟨n + 1, h⟩ (by dsimp only; omega)]
    dsimp only
    unfold sout0_B_0
    exact carried c n _

abbrev arg0 (c : Dev nD) : FVec Ideal S16512x2816 .f32 := m ((c : Thread nD τ).loc main_arg0)
abbrev arg1 (c : Dev nD) : FVec Ideal S16512x2816 .f32 := m ((c : Thread nD τ).loc main_arg1)
abbrev arg2 (c : Dev nD) : FVec Ideal S2816x1024 .f32 := m ((c : Thread nD τ).loc main_arg2)
abbrev arg3 (c : Dev nD) : FVec Ideal S16512x1024 .f32 := m ((c : Thread nD τ).loc main_arg3)

open Cert.ReferenceIdeal.Read

/-- The row of the array that row `i` of point `t`'s block is. -/
abbrev row (t : Fin cfg0.N) (i : Fin 384) : Fin 16512 :=
  ⟨t.val * 384 + i.val, by have := lt_of_lt_of_eq t.isLt (show cfg0.N = 43 from N_0); omega⟩

theorem V_wd (c : Dev nD) : V m c main_v6 = truncf (F := Ideal) .bf16 (arg2 m c : FVec Ideal S2816x1024 .f32) bitsLt_bf16_f32 := by
  entry_read
  rfl

theorem V_b (c : Dev nD) : V m c main_v5 = truncf (F := Ideal) .bf16 (arg1 m c : FVec Ideal S16512x2816 .f32) bitsLt_bf16_f32 := by
  entry_read
  rfl

/-- The gate's function, as the reference has it. -/
abbrev SILU (X : FVec Ideal S16512x2816 .f32) : FVec Ideal S16512x2816 .f32 := val_main_v0_0 (F := Ideal) X

/-- Its derivative, as the host has it. -/
abbrev DSILU (X : FVec Ideal S16512x2816 .f32) : FVec Ideal S16512x2816 .f32 :=
  addf (mulf (val_main_call0_v2 (F := Ideal)) (val_main_v0_2 (F := Ideal) X)) (mulf (mulf X (val_main_call0_v2 (F := Ideal))) (val_main_v0_1 (F := Ideal) X))

theorem V_silu (c : Dev nD) : V m c main_v4 = truncf (F := Ideal) .bf16 (SILU (arg0 m c)) bitsLt_bf16_f32 := by
  entry_read
  rfl

theorem V_dsilu (c : Dev nD) : V m c main_v3 = truncf (F := Ideal) .bf16 (DSILU (arg0 m c)) bitsLt_bf16_f32 := by
  entry_read
  rfl

/-- The logistic function, in the reference. -/
theorem refSg (x0 : FVec Ideal S16512x2816 .f32) (j : S16512x2816.Idx) : val_main_v0_2 (F := Ideal) x0 j = Cert.Hand.sg (x0 j) := by
  pointwise [val_main_v0_2, val_main_call0_v4, val_main_call0_v3, val_main_call0_v2, val_main_call0_v1, val_main_call0_v0, val_main_call0_cst,
    val_main_call0_cst_0]
  rfl

theorem silu_at (X : FVec Ideal S16512x2816 .f32) (j : S16512x2816.Idx) : SILU X j = X j * Cert.Hand.sg (X j) := by
  pointwise [SILU, val_main_v0_0]
  rw [refSg]

theorem dsilu_at (X : FVec Ideal S16512x2816 .f32) (j : S16512x2816.Idx) : DSILU X j = Cert.Hand.sg (X j)
    + X j * (Cert.Hand.sg (X j) * (1 - Cert.Hand.sg (X j))) := by
  pointwise [DSILU, val_main_call0_v2, val_main_call0_cst, val_main_v0_1, val_main_call0_v7, val_main_call0_v6, val_main_call0_cst_1]
  rw [refSg]

/-- The product's entry, as the reference has it. -/
abbrev G (X2 : FVec Ideal S2816x1024 .f32) (X3 : FVec Ideal S16512x1024 .f32) (i : Fin 16512) (j : Fin 2816) : EReal :=
  ∑ k : Fin 1024, Ideal.ofBits .f32 0x3F000000#32 * X3 (ix2 i k) * X2 (ix2 j k)

theorem ref11 (X0 X1 : FVec Ideal S16512x2816 .f32) (X2 : FVec Ideal S2816x1024 .f32) (X3 : FVec Ideal S16512x1024 .f32) (i : Fin 16512) (j : Fin 2816) :
    val_main_v11 (F := Ideal) X0 X1 X2 X3 (ix2 i j) = G X2 X3 i j * X1 (ix2 i j) * Cert.Hand.sg (X0 (ix2 i j))
      + X0 (ix2 i j) * (G X2 X3 i j * X1 (ix2 i j)) * (Cert.Hand.sg (X0 (ix2 i j)) * (1 - Cert.Hand.sg (X0 (ix2 i j)))) := by
  pointwise [val_main_v11, val_main_v10, val_main_call1_v1, val_main_call1_v2, val_main_call1_v0, val_main_v9, val_main_v7, val_main_v6, val_main_v5,
    val_main_cst_0, val_main_v0_1, val_main_call0_v7, val_main_call0_v6, val_main_call0_cst_1]
  rw [refSg]

theorem ref12 (X0 : FVec Ideal S16512x2816 .f32) (X2 : FVec Ideal S2816x1024 .f32) (X3 : FVec Ideal S16512x1024 .f32) (i : Fin 16512) (j : Fin 2816) :
    val_main_v12 (F := Ideal) X0 X2 X3 (ix2 i j) = G X2 X3 i j * (X0 (ix2 i j) * Cert.Hand.sg (X0 (ix2 i j))) := by
  pointwise [val_main_v12, val_main_v8, val_main_v7, val_main_v6, val_main_v5, val_main_cst_0]
  exact (congrArg (· * _) (silu_at X0 _)).trans (mul_comm _ _)

/-- The blocks' entries. -/
theorem blk0 (c : Dev nD) (t : Fin cfg0.N) (i : Fin 384) (k : Fin 1024) : iblk m c 0 t (ix2 i k) = arg3 m c (ix2 (row t i) k) := by
  blk_point [iblk, V, idx t]

theorem blk1 (c : Dev nD) (t : Fin cfg0.N) (i : Fin 384) (k : Fin 2816) : iblk m c 1 t (ix2 i k) = arg1 m c (ix2 (row t i) k) := by
  blk_point [iblk, V_b, idx t]

theorem blk2 (c : Dev nD) (t : Fin cfg0.N) (i : Fin 384) (k : Fin 2816) : iblk m c 2 t (ix2 i k) = SILU (arg0 m c) (ix2 (row t i) k) := by
  blk_point [iblk, V_silu, idx t]

theorem blk3 (c : Dev nD) (t : Fin cfg0.N) (i : Fin 384) (k : Fin 2816) : iblk m c 3 t (ix2 i k) = DSILU (arg0 m c) (ix2 (row t i) k) := by
  blk_point [iblk, V_dsilu, idx t]

/-- One half of the columns of the gradient of the gate's argument. -/
theorem payA (x : Vec Ideal S384x1024 .f32) (w : Vec Ideal S1408x1024 .bf16) (b d : Vec Ideal S384x1408 .bf16) (y : S384x1408.Idx) :
    k0_pay5 x w b d y = (∑ k : Fin 1024, Ideal.ofBits .f32 0x3F000000#32 * x (ix2 (y 0) k) * w (ix2 (y 1) k)) * b y * d y := by
  pointwise [k0_pay5, k0_pay4, k0_pay3]

theorem payA' (x : Vec Ideal S384x1024 .f32) (w : Vec Ideal S1408x1024 .bf16) (b d : Vec Ideal S384x1408 .bf16) (y : S384x1408.Idx) :
    k0_pay1 (k0_pay8 x w b) d y = (∑ k : Fin 1024, Ideal.ofBits .f32 0x3F000000#32 * x (ix2 (y 0) k) * w (ix2 (y 1) k)) * b y * d y := by
  pointwise [k0_pay1, k0_pay8, k0_pay7, k0_pay3]

/-- One half of the columns of the gradient of the other factor. -/
theorem payB (x : Vec Ideal S384x1024 .f32) (w : Vec Ideal S1408x1024 .bf16) (s : Vec Ideal S384x1408 .bf16) (y : S384x1408.Idx) :
    k0_pay6 x w s y = (∑ k : Fin 1024, Ideal.ofBits .f32 0x3F000000#32 * x (ix2 (y 0) k) * w (ix2 (y 1) k)) * s y := by
  pointwise [k0_pay6, k0_pay4, k0_pay3]

theorem payB' (x : Vec Ideal S384x1024 .f32) (w : Vec Ideal S1408x1024 .bf16) (s : Vec Ideal S384x1408 .bf16) (y : S384x1408.Idx) :
    k0_pay2 (k0_pay7 x w) s y = (∑ k : Fin 1024, Ideal.ofBits .f32 0x3F000000#32 * x (ix2 (y 0) k) * w (ix2 (y 1) k)) * s y := by
  pointwise [k0_pay2, k0_pay7, k0_pay3]

/-- The entries of the second factor, the weights and the incoming gradient are finite. -/
def Finite (c : Dev nD) : Prop :=
  (∀ j, Cert.Hand.Fin' (arg1 m c j)) ∧ (∀ j, Cert.Hand.Fin' (arg2 m c j)) ∧ ∀ j, Cert.Hand.Fin' (arg3 m c j)

theorem stepA (c : Dev nD) (hF : Finite m c) (i : Fin 16512) (j : Fin 2816) :
    G (arg2 m c) (arg3 m c) i j * arg1 m c (ix2 i j) * DSILU (arg0 m c) (ix2 i j)
      = val_main_v11 (F := Ideal) (arg0 m c) (arg1 m c) (arg2 m c) (arg3 m c) (ix2 i j) := by
  rw [ref11, dsilu_at]
  exact Cert.Hand.dsilu_mul _ (Cert.Hand.Fin'.mul (Cert.Hand.Fin'.sum fun k =>
    Cert.Hand.Fin'.mul (Cert.Hand.Fin'.mul ⟨_, Cert.Hand.half⟩ (hF.2.2 _)) (hF.2.1 _)) (hF.1 _))

theorem stepB (c : Dev nD) (i : Fin 16512) (j : Fin 2816) :
    G (arg2 m c) (arg3 m c) i j * SILU (arg0 m c) (ix2 i j) = val_main_v12 (F := Ideal) (arg0 m c) (arg2 m c) (arg3 m c) (ix2 i j) := by
  rw [ref12]
  exact congrArg (_ * ·) (silu_at _ _)

theorem wd_at (c : Dev nD) (j : S2816x1024.Idx) : V m c main_v6 j = arg2 m c j := by
  rw [V_wd]
  rfl

set_option maxHeartbeats 2000000 in
theorem final4 (c : Dev nD) (hF : Finite m c) : (dats m 0 c).arrAt 4 cfg0.N = val_main_v11 (F := Ideal) (arg0 m c) (arg1 m c) (arg2 m c) (arg3 m c) := by
  refine (dats m 0 c).arrAt_eq_of_covers 4 _ (by decide +kernel) fun t hf y => ?_
  obtain ⟨i, j, rfl⟩ : ∃ (i : Fin 384) (j : Fin 2816), y = ix2 i j := ⟨y 0, y 1, ValueIdx.eq_ix2 y⟩
  have e : ((cfg0.win 4).blk t).view.emb (ix2 i j) = ix2 (row t i) j := by
    blk_ext [idx t]
  rw [e]
  blk_simp
  rw [after0_4]
  clear e
  by_cases h0 : t.val % 43 = 0
  · rw [outsAt0_A m c t h0]
    dsimp only
    frame_out
    simp only [Cert.Hand.readCov_part (S := S2816x1024)]
    canon_tiles x h
    · obtain ⟨p, q, rfl⟩ : ∃ (p : Fin 384) (q : Fin 1408), x = ix2 p q := ⟨x 0, x 1, ValueIdx.eq_ix2 x⟩
      obtain rfl : i = p := Fin.ext h0
      obtain rfl : j = ⟨1408 + q.val, Nat.add_lt_add_left q.isLt 1408⟩ := Fin.ext h1
      rw [payA']
      pointwise
      simp only [wd_at, blk0, blk1, blk3]
      exact stepA m c hF _ _
    · obtain ⟨p, q, rfl⟩ : ∃ (p : Fin 384) (q : Fin 1408), x = ix2 p q := ⟨x 0, x 1, ValueIdx.eq_ix2 x⟩
      obtain rfl : i = p := Fin.ext h0
      obtain rfl : j = ⟨q.val, Nat.lt_trans q.isLt (by decide)⟩ := Fin.ext h1
      rw [payA]
      pointwise
      simp only [wd_at, blk0, blk1, blk3]
      exact stepA m c hF _ _
  · rw [outsAt0_B m c t h0]
    dsimp only
    frame_out
    simp only [carried, read_unread_whole]
    canon_tiles x h
    · obtain ⟨p, q, rfl⟩ : ∃ (p : Fin 384) (q : Fin 1408), x = ix2 p q := ⟨x 0, x 1, ValueIdx.eq_ix2 x⟩
      obtain rfl : i = p := Fin.ext h0
      obtain rfl : j = ⟨1408 + q.val, Nat.add_lt_add_left q.isLt 1408⟩ := Fin.ext h1
      rw [payA']
      pointwise
      simp only [wd_at, blk0, blk1, blk3]
      exact stepA m c hF _ _
    · obtain ⟨p, q, rfl⟩ : ∃ (p : Fin 384) (q : Fin 1408), x = ix2 p q := ⟨x 0, x 1, ValueIdx.eq_ix2 x⟩
      obtain rfl : i = p := Fin.ext h0
      obtain rfl : j = ⟨q.val, Nat.lt_trans q.isLt (by decide)⟩ := Fin.ext h1
      rw [payA]
      pointwise
      simp only [wd_at, blk0, blk1, blk3]
      exact stepA m c hF _ _

set_option maxHeartbeats 2000000 in
theorem final5 (c : Dev nD) : (dats m 0 c).arrAt 5 cfg0.N = val_main_v12 (F := Ideal) (arg0 m c) (arg2 m c) (arg3 m c) := by
  refine (dats m 0 c).arrAt_eq_of_covers 5 _ (by decide +kernel) fun t hf y => ?_
  obtain ⟨i, j, rfl⟩ : ∃ (i : Fin 384) (j : Fin 2816), y = ix2 i j := ⟨y 0, y 1, ValueIdx.eq_ix2 y⟩
  have e : ((cfg0.win 5).blk t).view.emb (ix2 i j) = ix2 (row t i) j := by
    blk_ext [idx t]
  rw [e]
  blk_simp
  rw [after0_5]
  clear e
  by_cases h0 : t.val % 43 = 0
  · rw [outsAt0_A m c t h0]
    dsimp only
    frame_out
    simp only [Cert.Hand.readCov_part (S := S2816x1024)]
    canon_tiles x h
    · obtain ⟨p, q, rfl⟩ : ∃ (p : Fin 384) (q : Fin 1408), x = ix2 p q := ⟨x 0, x 1, ValueIdx.eq_ix2 x⟩
      obtain rfl : i = p := Fin.ext h0
      obtain rfl : j = ⟨1408 + q.val, Nat.add_lt_add_left q.isLt 1408⟩ := Fin.ext h1
      rw [payB']
      pointwise
      simp only [wd_at, blk0, blk2]
      exact stepB m c _ _
    · obtain ⟨p, q, rfl⟩ : ∃ (p : Fin 384) (q : Fin 1408), x = ix2 p q := ⟨x 0, x 1, ValueIdx.eq_ix2 x⟩
      obtain rfl : i = p := Fin.ext h0
      obtain rfl : j = ⟨q.val, Nat.lt_trans q.isLt (by decide)⟩ := Fin.ext h1
      rw [payB]
      pointwise
      simp only [wd_at, blk0, blk2]
      exact stepB m c _ _
  · rw [outsAt0_B m c t h0]
    dsimp only
    frame_out
    simp only [carried, read_unread_whole]
    canon_tiles x h
    · obtain ⟨p, q, rfl⟩ : ∃ (p : Fin 384) (q : Fin 1408), x = ix2 p q := ⟨x 0, x 1, ValueIdx.eq_ix2 x⟩
      obtain rfl : i = p := Fin.ext h0
      obtain rfl : j = ⟨1408 + q.val, Nat.add_lt_add_left q.isLt 1408⟩ := Fin.ext h1
      rw [payB']
      pointwise
      simp only [wd_at, blk0, blk2]
      exact stepB m c _ _
    · obtain ⟨p, q, rfl⟩ : ∃ (p : Fin 384) (q : Fin 1408), x = ix2 p q := ⟨x 0, x 1, ValueIdx.eq_ix2 x⟩
      obtain rfl : i = p := Fin.ext h0
      obtain rfl : j = ⟨q.val, Nat.lt_trans q.isLt (by decide)⟩ := Fin.ext h1
      rw [payB]
      pointwise
      simp only [wd_at, blk0, blk2]
      exact stepB m c _ _

/-- What the precondition says. -/
theorem finite_of_pre (h : Pre_KernelIdeal_finite m) (c : Dev nD) : Finite m c := by
  have e := congrFun (h c) (fun a => a.elim0)
  dsimp only [Cert.Pre_finite.fn] at e
  obtain ⟨e12, e3⟩ := Cert.Hand.and_one _ _ e
  obtain ⟨e1, e2⟩ := Cert.Hand.and_one _ _ e12
  exact ⟨fun j => Cert.Hand.fin_of_abs_lt _ (Host.reduce_andi_all _ _ _ _ _ e1 j), fun j => Cert.Hand.fin_of_abs_lt _ (Host.reduce_andi_all _ _ _ _ _ e2 j),
    fun j => Cert.Hand.fin_of_abs_lt _ (Host.reduce_andi_all _ _ _ _ _ e3 j)⟩

/-- The kernel and the reference compute one array at each of the two results. -/
theorem algebraic : Cert.algebraic_KernelIdeal_ReferenceIdeal_pre_finite := fun m g m' g' hp hag =>
  ⟨fun c => val_main_v11 (F := Ideal) (arg0 m c) (arg1 m c) (arg2 m c) (arg3 m c), fun c => val_main_v12 (F := Ideal) (arg0 m c) (arg2 m c) (arg3 m c),
    (θ_run _ _ _).mono (fun _ h c => ⟨(h c).1.trans (final4 m c (finite_of_pre m hp c)), (h c).2.1.trans (final5 m c), (h c).2.2⟩)
      (Cert.KernelIdeal.Value.run_blocks m g),
    (θ_run _ _ _).mono (fun _ h c => ⟨(h c).1.trans (by rw [(hag c).1, (hag c).2.1, (hag c).2.2.1, (hag c).2.2.2]; rfl),
      (h c).2.1.trans (by rw [(hag c).1, (hag c).2.2.1, (hag c).2.2.2]; rfl), (h c).2.2⟩)
      (Cert.ReferenceIdeal.Value.run m' g')⟩

end Cert.KernelIdeal.Hand

end
-- ==== Proof.In.lean ====
/- The gradient of the input of the two up projections through the norm, and the gradient of the gain. -/
module

public import proofs.«01_k».proof.Proof.Gen.Kernel2Ideal.Value
public import proofs.«01_k».proof.Proof.Gen.Reference2Ideal.Run
public import proofs.«01_k».proof.Proof.Gen.Reference2Ideal.Read
public import proofs.«01_k».proof.Defs
public import proofs.«01_k».proof.Proof.Common
public import Idealize.ShloMosaic.Lib.ReduceAll

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the windows, at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] :=
  (by decide +kernel : ∀ t : Fin grid0.N, _)

theorem zero2 : (![0, 0] : Fin 2 → ℕ) = fun _ => 0 := by decide

/-- The weights and the gain lie in the carried scratch after every point, as the first point copied them. -/
theorem carried (c : Dev nD) : ∀ (n : ℕ) (h : n < cfg0.N), (outsAt0 m c n h).2.2 = (V m c main_v2, V m c main_v3, V m c main_v4)
  | 0, h => by
    rw [outsAt0_A m c ⟨0, h⟩ rfl rfl]
    refine Prod.ext ?_ (Prod.ext ?_ ?_) <;> (funext y; dsimp only; frame_out; rw [Cert.Hand.canon_whole]; rfl)
  | n + 1, h => by
    have hN := lt_of_lt_of_eq h (show cfg0.N = 43 from N_0)
    rw [outsAt0_B m c ⟨n + 1, h⟩ (by dsimp only; omega) (by dsimp only; omega)]
    dsimp only
    unfold sout0_B_0 sout0_B_1 sout0_B_2
    exact carried c n _

abbrev arg0 (c : Dev nD) : FVec Ideal S16512x1024 .f32 := m ((c : Thread nD τ).loc main_arg0)
abbrev arg1 (c : Dev nD) : FVec Ideal S1024 .f32 := m ((c : Thread nD τ).loc main_arg1)
abbrev arg2 (c : Dev nD) : FVec Ideal S1024x2816 .f32 := m ((c : Thread nD τ).loc main_arg2)
abbrev arg3 (c : Dev nD) : FVec Ideal S1024x2816 .f32 := m ((c : Thread nD τ).loc main_arg3)
abbrev arg4 (c : Dev nD) : FVec Ideal S16512x1024 .f32 := m ((c : Thread nD τ).loc main_arg4)
abbrev arg5 (c : Dev nD) : FVec Ideal S16512x2816 .f32 := m ((c : Thread nD τ).loc main_arg5)
abbrev arg6 (c : Dev nD) : FVec Ideal S16512x2816 .f32 := m ((c : Thread nD τ).loc main_arg6)

open Cert.Reference2Ideal.Read

/-- The row of the array that row `i` of point `t`'s block is. -/
abbrev row (t : Fin cfg0.N) (i : Fin 384) : Fin 16512 :=
  ⟨t.val * 384 + i.val, by have := lt_of_lt_of_eq t.isLt (show cfg0.N = 43 from N_0); omega⟩

theorem V_da (c : Dev nD) : V m c main_v0 = truncf (F := Ideal) .bf16 (arg5 m c : FVec Ideal S16512x2816 .f32) bitsLt_bf16_f32 := by
  entry_read
  rfl

theorem V_db (c : Dev nD) : V m c main_v1 = truncf (F := Ideal) .bf16 (arg6 m c : FVec Ideal S16512x2816 .f32) bitsLt_bf16_f32 := by
  entry_read
  rfl

theorem V_wg (c : Dev nD) : V m c main_v2 = truncf (F := Ideal) .bf16 (arg2 m c : FVec Ideal S1024x2816 .f32) bitsLt_bf16_f32 := by
  entry_read
  rfl

theorem V_wu (c : Dev nD) : V m c main_v3 = truncf (F := Ideal) .bf16 (arg3 m c : FVec Ideal S1024x2816 .f32) bitsLt_bf16_f32 := by
  entry_read
  rfl

theorem V_gain (c : Dev nD) (j : Fin 1024) : V m c main_v4 (ix2 0 j) = arg1 m c (ix1 j) := by
  entry_read
  pointwise

theorem wg_at (c : Dev nD) (j : S1024x2816.Idx) : V m c main_v2 j = arg2 m c j := by
  rw [V_wg]
  rfl

theorem wu_at (c : Dev nD) (j : S1024x2816.Idx) : V m c main_v3 j = arg3 m c j := by
  rw [V_wu]
  rfl

/-- The blocks' entries. -/
theorem blk0 (c : Dev nD) (t : Fin cfg0.N) (i : Fin 384) (k : Fin 2816) : iblk m c 0 t (ix2 i k) = arg5 m c (ix2 (row t i) k) := by
  blk_point [iblk, V_da, idx t]

theorem blk1 (c : Dev nD) (t : Fin cfg0.N) (i : Fin 384) (k : Fin 2816) : iblk m c 1 t (ix2 i k) = arg6 m c (ix2 (row t i) k) := by
  blk_point [iblk, V_db, idx t]

theorem blk2 (c : Dev nD) (t : Fin cfg0.N) (i : Fin 384) (k : Fin 1024) : iblk m c 2 t (ix2 i k) = arg0 m c (ix2 (row t i) k) := by
  blk_point [iblk, V, idx t]

theorem blk3 (c : Dev nD) (t : Fin cfg0.N) (i : Fin 384) (k : Fin 1024) : iblk m c 3 t (ix2 i k) = arg4 m c (ix2 (row t i) k) := by
  blk_point [iblk, V, idx t]

/-- The gradient that reaches the normalised rows. -/
theorem prodD (c : Dev nD) (t : Fin cfg0.N) (i : Fin 384) (j : Fin 1024) :
    k0_pay4 (iblk m c 0 t) (V m c main_v2) (iblk m c 1 t) (V m c main_v3) (ix2 i j)
      = val_main_v20 (F := Ideal) (arg2 m c) (arg3 m c) (arg5 m c) (arg6 m c) (ix2 (row t i) j) := by
  pointwise [k0_pay4, val_main_v20, val_main_v19, val_main_v18]
  simp only [blk0, blk1, wg_at, wu_at]
  exact add_comm _ _

/-- The reciprocal root of the rows' mean square. -/
theorem inv (c : Dev nD) (t : Fin cfg0.N) (i : Fin 384) :
    k0_pay5 (iblk m c 2 t) (ix2 i 0) = val_main_v7 (F := Ideal) (arg0 m c) (ix2 (row t i) 0) := by
  pointwise [k0_pay5, val_main_v7, val_main_v6, val_main_v5, val_main_v4, val_main_v3, val_main_v2, val_main_v1, val_main_v0, val_main_cst, val_main_cst_0,
    val_main_cst_1]
  simp only [blk2]

/-- The normalised rows. -/
theorem nrm (c : Dev nD) (t : Fin cfg0.N) (i : Fin 384) (j : Fin 1024) :
    k0_pay6 (iblk m c 2 t) (ix2 i j) = val_main_v12 (F := Ideal) (arg0 m c) (ix2 (row t i) j) := by
  pointwise [k0_pay6, val_main_v12, val_main_v11]
  rw [blk2, inv]

/-- The reference's mean of the squares, its root's reciprocal, and the normalised rows. -/
abbrev MS (X : FVec Ideal S16512x1024 .f32) (r : Fin 16512) : EReal := Cert.Hand.ms fun k => X (ix2 r k)

theorem ref6 (X : FVec Ideal S16512x1024 .f32) (r : Fin 16512) : val_main_v6 (F := Ideal) X (ix2 r 0) = MS X r := by
  pointwise [val_main_v6, val_main_v5, val_main_v4, val_main_v3, val_main_v2, val_main_v1, val_main_v0, val_main_cst, val_main_cst_0, val_main_cst_1]
  rfl

theorem ref7 (X : FVec Ideal S16512x1024 .f32) (r : Fin 16512) : val_main_v7 (F := Ideal) X (ix2 r 0) = Ideal.rsqrt (MS X r) := by
  pointwise [val_main_v7]
  rw [ref6]

theorem ref12 (X : FVec Ideal S16512x1024 .f32) (r : Fin 16512) (j : Fin 1024) :
    val_main_v12 (F := Ideal) X (ix2 r j) = X (ix2 r j) * Ideal.rsqrt (MS X r) := by
  pointwise [val_main_v12, val_main_v11]
  rw [ref7]

theorem point4 (c : Dev nD) (t : Fin cfg0.N) (i : Fin 384) (j : Fin 1024) :
    k0_pay1 (k0_pay7 (iblk m c 0 t) (V m c main_v2) (iblk m c 1 t) (V m c main_v3) (iblk m c 2 t) (V m c main_v4)) (iblk m c 3 t) (ix2 i j)
      = val_main_v41 (F := Ideal) (arg0 m c) (arg1 m c) (arg2 m c) (arg3 m c) (arg4 m c) (arg5 m c) (arg6 m c) (ix2 (row t i) j) := by
  have hs : ∑ k : Fin 1024, k0_pay4 (iblk m c 0 t) (V m c main_v2) (iblk m c 1 t) (V m c main_v3) (ix2 i k) * V m c main_v4 (ix2 0 k)
        * k0_pay6 (iblk m c 2 t) (ix2 i k)
      = ∑ k : Fin 1024, val_main_v20 (F := Ideal) (arg2 m c) (arg3 m c) (arg5 m c) (arg6 m c) (ix2 (row t i) k) * arg1 m c (ix1 k)
        * (arg0 m c (ix2 (row t i) k) * Ideal.rsqrt (MS (arg0 m c) (row t i))) :=
    Finset.sum_congr rfl fun k _ => by rw [prodD, V_gain, nrm, ref12]
  pointwise [k0_pay1, k0_pay7, val_main_v41, val_main_v40, val_main_v39, val_main_v38, val_main_v37, val_main_v36, val_main_v35, val_main_v34, val_main_v33,
    val_main_v32, val_main_v31, val_main_v30, val_main_v29, val_main_v28, val_main_v27, val_main_v25, val_main_v24, val_main_v13, val_main_v10, val_main_v9,
    val_main_v8, val_main_cst_2, val_main_cst_5, val_main_cst_6, val_main_cst_7]
  rw [blk3, prodD, nrm, inv, V_gain, ref7, ref12]
  refine (congrArg (fun z => arg4 m c (ix2 (row t i) j) + Ideal.rsqrt (MS (arg0 m c) (row t i))
    * (val_main_v20 (F := Ideal) (arg2 m c) (arg3 m c) (arg5 m c) (arg6 m c) (ix2 (row t i) j) * arg1 m c (ix1 j)
      - arg0 m c (ix2 (row t i) j) * Ideal.rsqrt (MS (arg0 m c) (row t i)) * Ideal.div z (Ideal.ofBits .f32 0x44800000#32))) hs).trans ?_
  refine (Cert.Hand.rms_grad (fun k => arg0 m c (ix2 (row t i) k))
    (fun k => val_main_v20 (F := Ideal) (arg2 m c) (arg3 m c) (arg5 m c) (arg6 m c) (ix2 (row t i) k) * arg1 m c (ix1 k)) (arg4 m c (ix2 (row t i) j)) j).trans ?_
  have hz : ∑ x : Fin 1, Ideal.div ((∑ k : Fin 1024, arg0 m c (ix2 (row t i) k)
        * (val_main_v20 (F := Ideal) (arg2 m c) (arg3 m c) (arg5 m c) (arg6 m c) (ix2 (row t i) k) * arg1 m c (ix1 k)))
        * (Ideal.ofBits .f32 0xBF000000#32 * Ideal.div (val_main_v7 (F := Ideal) (arg0 m c) (ix2 (row t i) x)) (val_main_v6 (F := Ideal) (arg0 m c) (ix2 (row t i) x))))
        (Ideal.ofBits .f32 0x44800000#32)
      = ∑ _x : Fin 1, Ideal.div ((∑ k : Fin 1024, arg0 m c (ix2 (row t i) k)
        * (val_main_v20 (F := Ideal) (arg2 m c) (arg3 m c) (arg5 m c) (arg6 m c) (ix2 (row t i) k) * arg1 m c (ix1 k)))
        * (Ideal.ofBits .f32 0xBF000000#32 * Ideal.div (Ideal.rsqrt (MS (arg0 m c) (row t i))) (MS (arg0 m c) (row t i))))
        (Ideal.ofBits .f32 0x44800000#32) :=
    Finset.sum_congr rfl fun x _ => by rw [Subsingleton.elim x 0, ref7, ref6]
  exact congrArg (fun z => arg4 m c (ix2 (row t i) j) + val_main_v20 (F := Ideal) (arg2 m c) (arg3 m c) (arg5 m c) (arg6 m c) (ix2 (row t i) j) * arg1 m c (ix1 j)
    * Ideal.rsqrt (MS (arg0 m c) (row t i)) + arg0 m c (ix2 (row t i) j) * z + z * arg0 m c (ix2 (row t i) j)) hz.symm

/-- One block's part of the gradient of the gain. -/
theorem pay3 (a b : Vec Ideal S384x2816 .bf16) (u v : Vec Ideal S1024x2816 .bf16) (x : Vec Ideal S384x1024 .f32) (acc : Vec Ideal S1x1024 .f32) (j : S1x1024.Idx) :
    k0_pay3 (k0_pay8 a u b v x) acc j = acc j + ∑ k : Fin 384, k0_pay6 x (ix2 k (j 1)) * k0_pay4 a u b v (ix2 k (j 1)) := by
  pointwise [k0_pay3, k0_pay8]
  exact congrArg (acc j + ·) (Finset.sum_congr rfl fun k _ => mul_comm _ _)

/-- The sum starts from zero. -/
theorem pay2 (j : S1x1024.Idx) : k0_pay2 (F := Ideal) j = 0 := by
  pointwise [k0_pay2]

theorem final5 (c : Dev nD) : (dats m 0 c).arrAt 5 cfg0.N = val_main_v42 (F := Ideal) (arg0 m c) (arg2 m c) (arg3 m c) (arg5 m c) (arg6 m c) := by
  refine (dats m 0 c).arrAt_eq_of_covers 5 _ (by decide +kernel) fun t hf y => ?_
  obtain ⟨i, j, rfl⟩ : ∃ (i : Fin 1) (j : Fin 1024), y = ix2 i j := ⟨y 0, y 1, ValueIdx.eq_ix2 y⟩
  have e : ((cfg0.win 5).blk t).view.emb (ix2 i j) = ix2 i j := by
    blk_ext [idx t]
  rw [e]
  clear e
  blk_simp
  rw [after0_5]
  rw [Pipeline.eq_sum_fin_of_reset_step_apply_of_flush (fun n h => (outsAt0 m c n h).2.1) 43 (fun _ => 0)
    (fun t j => ∑ k : Fin 384, k0_pay6 (iblk m c 2 t) (ix2 k (j 1)) * k0_pay4 (iblk m c 0 t) (V m c main_v2) (iblk m c 1 t) (V m c main_v3) (ix2 k (j 1)))
    (fun t h j => by
      rw [outsAt0_A m c t h h]
      dsimp only
      frame_out
      simp only [Cert.Hand.readCov_whole (S := S1024x2816) _ zero2]
      refine (pay3 _ _ _ _ _ _ _).trans ?_
      rw [pay2]
      rfl)
    (fun t h j => by
      rw [outsAt0_B m c t h h]
      dsimp only
      frame_out
      simp only [carried, read_unread_whole]
      exact pay3 _ _ _ _ _ _ _) t ((flush0_5 t).mp hf) _, zero_add]
  pointwise [val_main_v42, val_main_v26, val_main_v23, val_main_v22, val_main_v21, val_main_cst_3, val_main_cst_4]
  refine (Fin.sum_mul_add_congr (L := 16512) (S := 43) (n := 384)
    (f := fun l : Fin 16512 => val_main_v12 (F := Ideal) (arg0 m c) (ix2 l j) * val_main_v20 (F := Ideal) (arg2 m c) (arg3 m c) (arg5 m c) (arg6 m c) (ix2 l j))
    fun s k hl => ?_).trans (Fin.sum_univ_one fun _ : Fin 1 => ∑ l : Fin 16512,
      val_main_v12 (F := Ideal) (arg0 m c) (ix2 l j) * val_main_v20 (F := Ideal) (arg2 m c) (arg3 m c) (arg5 m c) (arg6 m c) (ix2 l j)).symm
  have hr : ∀ h, row ⟨43 * (t.val / 43) + s.val, h⟩ k = ⟨s.val * 384 + k.val, hl⟩ := fun h => Fin.ext (by
    have h1 : t.val < cfg0.N := t.isLt
    have h2 : cfg0.N = 43 := by decide +kernel
    have h3 : t.val / 43 = 0 := by omega
    show (43 * (t.val / 43) + s.val) * 384 + k.val = s.val * 384 + k.val
    omega)
  dsimp only
  rw [prodD, nrm, hr]

theorem final4 (c : Dev nD) : (dats m 0 c).arrAt 4 cfg0.N
    = val_main_v41 (F := Ideal) (arg0 m c) (arg1 m c) (arg2 m c) (arg3 m c) (arg4 m c) (arg5 m c) (arg6 m c) := by
  refine (dats m 0 c).arrAt_eq_of_covers 4 _ (by decide +kernel) fun t hf y => ?_
  obtain ⟨i, j, rfl⟩ : ∃ (i : Fin 384) (j : Fin 1024), y = ix2 i j := ⟨y 0, y 1, ValueIdx.eq_ix2 y⟩
  have e : ((cfg0.win 4).blk t).view.emb (ix2 i j) = ix2 (row t i) j := by
    blk_ext [idx t]
  rw [e]
  blk_simp
  rw [after0_4]
  by_cases h0 : t.val % 43 = 0
  · rw [outsAt0_A m c t h0 h0]
    dsimp only
    frame_out
    simp only [Cert.Hand.readCov_whole (S := S1024x2816) _ zero2, Cert.Hand.readCov_whole (S := S1x1024) _ zero2]
    exact point4 m c t i j
  · rw [outsAt0_B m c t h0 h0]
    dsimp only
    frame_out
    simp only [carried, read_unread_whole]
    exact point4 m c t i j

/-- The kernel and the reference compute one array at each of the two results. -/
theorem algebraic : Cert.algebraic_Kernel2Ideal_Reference2Ideal := fun m g m' g' _ hag =>
  ⟨fun c => val_main_v41 (F := Ideal) (arg0 m c) (arg1 m c) (arg2 m c) (arg3 m c) (arg4 m c) (arg5 m c) (arg6 m c),
    fun c => val_main_v42 (F := Ideal) (arg0 m c) (arg2 m c) (arg3 m c) (arg5 m c) (arg6 m c),
    (θ_run _ _ _).mono (fun _ h c => ⟨(h c).1.trans (final4 m c), (h c).2.1.trans (final5 m c), (h c).2.2⟩)
      (Cert.Kernel2Ideal.Value.run_blocks m g),
    (θ_run _ _ _).mono (fun _ h c => ⟨(h c).1.trans (by rw [val_main_v41_eq, (hag c).1, (hag c).2.1, (hag c).2.2.1, (hag c).2.2.2.1, (hag c).2.2.2.2.1,
        (hag c).2.2.2.2.2.1, (hag c).2.2.2.2.2.2]),
      (h c).2.1.trans (by rw [(hag c).1, (hag c).2.2.1, (hag c).2.2.2.1, (hag c).2.2.2.2.2.1, (hag c).2.2.2.2.2.2]; rfl), (h c).2.2⟩)
      (Cert.Reference2Ideal.Value.run m' g')⟩

end Cert.Kernel2Ideal.Hand

end
-- ==== Proof.Dwd.lean ====
/- The gradient of the down projection's weights: eight row tiles added into each half of the result, against one product. -/
module

public import proofs.«01_k».proof.Proof.Gen.Kernel3Ideal.Value
public import proofs.«01_k».proof.Proof.Gen.Reference3Ideal.Run
public import proofs.«01_k».proof.Proof.Gen.Reference3Ideal.Read
public import proofs.«01_k».proof.Defs
public import proofs.«01_k».proof.Proof.Common

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the windows, at every point. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

abbrev arg0 (c : Dev nD) := m ((c : Thread nD τ).loc main_arg0)
abbrev arg1 (c : Dev nD) := m ((c : Thread nD τ).loc main_arg1)
abbrev arg2 (c : Dev nD) := m ((c : Thread nD τ).loc main_arg2)

/-- The activation, as the reference has it. -/
abbrev ACT (c : Dev nD) : FVec Ideal S16512x2816 .f32 := Cert.Reference3Ideal.Read.val_main_v1 (F := Ideal) (arg0 m c) (arg1 m c)

theorem V_act (c : Dev nD) : V m c main_v2 = truncf .bf16 (ACT m c) bitsLt_bf16_f32 := by
  entry_read
  rfl

/-- The sum of the row tiles so far grows by the tile's product. -/
theorem pay2 (x : Vec Ideal S2064x1024 .f32) (acc : Vec Ideal S1408x1024 .f32) (z : Vec Ideal S2064x1408 .bf16) (j : S1408x1024.Idx) :
    k0_pay2 x acc z j = acc j + ∑ k : Fin 2064, z (ix2 k (j 0)) * (x (ix2 k (j 1)) * Ideal.ofBits .f32 0x3F000000#32) := by
  pointwise [k0_pay2]

/-- The sum starts from zero. -/
theorem pay1 (j : S1408x1024.Idx) : k0_pay1 (F := Ideal) j = 0 := by
  pointwise [k0_pay1]

abbrev REF (X0 X1 : FVec Ideal S16512x2816 .f32) (X2 : FVec Ideal S16512x1024 .f32) : FVec Ideal S2816x1024 .f32 :=
  Cert.Reference3Ideal.Read.val_main_v9 (F := Ideal) X0 X1 X2

theorem final (c : Dev nD) : (dats m 0 c).arrAt 2 cfg0.N = REF (arg0 m c) (arg1 m c) (arg2 m c) := by
  refine (dats m 0 c).arrAt_eq_of_covers 2 _ (by decide +kernel) fun t hf y => ?_
  blk_simp
  rw [after0_2]
  rw [Pipeline.eq_sum_fin_of_reset_step_apply_of_flush (fun n h => outsAt0 m c n h) 8 (fun _ => 0) _
    (fun t h j => by rw [outsAt0_A m c t h]; frame_out; rw [pay2, pay1])
    (fun t h j => by rw [outsAt0_B m c t h]; frame_out; rw [pay2]) t ((flush0_2 t).mp hf) _, zero_add]
  pointwise [REF, Cert.Reference3Ideal.Read.val_main_v9, Cert.Reference3Ideal.Read.val_main_v8, Cert.Reference3Ideal.Read.val_main_v7,
    Cert.Reference3Ideal.Read.val_main_v6, Cert.Reference3Ideal.Read.val_main_cst_1]
  refine Fin.sum_mul_add_congr fun s k hl => ?_
  blk_point [iblk, V_act, V, idx ⟨_, Pipeline.run_point_lt_of_flush t ((flush0_2 t).mp hf) s⟩, idx t]

/-- The kernel and the reference compute one array. -/
theorem algebraic : Cert.algebraic_Kernel3Ideal_Reference3Ideal := fun m g m' g' _ hag =>
  ⟨fun c => REF (arg0 m c) (arg1 m c) (arg2 m c),
    (θ_run _ _ _).mono (fun _ h c => ⟨(h c).1.trans (final m c), (h c).2⟩) (Cert.Kernel3Ideal.Value.run_blocks m g),
    (θ_run _ _ _).mono (fun _ h c => ⟨(h c).1.trans (by rw [(hag c).1, (hag c).2.1, (hag c).2.2]; rfl), (h c).2⟩)
      (Cert.Reference3Ideal.Value.run m' g')⟩

end Cert.Kernel3Ideal.Hand

end
-- ==== Proof.Dwg.lean ====
/- The gradient of the gate projection's weights: eight row tiles added into each half of the result, against one product. -/
module

public import proofs.«01_k».proof.Proof.Gen.Kernel4Ideal.Value
public import proofs.«01_k».proof.Proof.Gen.Reference4Ideal.Run
public import proofs.«01_k».proof.Proof.Gen.Reference4Ideal.Read
public import proofs.«01_k».proof.Defs
public import proofs.«01_k».proof.Proof.Common

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the windows, at every point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

abbrev arg0 (c : Dev nD) := m ((c : Thread nD τ).loc main_arg0)
abbrev arg1 (c : Dev nD) := m ((c : Thread nD τ).loc main_arg1)
abbrev arg2 (c : Dev nD) := m ((c : Thread nD τ).loc main_arg2)

/-- The normalised rows, as the reference has them. -/
abbrev NRM (c : Dev nD) : FVec Ideal S16512x1024 .f32 := Cert.Reference4Ideal.Read.val_main_v12 (F := Ideal) (arg0 m c) (arg1 m c)

theorem V_nrm (c : Dev nD) : V m c main_v13 = truncf .bf16 (NRM m c) bitsLt_bf16_f32 := by
  entry_read
  rfl

/-- The sum of the row tiles so far grows by the tile's product. -/
theorem pay2 (x : Vec Ideal S2064x1408 .bf16) (acc : Vec Ideal S1024x1408 .f32) (z : Vec Ideal S2064x1024 .bf16) (j : S1024x1408.Idx) :
    k0_pay2 x acc z j = acc j + ∑ k : Fin 2064, x (ix2 k (j 1)) * z (ix2 k (j 0)) := by
  pointwise [k0_pay2]
  exact congrArg _ (Finset.sum_congr rfl fun k _ => mul_comm _ _)

/-- The sum starts from zero. -/
theorem pay1 (j : S1024x1408.Idx) : k0_pay1 (F := Ideal) j = 0 := by
  pointwise [k0_pay1]

abbrev REF (X0 : FVec Ideal S16512x1024 .f32) (X1 : FVec Ideal S1024 .f32) (X2 : FVec Ideal S16512x2816 .f32) : FVec Ideal S1024x2816 .f32 :=
  Cert.Reference4Ideal.Read.val_main_v16 (F := Ideal) X0 X1 X2

theorem final (c : Dev nD) : (dats m 0 c).arrAt 2 cfg0.N = REF (arg0 m c) (arg1 m c) (arg2 m c) := by
  refine (dats m 0 c).arrAt_eq_of_covers 2 _ (by decide +kernel) fun t hf y => ?_
  blk_simp
  rw [after0_2]
  rw [Pipeline.eq_sum_fin_of_reset_step_apply_of_flush (fun n h => outsAt0 m c n h) 8 (fun _ => 0) _
    (fun t h j => by rw [outsAt0_A m c t h]; frame_out; rw [pay2, pay1])
    (fun t h j => by rw [outsAt0_B m c t h]; frame_out; rw [pay2]) t ((flush0_2 t).mp hf) _, zero_add]
  pointwise [REF, Cert.Reference4Ideal.Read.val_main_v16, Cert.Reference4Ideal.Read.val_main_v15]
  refine Fin.sum_mul_add_congr fun s k hl => ?_
  blk_point [iblk, V_nrm, V, idx ⟨_, Pipeline.run_point_lt_of_flush t ((flush0_2 t).mp hf) s⟩, idx t]

/-- The kernel and the reference compute one array. -/
theorem algebraic : Cert.algebraic_Kernel4Ideal_Reference4Ideal := fun m g m' g' _ hag =>
  ⟨fun c => REF (arg0 m c) (arg1 m c) (arg2 m c),
    (θ_run _ _ _).mono (fun _ h c => ⟨(h c).1.trans (final m c), (h c).2⟩) (Cert.Kernel4Ideal.Value.run_blocks m g),
    (θ_run _ _ _).mono (fun _ h c => ⟨(h c).1.trans (by rw [(hag c).1, (hag c).2.1, (hag c).2.2]; rfl), (h c).2⟩)
      (Cert.Reference4Ideal.Value.run m' g')⟩

end Cert.Kernel4Ideal.Hand

end
-- ==== Proof.Up.lean ====
/- The forward up projections with the gate: rows normalised, two products, and the gate's function and derivative. -/
module

public import proofs.«01_k».proof.Proof.Gen.Kernel5Ideal.Value
public import proofs.«01_k».proof.Proof.Gen.Reference5Ideal.Run
public import proofs.«01_k».proof.Proof.Gen.Reference5Ideal.Read
public import proofs.«01_k».proof.Defs
public import proofs.«01_k».proof.Proof.Common

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the windows, at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N, _)

theorem zero2 : (![0, 0] : Fin 2 → ℕ) = fun _ => 0 := by decide

/-- The weights and the gain lie in the carried scratch after every point, as the first point copied them. -/
theorem carried (c : Dev nD) : ∀ (n : ℕ) (h : n < cfg0.N), (outsAt0 m c n h).2.2.2.2.2 = (V m c main_v1, V m c main_v2, V m c main_v0)
  | 0, h => by
    rw [outsAt0_A m c ⟨0, h⟩ rfl]
    refine Prod.ext ?_ (Prod.ext ?_ ?_) <;> (funext y; dsimp only; frame_out; rw [Cert.Hand.canon_whole]; rfl)
  | n + 1, h => by
    have hN := lt_of_lt_of_eq h (show cfg0.N = 86 from N_0)
    rw [outsAt0_B m c ⟨n + 1, h⟩ (by dsimp only; omega)]
    dsimp only
    unfold sout0_B_0 sout0_B_1 sout0_B_2
    exact carried c n _

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

open Cert.Reference5Ideal.Read

/-- The row of the array that row `i` of point `t`'s block is. -/
abbrev row (t : Fin cfg0.N) (i : Fin 192) : Fin 16512 :=
  ⟨t.val * 192 + i.val, by have := lt_of_lt_of_eq t.isLt (show cfg0.N = 86 from N_0); omega⟩

theorem V_gain (c : Dev nD) (j : Fin 1024) : V m c main_v0 (ix2 0 j) = arg1 m c (ix1 j) := by
  entry_read
  pointwise

theorem V_wg (c : Dev nD) : V m c main_v1 = truncf (F := Ideal) .bf16 (arg2 m c : FVec Ideal S1024x2816 .f32) bitsLt_bf16_f32 := by
  entry_read
  rfl

theorem V_wu (c : Dev nD) : V m c main_v2 = truncf (F := Ideal) .bf16 (arg3 m c : FVec Ideal S1024x2816 .f32) bitsLt_bf16_f32 := by
  entry_read
  rfl

/-- The normalised rows. -/
theorem nrm (c : Dev nD) (t : Fin cfg0.N) (i : Fin 192) (j : Fin 1024) :
    k0_pay3 (iblk m c 0 t) (V m c main_v0) (ix2 i j) = val_main_v12 (F := Ideal) (arg0 m c) (arg1 m c) (ix2 (row t i) j) := by
  pointwise [k0_pay3, val_main_v12, val_main_v11, val_main_v10, val_main_v9, val_main_v8, val_main_v7, val_main_v6, val_main_v5, val_main_v4, val_main_v3,
    val_main_v2, val_main_v1, val_main_v0, val_main_cst, val_main_cst_0, val_main_cst_1]
  rw [V_gain]
  blk_point [iblk, V, idx t]

/-- The gate's argument. -/
theorem prodA (c : Dev nD) (t : Fin cfg0.N) (i : Fin 192) (j : Fin 2816) :
    k0_pay4 (iblk m c 0 t) (V m c main_v0) (V m c main_v1) (ix2 i j) = val_main_v13 (F := Ideal) (arg0 m c) (arg1 m c) (arg2 m c) (ix2 (row t i) j) := by
  pointwise [k0_pay4, val_main_v13]
  exact Finset.sum_congr rfl fun k _ => by rw [nrm, V_wg]; rfl

/-- The other factor. -/
theorem prodB (c : Dev nD) (t : Fin cfg0.N) (i : Fin 192) (j : Fin 2816) :
    k0_pay5 (iblk m c 0 t) (V m c main_v0) (V m c main_v2) (ix2 i j) = val_main_v14 (F := Ideal) (arg0 m c) (arg1 m c) (arg3 m c) (ix2 (row t i) j) := by
  pointwise [k0_pay5, val_main_v14]
  exact Finset.sum_congr rfl fun k _ => by rw [nrm, V_wu]; rfl

/-- The logistic function of the gate's argument, in the reference. -/
theorem refSg (x0 : FVec Ideal S16512x1024 .f32) (x1 : FVec Ideal S1024 .f32) (x2 : FVec Ideal S1024x2816 .f32) (j : S16512x2816.Idx) :
    val_main_v15_2 (F := Ideal) x0 x1 x2 j = Cert.Hand.sg (val_main_v13 (F := Ideal) x0 x1 x2 j) := by
  pointwise [val_main_v15_2, val_main_call0_v4, val_main_call0_v3, val_main_call0_v2, val_main_call0_v1, val_main_call0_v0, val_main_call0_cst,
    val_main_call0_cst_0]
  rfl

/-- The logistic function of the gate's argument, in the kernel. -/
theorem kerSg (x : Vec Ideal S192x1024 .f32) (g : Vec Ideal S1x1024 .f32) (w : Vec Ideal S1024x2816 .bf16) (j : S192x2816.Idx) :
    k0_pay6 x g w j = Cert.Hand.sg (k0_pay4 x g w j) := by
  pointwise [k0_pay6]
  exact Cert.Hand.tanh_half _

theorem point1 (c : Dev nD) (t : Fin cfg0.N) (i : Fin 192) (j : Fin 1024) :
    k0_pay3 (iblk m c 0 t) (V m c main_v0) (ix2 i j) = val_main_v19 (F := Ideal) (arg0 m c) (arg1 m c) (ix2 (row t i) j) := by
  rw [nrm]
  rfl

theorem point2 (c : Dev nD) (t : Fin cfg0.N) (i : Fin 192) (j : Fin 2816) :
    k0_pay8 (iblk m c 0 t) (V m c main_v0) (V m c main_v2) (ix2 i j)
      = val_main_v20 (F := Ideal) (arg0 m c) (arg1 m c) (arg3 m c) (ix2 (row t i) j) := by
  pointwise [k0_pay8, val_main_v20]
  exact prodB m c t _ _

theorem point3 (c : Dev nD) (t : Fin cfg0.N) (i : Fin 192) (j : Fin 2816) :
    k0_pay9 (iblk m c 0 t) (V m c main_v0) (V m c main_v1) (ix2 i j)
      = val_main_v21 (F := Ideal) (arg0 m c) (arg1 m c) (arg2 m c) (ix2 (row t i) j) := by
  pointwise [k0_pay9, k0_pay7, val_main_v21, val_main_v15_0]
  rw [refSg, kerSg, prodA]

theorem point4 (c : Dev nD) (t : Fin cfg0.N) (i : Fin 192) (j : Fin 2816) :
    k0_pay1 (k0_pay4 (iblk m c 0 t) (V m c main_v0) (V m c main_v1)) (k0_pay6 (iblk m c 0 t) (V m c main_v0) (V m c main_v1)) (ix2 i j)
      = val_main_v22 (F := Ideal) (arg0 m c) (arg1 m c) (arg2 m c) (ix2 (row t i) j) := by
  pointwise [k0_pay1, val_main_v22, val_main_v17, val_main_call1_v1, val_main_call1_v2, val_main_call1_v0, val_main_v16, val_main_cst_2, val_main_v15_1,
    val_main_call0_v7, val_main_call0_v6, val_main_call0_cst_1]
  rw [refSg, kerSg, prodA]
  exact Cert.Hand.dsilu _

theorem point5 (c : Dev nD) (t : Fin cfg0.N) (i : Fin 192) (j : Fin 2816) :
    k0_pay2 (k0_pay5 (iblk m c 0 t) (V m c main_v0) (V m c main_v2)) (k0_pay7 (iblk m c 0 t) (V m c main_v0) (V m c main_v1)) (ix2 i j)
      = val_main_v23 (F := Ideal) (arg0 m c) (arg1 m c) (arg2 m c) (arg3 m c) (ix2 (row t i) j) := by
  pointwise [k0_pay2, k0_pay7, val_main_v23, val_main_v18, val_main_v15_0]
  rw [refSg, kerSg, prodA, prodB]

theorem final1 (c : Dev nD) : (dats m 0 c).arrAt 1 cfg0.N = val_main_v19 (F := Ideal) (arg0 m c) (arg1 m c) := by
  refine (dats m 0 c).arrAt_eq_of_covers 1 _ (by decide +kernel) fun t hf y => ?_
  obtain ⟨i, j, rfl⟩ : ∃ (i : Fin 192) (j : Fin 1024), y = ix2 i j := ⟨y 0, y 1, ValueIdx.eq_ix2 y⟩
  have e : ((cfg0.win 1).blk t).view.emb (ix2 i j) = ix2 (row t i) j := by
    blk_ext [idx t]
  rw [e]
  blk_simp
  rw [after0_1]
  by_cases h0 : t.val % 86 = 0
  · rw [outsAt0_A m c t h0]
    dsimp only
    frame_out
    simp only [Cert.Hand.readCov_whole (S := S1024x2816) _ zero2, Cert.Hand.readCov_whole (S := S1x1024) _ zero2]
    exact point1 m c t i j
  · rw [outsAt0_B m c t h0]
    dsimp only
    frame_out
    simp only [carried, read_unread_whole]
    exact point1 m c t i j

theorem final2 (c : Dev nD) : (dats m 0 c).arrAt 2 cfg0.N = val_main_v20 (F := Ideal) (arg0 m c) (arg1 m c) (arg3 m c) := by
  refine (dats m 0 c).arrAt_eq_of_covers 2 _ (by decide +kernel) fun t hf y => ?_
  obtain ⟨i, j, rfl⟩ : ∃ (i : Fin 192) (j : Fin 2816), y = ix2 i j := ⟨y 0, y 1, ValueIdx.eq_ix2 y⟩
  have e : ((cfg0.win 2).blk t).view.emb (ix2 i j) = ix2 (row t i) j := by
    blk_ext [idx t]
  rw [e]
  blk_simp
  rw [after0_2]
  by_cases h0 : t.val % 86 = 0
  · rw [outsAt0_A m c t h0]
    dsimp only
    frame_out
    simp only [Cert.Hand.readCov_whole (S := S1024x2816) _ zero2, Cert.Hand.readCov_whole (S := S1x1024) _ zero2]
    exact point2 m c t i j
  · rw [outsAt0_B m c t h0]
    dsimp only
    frame_out
    simp only [carried, read_unread_whole]
    exact point2 m c t i j

theorem final3 (c : Dev nD) : (dats m 0 c).arrAt 3 cfg0.N = val_main_v21 (F := Ideal) (arg0 m c) (arg1 m c) (arg2 m c) := by
  refine (dats m 0 c).arrAt_eq_of_covers 3 _ (by decide +kernel) fun t hf y => ?_
  obtain ⟨i, j, rfl⟩ : ∃ (i : Fin 192) (j : Fin 2816), y = ix2 i j := ⟨y 0, y 1, ValueIdx.eq_ix2 y⟩
  have e : ((cfg0.win 3).blk t).view.emb (ix2 i j) = ix2 (row t i) j := by
    blk_ext [idx t]
  rw [e]
  blk_simp
  rw [after0_3]
  by_cases h0 : t.val % 86 = 0
  · rw [outsAt0_A m c t h0]
    dsimp only
    frame_out
    simp only [Cert.Hand.readCov_whole (S := S1024x2816) _ zero2, Cert.Hand.readCov_whole (S := S1x1024) _ zero2]
    exact point3 m c t i j
  · rw [outsAt0_B m c t h0]
    dsimp only
    frame_out
    simp only [carried, read_unread_whole]
    exact point3 m c t i j

theorem final4 (c : Dev nD) : (dats m 0 c).arrAt 4 cfg0.N = val_main_v22 (F := Ideal) (arg0 m c) (arg1 m c) (arg2 m c) := by
  refine (dats m 0 c).arrAt_eq_of_covers 4 _ (by decide +kernel) fun t hf y => ?_
  obtain ⟨i, j, rfl⟩ : ∃ (i : Fin 192) (j : Fin 2816), y = ix2 i j := ⟨y 0, y 1, ValueIdx.eq_ix2 y⟩
  have e : ((cfg0.win 4).blk t).view.emb (ix2 i j) = ix2 (row t i) j := by
    blk_ext [idx t]
  rw [e]
  blk_simp
  rw [after0_4]
  by_cases h0 : t.val % 86 = 0
  · rw [outsAt0_A m c t h0]
    dsimp only
    frame_out
    simp only [Cert.Hand.readCov_whole (S := S1024x2816) _ zero2, Cert.Hand.readCov_whole (S := S1x1024) _ zero2]
    exact point4 m c t i j
  · rw [outsAt0_B m c t h0]
    dsimp only
    frame_out
    simp only [carried, read_unread_whole]
    exact point4 m c t i j

theorem final5 (c : Dev nD) : (dats m 0 c).arrAt 5 cfg0.N = val_main_v23 (F := Ideal) (arg0 m c) (arg1 m c) (arg2 m c) (arg3 m c) := by
  refine (dats m 0 c).arrAt_eq_of_covers 5 _ (by decide +kernel) fun t hf y => ?_
  obtain ⟨i, j, rfl⟩ : ∃ (i : Fin 192) (j : Fin 2816), y = ix2 i j := ⟨y 0, y 1, ValueIdx.eq_ix2 y⟩
  have e : ((cfg0.win 5).blk t).view.emb (ix2 i j) = ix2 (row t i) j := by
    blk_ext [idx t]
  rw [e]
  blk_simp
  rw [after0_5]
  by_cases h0 : t.val % 86 = 0
  · rw [outsAt0_A m c t h0]
    dsimp only
    frame_out
    simp only [Cert.Hand.readCov_whole (S := S1024x2816) _ zero2, Cert.Hand.readCov_whole (S := S1x1024) _ zero2]
    exact point5 m c t i j
  · rw [outsAt0_B m c t h0]
    dsimp only
    frame_out
    simp only [carried, read_unread_whole]
    exact point5 m c t i j

/-- The kernel and the reference compute one array at each of the five results. -/
theorem algebraic : Cert.algebraic_Kernel5Ideal_Reference5Ideal := fun m g m' g' _ hag =>
  ⟨fun c => val_main_v19 (F := Ideal) (arg0 m c) (arg1 m c), fun c => val_main_v20 (F := Ideal) (arg0 m c) (arg1 m c) (arg3 m c),
    fun c => val_main_v21 (F := Ideal) (arg0 m c) (arg1 m c) (arg2 m c), fun c => val_main_v22 (F := Ideal) (arg0 m c) (arg1 m c) (arg2 m c),
    fun c => val_main_v23 (F := Ideal) (arg0 m c) (arg1 m c) (arg2 m c) (arg3 m c),
    (θ_run _ _ _).mono (fun _ h c => ⟨(h c).1.trans (final1 m c), (h c).2.1.trans (final2 m c), (h c).2.2.1.trans (final3 m c),
      (h c).2.2.2.1.trans (final4 m c), (h c).2.2.2.2.1.trans (final5 m c), (h c).2.2.2.2.2⟩) (Cert.Kernel5Ideal.Value.run_blocks m g),
    (θ_run _ _ _).mono (fun _ h c => ⟨(h c).1.trans (by rw [(hag c).1, (hag c).2.1]; rfl),
      (h c).2.1.trans (by rw [(hag c).1, (hag c).2.1, (hag c).2.2.2]; rfl), (h c).2.2.1.trans (by rw [(hag c).1, (hag c).2.1, (hag c).2.2.1]; rfl),
      (h c).2.2.2.1.trans (by rw [val_main_v22_eq, (hag c).1, (hag c).2.1, (hag c).2.2.1]),
      (h c).2.2.2.2.1.trans (by rw [(hag c).1, (hag c).2.1, (hag c).2.2.1, (hag c).2.2.2]; rfl), (h c).2.2.2.2.2⟩)
      (Cert.Reference5Ideal.Value.run m' g')⟩

end Cert.Kernel5Ideal.Hand

end
-- ==== Proof.Down.lean ====
/- The forward down projection `h + 0.5 · (act · wd)`: the result array after the run is the reference's term. -/
module

public import proofs.«01_k».proof.Proof.Gen.Kernel6Ideal.Value
public import proofs.«01_k».proof.Proof.Gen.Reference6Ideal.Run
public import proofs.«01_k».proof.Proof.Gen.Reference6Ideal.Read
public import proofs.«01_k».proof.Defs
public import proofs.«01_k».proof.Proof.Common

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the windows, at every point. -/
theorem idx : ∀ t : Fin cfg0.N, win0_0.index t = ![t.val, 0] ∧ win0_1.index t = ![t.val, 0] ∧ win0_2.index t = ![t.val, 0] :=
  (by decide +kernel : ∀ t : Fin grid0.N, _)

theorem zero2 : (![0, 0] : Fin 2 → ℕ) = fun _ => 0 := by decide

/-- The weights lie in the carried scratch after every point, as the first point copied them. -/
theorem carried (c : Dev nD) : ∀ (n : ℕ) (h : n < cfg0.N), (outsAt0 m c n h).2 = V m c main_v1
  | 0, h => by
    rw [outsAt0_A m c ⟨0, h⟩ rfl]
    funext y
    frame_out
    rw [Cert.Hand.canon_whole]
    rfl
  | n + 1, h => by
    have hN := lt_of_lt_of_eq h (show cfg0.N = 43 from N_0)
    rw [outsAt0_B m c ⟨n + 1, h⟩ (by dsimp only; omega)]
    dsimp only
    unfold sout0_B_0
    exact carried c n _

/-- The result array's contents. -/
abbrev REF (X0 : FVec Ideal S16512x2816 .f32) (X1 : FVec Ideal S16512x1024 .f32) (X2 : FVec Ideal S2816x1024 .f32) :
    FVec Ideal S16512x1024 .f32 :=
  Cert.Reference6Ideal.Read.val_main_v3 (F := Ideal) X0 X1 X2

/-- What a point computes is its block of the reference's result. -/
theorem point (c : Dev nD) (t : Fin cfg0.N) (y : S384x1024.Idx) :
    k0_pay1 (iblk m c 1 t) (iblk m c 0 t) (V m c main_v1) y
      = REF (m ((c : Thread nD τ).loc main_arg0)) (m ((c : Thread nD τ).loc main_arg1)) (m ((c : Thread nD τ).loc main_arg2))
          (((View.whole main_v2).slice (win0_2.rect t)).emb y) := by
  pointwise [k0_pay1, REF, Cert.Reference6Ideal.Read.val_main_v3, Cert.Reference6Ideal.Read.val_main_v2, Cert.Reference6Ideal.Read.val_main_v1,
    Cert.Reference6Ideal.Read.val_main_v0, Cert.Reference6Ideal.Read.val_main_cst]
  blk_point [iblk, V, idx t]

theorem final (c : Dev nD) : (dats m 0 c).arrAt 2 cfg0.N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  by_cases h0 : t.val % 43 = 0
  · rw [outsAt0_A m c t h0]
    frame_out
    rw [Cert.Hand.readCov_whole _ zero2]
    exact point m c t y
  · rw [outsAt0_B m c t h0]
    frame_out
    rw [carried, read_unread_whole]
    exact point m c t y

/-- The kernel and the reference compute one array. -/
theorem algebraic : Cert.algebraic_Kernel6Ideal_Reference6Ideal := fun m g m' g' _ hag =>
  ⟨fun c => REF (m ((c : Thread nD τ).loc main_arg0)) (m ((c : Thread nD τ).loc main_arg1)) (m ((c : Thread nD τ).loc main_arg2)),
    (θ_run _ _ _).mono (fun _ h c => ⟨(h c).1.trans (final m c), (h c).2⟩) (Cert.Kernel6Ideal.Value.run_blocks m g),
    (θ_run _ _ _).mono (fun _ h c => ⟨(h c).1.trans (by rw [(hag c).1, (hag c).2.1, (hag c).2.2]; rfl), (h c).2⟩)
      (Cert.Reference6Ideal.Value.run m' g')⟩

end Cert.Kernel6Ideal.Hand

end
-- ==== Proof.MixIn.lean ====
/- The mixer's input projection: rows normalised, and one product. -/
module

public import proofs.«01_k».proof.Proof.Gen.Kernel7Ideal.Value
public import proofs.«01_k».proof.Proof.Gen.Reference7Ideal.Run
public import proofs.«01_k».proof.Proof.Gen.Reference7Ideal.Read
public import proofs.«01_k».proof.Defs
public import proofs.«01_k».proof.Proof.Common

@[expose] public section

set_option maxRecDepth 16384

noncomputable section

namespace Cert.Kernel7Ideal.Hand

open Cert.Kernel7Ideal Cert.Kernel7Ideal.Gen Idealize.ShloMosaic Idealize.ShloMosaic.TcCoe Idealize.SL.Sem
open Idealize.ShloMosaic.Pipeline (Dat)
open Cert.Reference7Ideal.Read

variable (m : (ℓ : Loc nD τ sig) → Buf (Elt Ideal) ℓ) (ρ : Dev nD → PrngReg)

/-- The block indices of the windows, at every point. -/
theorem idx : ∀ t : Fin cfg0.N, win0_0.index t = ![t.val, 0] ∧ win0_1.index t = ![t.val, 0] ∧ win0_2.index t = ![t.val, 0] :=
  (by decide +kernel : ∀ t : Fin grid0.N, _)

theorem zero2 : (![0, 0] : Fin 2 → ℕ) = fun _ => 0 := by decide

/-- What the first point copied lies in the carried scratch after every point. -/
theorem carried (c : Dev nD) : ∀ (n : ℕ) (h : n < cfg0.N), (outsAt0 m c n h).2.2 = (V m c main_v1, V m c main_v0)
  | 0, h => by
    rw [outsAt0_A m c ⟨0, h⟩ rfl]
    refine Prod.ext ?_ ?_ <;> (funext y; dsimp only; frame_out; rw [Cert.Hand.canon_whole]; rfl)
  | n + 1, h => by
    have hN := lt_of_lt_of_eq h (show cfg0.N = 43 from N_0)
    rw [outsAt0_B m c ⟨n + 1, h⟩ (by dsimp only; omega)]
    dsimp only
    unfold sout0_B_0 sout0_B_1
    exact carried c n _

abbrev arg0 (c : Dev nD) := m ((c : Thread nD τ).loc main_arg0)
abbrev arg1 (c : Dev nD) := m ((c : Thread nD τ).loc main_arg1)
abbrev arg2 (c : Dev nD) := m ((c : Thread nD τ).loc main_arg2)

/-- The row of the array that row `i` of point `t`'s block is. -/
abbrev row (t : Fin cfg0.N) (i : Fin 384) : Fin 16512 :=
  ⟨t.val * 384 + i.val, by have := lt_of_lt_of_eq t.isLt (show cfg0.N = 43 from N_0); omega⟩

theorem V_gain (c : Dev nD) (j : Fin 1024) : V m c main_v0 (ix2 0 j) = arg1 m c (ix1 j) := by
  entry_read
  pointwise

theorem V_w (c : Dev nD) : V m c main_v1 = truncf (F := Ideal) .bf16 (arg2 m c : FVec Ideal S1024x4096 .f32) bitsLt_bf16_f32 := by
  entry_read
  rfl

/-- The normalised rows. -/
theorem nrm (c : Dev nD) (t : Fin cfg0.N) (i : Fin 384) (j : Fin 1024) :
    k0_pay1 (iblk m c 0 t) (V m c main_v0) (ix2 i j) = val_main_v12 (F := Ideal) (arg0 m c) (arg1 m c) (ix2 (row t i) j) := by
  pointwise [k0_pay1, val_main_v12, val_main_v11, val_main_v10, val_main_v9, val_main_v8, val_main_v7, val_main_v6, val_main_v5, val_main_v4, val_main_v3,
    val_main_v2, val_main_v1, val_main_v0, val_main_cst, val_main_cst_0, val_main_cst_1]
  rw [V_gain]
  blk_point [iblk, V, idx t]

theorem point1 (c : Dev nD) (t : Fin cfg0.N) (i : Fin 384) (j : Fin 1024) :
    k0_pay1 (iblk m c 0 t) (V m c main_v0) (ix2 i j) = val_main_v13 (F := Ideal) (arg0 m c) (arg1 m c) (ix2 (row t i) j) := by
  rw [nrm]
  rfl

theorem point2 (c : Dev nD) (t : Fin cfg0.N) (i : Fin 384) (j : Fin 4096) :
    k0_pay2 (iblk m c 0 t) (V m c main_v0) (V m c main_v1) (ix2 i j)
      = val_main_v14 (F := Ideal) (arg0 m c) (arg1 m c) (arg2 m c) (ix2 (row t i) j) := by
  pointwise [k0_pay2, val_main_v14]
  exact Finset.sum_congr rfl fun k _ => by rw [nrm, V_w]; rfl

theorem final1 (c : Dev nD) : (dats m 0 c).arrAt 1 cfg0.N = val_main_v13 (F := Ideal) (arg0 m c) (arg1 m c) := by
  refine (dats m 0 c).arrAt_eq_of_covers 1 _ (by decide +kernel) fun t hf y => ?_
  obtain ⟨i, j, rfl⟩ : ∃ (i : Fin 384) (j : Fin 1024), y = ix2 i j := ⟨y 0, y 1, ValueIdx.eq_ix2 y⟩
  have e : ((cfg0.win 1).blk t).view.emb (ix2 i j) = ix2 (row t i) j := by
    blk_ext [idx t]
  rw [e]
  blk_simp
  rw [after0_1]
  by_cases h0 : t.val % 43 = 0
  · rw [outsAt0_A m c t h0]
    dsimp only
    frame_out
    simp only [Cert.Hand.readCov_whole (S := S1024x4096) _ zero2, Cert.Hand.readCov_whole (S := S1x1024) _ zero2]
    exact point1 m c t i j
  · rw [outsAt0_B m c t h0]
    dsimp only
    frame_out
    simp only [carried, read_unread_whole]
    exact point1 m c t i j

theorem final2 (c : Dev nD) : (dats m 0 c).arrAt 2 cfg0.N = val_main_v14 (F := Ideal) (arg0 m c) (arg1 m c) (arg2 m c) := by
  refine (dats m 0 c).arrAt_eq_of_covers 2 _ (by decide +kernel) fun t hf y => ?_
  obtain ⟨i, j, rfl⟩ : ∃ (i : Fin 384) (j : Fin 4096), y = ix2 i j := ⟨y 0, y 1, ValueIdx.eq_ix2 y⟩
  have e : ((cfg0.win 2).blk t).view.emb (ix2 i j) = ix2 (row t i) j := by
    blk_ext [idx t]
  rw [e]
  blk_simp
  rw [after0_2]
  by_cases h0 : t.val % 43 = 0
  · rw [outsAt0_A m c t h0]
    dsimp only
    frame_out
    simp only [Cert.Hand.readCov_whole (S := S1024x4096) _ zero2, Cert.Hand.readCov_whole (S := S1x1024) _ zero2]
    exact point2 m c t i j
  · rw [outsAt0_B m c t h0]
    dsimp only
    frame_out
    simp only [carried, read_unread_whole]
    exact point2 m c t i j

/-- The kernel and the reference compute one array at each result. -/
theorem algebraic : Cert.algebraic_Kernel7Ideal_Reference7Ideal := fun m g m' g' _ hag =>
  ⟨fun c => val_main_v13 (F := Ideal) (arg0 m c) (arg1 m c),
    fun c => val_main_v14 (F := Ideal) (arg0 m c) (arg1 m c) (arg2 m c),
    (θ_run _ _ _).mono (fun _ h c => ⟨(h c).1.trans (final1 m c), (h c).2.1.trans (final2 m c), (h c).2.2⟩) (Cert.Kernel7Ideal.Value.run_blocks m g),
    (θ_run _ _ _).mono (fun _ h c => ⟨(h c).1.trans (by rw [(hag c).1, (hag c).2.1]; rfl),
      (h c).2.1.trans (by rw [(hag c).1, (hag c).2.1, (hag c).2.2]; rfl),
      (h c).2.2⟩)
      (Cert.Reference7Ideal.Value.run m' g')⟩

end Cert.Kernel7Ideal.Hand

end
-- ==== Proof.DwIn.lean ====
/- The gradient of the mixer's input projection's weights: eight row tiles added into each half of the result, against one product. -/
module

public import proofs.«01_k».proof.Proof.Gen.Kernel8Ideal.Value
public import proofs.«01_k».proof.Proof.Gen.Reference8Ideal.Run
public import proofs.«01_k».proof.Proof.Gen.Reference8Ideal.Read
public import proofs.«01_k».proof.Defs
public import proofs.«01_k».proof.Proof.Common

@[expose] public section

set_option maxRecDepth 16384

noncomputable section

namespace Cert.Kernel8Ideal.Hand

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the windows, at every point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

abbrev arg0 (c : Dev nD) := m ((c : Thread nD τ).loc main_arg0)
abbrev arg1 (c : Dev nD) := m ((c : Thread nD τ).loc main_arg1)
abbrev arg2 (c : Dev nD) := m ((c : Thread nD τ).loc main_arg2)

/-- The normalised rows, as the reference has them. -/
abbrev NRM (c : Dev nD) : FVec Ideal S16512x1024 .f32 := Cert.Reference8Ideal.Read.val_main_v12 (F := Ideal) (arg0 m c) (arg1 m c)

theorem V_nrm (c : Dev nD) : V m c main_v13 = truncf .bf16 (NRM m c) bitsLt_bf16_f32 := by
  entry_read
  rfl

/-- The sum of the row tiles so far grows by the tile's product. -/
theorem pay2 (x : Vec Ideal S2064x2048 .bf16) (acc : Vec Ideal S1024x2048 .f32) (z : Vec Ideal S2064x1024 .bf16) (j : S1024x2048.Idx) :
    k0_pay2 x acc z j = acc j + ∑ k : Fin 2064, x (ix2 k (j 1)) * z (ix2 k (j 0)) := by
  pointwise [k0_pay2]
  exact congrArg _ (Finset.sum_congr rfl fun k _ => mul_comm _ _)

/-- The sum starts from zero. -/
theorem pay1 (j : S1024x2048.Idx) : k0_pay1 (F := Ideal) j = 0 := by
  pointwise [k0_pay1]

abbrev REF (X0 : FVec Ideal S16512x1024 .f32) (X1 : FVec Ideal S1024 .f32) (X2 : FVec Ideal S16512x4096 .f32) : FVec Ideal S1024x4096 .f32 :=
  Cert.Reference8Ideal.Read.val_main_v16 (F := Ideal) X0 X1 X2

theorem final (c : Dev nD) : (dats m 0 c).arrAt 2 cfg0.N = REF (arg0 m c) (arg1 m c) (arg2 m c) := by
  refine (dats m 0 c).arrAt_eq_of_covers 2 _ (by decide +kernel) fun t hf y => ?_
  blk_simp
  rw [after0_2]
  rw [Pipeline.eq_sum_fin_of_reset_step_apply_of_flush (fun n h => outsAt0 m c n h) 8 (fun _ => 0) _
    (fun t h j => by rw [outsAt0_A m c t h]; frame_out; rw [pay2, pay1])
    (fun t h j => by rw [outsAt0_B m c t h]; frame_out; rw [pay2]) t ((flush0_2 t).mp hf) _, zero_add]
  pointwise [REF, Cert.Reference8Ideal.Read.val_main_v16, Cert.Reference8Ideal.Read.val_main_v15]
  refine Fin.sum_mul_add_congr fun s k hl => ?_
  blk_point [iblk, V_nrm, V, idx ⟨_, Pipeline.run_point_lt_of_flush t ((flush0_2 t).mp hf) s⟩, idx t]

/-- The kernel and the reference compute one array. -/
theorem algebraic : Cert.algebraic_Kernel8Ideal_Reference8Ideal := fun m g m' g' _ hag =>
  ⟨fun c => REF (arg0 m c) (arg1 m c) (arg2 m c),
    (θ_run _ _ _).mono (fun _ h c => ⟨(h c).1.trans (final m c), (h c).2⟩) (Cert.Kernel8Ideal.Value.run_blocks m g),
    (θ_run _ _ _).mono (fun _ h c => ⟨(h c).1.trans (by rw [(hag c).1, (hag c).2.1, (hag c).2.2]; rfl), (h c).2⟩)
      (Cert.Reference8Ideal.Value.run m' g')⟩

end Cert.Kernel8Ideal.Hand

end
-- ==== Proof.DwOut.lean ====
/- The gradient of the output projection's weights. -/
module

public import proofs.«01_k».proof.Proof.Gen.Kernel9Ideal.Value
public import proofs.«01_k».proof.Proof.Gen.Reference9Ideal.Run
public import proofs.«01_k».proof.Proof.Gen.Reference9Ideal.Read
public import proofs.«01_k».proof.Defs
public import proofs.«01_k».proof.Proof.Common

@[expose] public section

set_option maxRecDepth 16384

noncomputable section

namespace Cert.Kernel9Ideal.Hand

open Cert.Kernel9Ideal Cert.Kernel9Ideal.Gen Idealize.ShloMosaic Idealize.ShloMosaic.TcCoe Idealize.SL.Sem
open Idealize.ShloMosaic.Pipeline (Dat)
open Cert.Reference9Ideal.Read

variable (m : (ℓ : Loc nD τ sig) → Buf (Elt Ideal) ℓ) (ρ : Dev nD → PrngReg)

/-- The block indices of the windows, at every point. -/
theorem idx : ∀ t : Fin cfg0.N, win0_0.index t = ![t.val % 8, 0] ∧ win0_1.index t = ![t.val % 8, 0] ∧ win0_2.index t = ![0, 0] :=
  (by decide +kernel : ∀ t : Fin grid0.N, _)

abbrev arg0 (c : Dev nD) := m ((c : Thread nD τ).loc main_arg0)
abbrev arg1 (c : Dev nD) := m ((c : Thread nD τ).loc main_arg1)

/-- The sum of the row tiles so far grows by the tile's product. -/
theorem pay2 (x : Vec Ideal S2064x1024 .f32) (acc : Vec Ideal S1024x1024 .f32) (z : Vec Ideal S2064x1024 .bf16) (j : S1024x1024.Idx) :
    k0_pay2 x acc z j = acc j + ∑ k : Fin 2064, x (ix2 k (j 1)) * z (ix2 k (j 0)) := by
  pointwise [k0_pay2]
  exact congrArg _ (Finset.sum_congr rfl fun k _ => mul_comm _ _)

/-- The sum starts from zero. -/
theorem pay1 (j : S1024x1024.Idx) : k0_pay1 (F := Ideal) j = 0 := by
  pointwise [k0_pay1]

abbrev REF (X0 : FVec Ideal S16512x1024 .f32) (X1 : FVec Ideal S16512x1024 .f32) : FVec Ideal S1024x1024 .f32 := val_main_v3 (F := Ideal) X0 X1

theorem final (c : Dev nD) : (dats m 0 c).arrAt 2 cfg0.N = REF (arg0 m c) (arg1 m c) := by
  refine (dats m 0 c).arrAt_eq_of_covers 2 _ (by decide +kernel) fun t hf y => ?_
  blk_simp
  rw [after0_2]
  rw [Pipeline.eq_sum_fin_of_reset_step_apply_of_flush (fun n h => outsAt0 m c n h) 8 (fun _ => 0) _
    (fun t h j => by rw [outsAt0_A m c t h]; frame_out; rw [pay2, pay1])
    (fun t h j => by rw [outsAt0_B m c t h]; frame_out; rw [pay2]) t ((flush0_2 t).mp hf) _, zero_add]
  pointwise [REF, val_main_v3, val_main_v2]
  refine Fin.sum_mul_add_congr fun s k hl => ?_
  blk_point [iblk, V, idx ⟨_, Pipeline.run_point_lt_of_flush t ((flush0_2 t).mp hf) s⟩, idx t]

/-- The kernel and the reference compute one array. -/
theorem algebraic : Cert.algebraic_Kernel9Ideal_Reference9Ideal := fun m g m' g' _ hag =>
  ⟨fun c => REF (arg0 m c) (arg1 m c),
    (θ_run _ _ _).mono (fun _ h c => ⟨(h c).1.trans (final m c), (h c).2⟩) (Cert.Kernel9Ideal.Value.run_blocks m g),
    (θ_run _ _ _).mono (fun _ h c => ⟨(h c).1.trans (by rw [(hag c).1, (hag c).2]; rfl), (h c).2⟩)
      (Cert.Reference9Ideal.Value.run m' g')⟩

end Cert.Kernel9Ideal.Hand

end
-- ==== Proof.DwBa.lean ====
/- The gradient of the attention branch's projection. -/
module

public import proofs.«01_k».proof.Proof.Gen.Kernel10Ideal.Value
public import proofs.«01_k».proof.Proof.Gen.Reference10Ideal.Run
public import proofs.«01_k».proof.Proof.Gen.Reference10Ideal.Read
public import proofs.«01_k».proof.Defs
public import proofs.«01_k».proof.Proof.Common

@[expose] public section

set_option maxRecDepth 16384

noncomputable section

namespace Cert.Kernel10Ideal.Hand

open Cert.Kernel10Ideal Cert.Kernel10Ideal.Gen Idealize.ShloMosaic Idealize.ShloMosaic.TcCoe Idealize.SL.Sem
open Idealize.ShloMosaic.Pipeline (Dat)
open Cert.Reference10Ideal.Read

variable (m : (ℓ : Loc nD τ sig) → Buf (Elt Ideal) ℓ) (ρ : Dev nD → PrngReg)

/-- The block indices of the windows, at every point. -/
theorem idx : ∀ t : Fin cfg0.N, win0_0.index t = ![t.val % 8, 0] ∧ win0_1.index t = ![t.val % 8, 0] ∧ win0_2.index t = ![0, 0] :=
  (by decide +kernel : ∀ t : Fin grid0.N, _)

abbrev arg0 (c : Dev nD) := m ((c : Thread nD τ).loc main_arg0)
abbrev arg1 (c : Dev nD) := m ((c : Thread nD τ).loc main_arg1)

/-- The sum of the row tiles so far grows by the tile's product. -/
theorem pay2 (x : Vec Ideal S2064x1024 .bf16) (acc : Vec Ideal S1024x1024 .f32) (z : Vec Ideal S2064x1024 .bf16) (j : S1024x1024.Idx) :
    k0_pay2 x acc z j = acc j + ∑ k : Fin 2064, x (ix2 k (j 1)) * z (ix2 k (j 0)) := by
  pointwise [k0_pay2]
  exact congrArg _ (Finset.sum_congr rfl fun k _ => mul_comm _ _)

/-- The sum starts from zero. -/
theorem pay1 (j : S1024x1024.Idx) : k0_pay1 (F := Ideal) j = 0 := by
  pointwise [k0_pay1]

abbrev REF (X0 : FVec Ideal S16512x1024 .f32) (X1 : FVec Ideal S16512x1024 .f32) : FVec Ideal S1024x1024 .f32 := val_main_v3 (F := Ideal) X0 X1

theorem final (c : Dev nD) : (dats m 0 c).arrAt 2 cfg0.N = REF (arg0 m c) (arg1 m c) := by
  refine (dats m 0 c).arrAt_eq_of_covers 2 _ (by decide +kernel) fun t hf y => ?_
  blk_simp
  rw [after0_2]
  rw [Pipeline.eq_sum_fin_of_reset_step_apply_of_flush (fun n h => outsAt0 m c n h) 8 (fun _ => 0) _
    (fun t h j => by rw [outsAt0_A m c t h]; frame_out; rw [pay2, pay1])
    (fun t h j => by rw [outsAt0_B m c t h]; frame_out; rw [pay2]) t ((flush0_2 t).mp hf) _, zero_add]
  pointwise [REF, val_main_v3, val_main_v2]
  refine Fin.sum_mul_add_congr fun s k hl => ?_
  blk_point [iblk, V, idx ⟨_, Pipeline.run_point_lt_of_flush t ((flush0_2 t).mp hf) s⟩, idx t]

/-- The kernel and the reference compute one array. -/
theorem algebraic : Cert.algebraic_Kernel10Ideal_Reference10Ideal := fun m g m' g' _ hag =>
  ⟨fun c => REF (arg0 m c) (arg1 m c),
    (θ_run _ _ _).mono (fun _ h c => ⟨(h c).1.trans (final m c), (h c).2⟩) (Cert.Kernel10Ideal.Value.run_blocks m g),
    (θ_run _ _ _).mono (fun _ h c => ⟨(h c).1.trans (by rw [(hag c).1, (hag c).2]; rfl), (h c).2⟩)
      (Cert.Reference10Ideal.Value.run m' g')⟩

end Cert.Kernel10Ideal.Hand

end
-- ==== Proof.DwBs.lean ====
/- The gradient of the state-space branch's projection. -/
module

public import proofs.«01_k».proof.Proof.Gen.Kernel11Ideal.Value
public import proofs.«01_k».proof.Proof.Gen.Reference11Ideal.Run
public import proofs.«01_k».proof.Proof.Gen.Reference11Ideal.Read
public import proofs.«01_k».proof.Defs
public import proofs.«01_k».proof.Proof.Common

@[expose] public section

set_option maxRecDepth 16384

noncomputable section

namespace Cert.Kernel11Ideal.Hand

open Cert.Kernel11Ideal Cert.Kernel11Ideal.Gen Idealize.ShloMosaic Idealize.ShloMosaic.TcCoe Idealize.SL.Sem
open Idealize.ShloMosaic.Pipeline (Dat)
open Cert.Reference11Ideal.Read

variable (m : (ℓ : Loc nD τ sig) → Buf (Elt Ideal) ℓ) (ρ : Dev nD → PrngReg)

/-- The block indices of the windows, at every point. -/
theorem idx : ∀ t : Fin cfg0.N, win0_0.index t = ![t.val % 8, 0] ∧ win0_1.index t = ![t.val % 8, 0] ∧ win0_2.index t = ![0, 0] :=
  (by decide +kernel : ∀ t : Fin grid0.N, _)

abbrev arg0 (c : Dev nD) := m ((c : Thread nD τ).loc main_arg0)
abbrev arg1 (c : Dev nD) := m ((c : Thread nD τ).loc main_arg1)

/-- The sum of the row tiles so far grows by the tile's product. -/
theorem pay2 (x : Vec Ideal S2064x1024 .bf16) (acc : Vec Ideal S512x1024 .f32) (z : Vec Ideal S2064x512 .bf16) (j : S512x1024.Idx) :
    k0_pay2 x acc z j = acc j + ∑ k : Fin 2064, x (ix2 k (j 1)) * z (ix2 k (j 0)) := by
  pointwise [k0_pay2]
  exact congrArg _ (Finset.sum_congr rfl fun k _ => mul_comm _ _)

/-- The sum starts from zero. -/
theorem pay1 (j : S512x1024.Idx) : k0_pay1 (F := Ideal) j = 0 := by
  pointwise [k0_pay1]

abbrev REF (X0 : FVec Ideal S16512x512 .f32) (X1 : FVec Ideal S16512x1024 .f32) : FVec Ideal S512x1024 .f32 := val_main_v3 (F := Ideal) X0 X1

theorem final (c : Dev nD) : (dats m 0 c).arrAt 2 cfg0.N = REF (arg0 m c) (arg1 m c) := by
  refine (dats m 0 c).arrAt_eq_of_covers 2 _ (by decide +kernel) fun t hf y => ?_
  blk_simp
  rw [after0_2]
  rw [Pipeline.eq_sum_fin_of_reset_step_apply_of_flush (fun n h => outsAt0 m c n h) 8 (fun _ => 0) _
    (fun t h j => by rw [outsAt0_A m c t h]; frame_out; rw [pay2, pay1])
    (fun t h j => by rw [outsAt0_B m c t h]; frame_out; rw [pay2]) t ((flush0_2 t).mp hf) _, zero_add]
  pointwise [REF, val_main_v3, val_main_v2]
  refine Fin.sum_mul_add_congr fun s k hl => ?_
  blk_point [iblk, V, idx ⟨_, Pipeline.run_point_lt_of_flush t ((flush0_2 t).mp hf) s⟩, idx t]

/-- The kernel and the reference compute one array. -/
theorem algebraic : Cert.algebraic_Kernel11Ideal_Reference11Ideal := fun m g m' g' _ hag =>
  ⟨fun c => REF (arg0 m c) (arg1 m c),
    (θ_run _ _ _).mono (fun _ h c => ⟨(h c).1.trans (final m c), (h c).2⟩) (Cert.Kernel11Ideal.Value.run_blocks m g),
    (θ_run _ _ _).mono (fun _ h c => ⟨(h c).1.trans (by rw [(hag c).1, (hag c).2]; rfl), (h c).2⟩)
      (Cert.Reference11Ideal.Value.run m' g')⟩

end Cert.Kernel11Ideal.Hand

end
-- ==== Proof.DwGlu.lean ====
/- The gradient of the gated linear unit's weights. -/
module

public import proofs.«01_k».proof.Proof.Gen.Kernel12Ideal.Value
public import proofs.«01_k».proof.Proof.Gen.Reference12Ideal.Run
public import proofs.«01_k».proof.Proof.Gen.Reference12Ideal.Read
public import proofs.«01_k».proof.Defs
public import proofs.«01_k».proof.Proof.Common

@[expose] public section

set_option maxRecDepth 16384

noncomputable section

namespace Cert.Kernel12Ideal.Hand

open Cert.Kernel12Ideal Cert.Kernel12Ideal.Gen Idealize.ShloMosaic Idealize.ShloMosaic.TcCoe Idealize.SL.Sem
open Idealize.ShloMosaic.Pipeline (Dat)
open Cert.Reference12Ideal.Read

variable (m : (ℓ : Loc nD τ sig) → Buf (Elt Ideal) ℓ) (ρ : Dev nD → PrngReg)

/-- The block indices of the windows, at every point. -/
theorem idx : ∀ t : Fin cfg0.N, win0_0.index t = ![t.val % 8, 0] ∧ win0_1.index t = ![t.val % 8, 0] ∧ win0_2.index t = ![0, 0] :=
  (by decide +kernel : ∀ t : Fin grid0.N, _)

abbrev arg0 (c : Dev nD) := m ((c : Thread nD τ).loc main_arg0)
abbrev arg1 (c : Dev nD) := m ((c : Thread nD τ).loc main_arg1)

/-- The sum of the row tiles so far grows by the tile's product. -/
theorem pay2 (x : Vec Ideal S2064x512 .bf16) (acc : Vec Ideal S512x512 .f32) (z : Vec Ideal S2064x512 .bf16) (j : S512x512.Idx) :
    k0_pay2 x acc z j = acc j + ∑ k : Fin 2064, x (ix2 k (j 1)) * z (ix2 k (j 0)) := by
  pointwise [k0_pay2]
  exact congrArg _ (Finset.sum_congr rfl fun k _ => mul_comm _ _)

/-- The sum starts from zero. -/
theorem pay1 (j : S512x512.Idx) : k0_pay1 (F := Ideal) j = 0 := by
  pointwise [k0_pay1]

abbrev REF (X0 : FVec Ideal S16512x512 .f32) (X1 : FVec Ideal S16512x512 .f32) : FVec Ideal S512x512 .f32 := val_main_v3 (F := Ideal) X0 X1

theorem final (c : Dev nD) : (dats m 0 c).arrAt 2 cfg0.N = REF (arg0 m c) (arg1 m c) := by
  refine (dats m 0 c).arrAt_eq_of_covers 2 _ (by decide +kernel) fun t hf y => ?_
  blk_simp
  rw [after0_2]
  rw [Pipeline.eq_sum_fin_of_reset_step_apply_of_flush (fun n h => outsAt0 m c n h) 8 (fun _ => 0) _
    (fun t h j => by rw [outsAt0_A m c t h]; frame_out; rw [pay2, pay1])
    (fun t h j => by rw [outsAt0_B m c t h]; frame_out; rw [pay2]) t ((flush0_2 t).mp hf) _, zero_add]
  pointwise [REF, val_main_v3, val_main_v2]
  refine Fin.sum_mul_add_congr fun s k hl => ?_
  blk_point [iblk, V, idx ⟨_, Pipeline.run_point_lt_of_flush t ((flush0_2 t).mp hf) s⟩, idx t]

/-- The kernel and the reference compute one array. -/
theorem algebraic : Cert.algebraic_Kernel12Ideal_Reference12Ideal := fun m g m' g' _ hag =>
  ⟨fun c => REF (arg0 m c) (arg1 m c),
    (θ_run _ _ _).mono (fun _ h c => ⟨(h c).1.trans (final m c), (h c).2⟩) (Cert.Kernel12Ideal.Value.run_blocks m g),
    (θ_run _ _ _).mono (fun _ h c => ⟨(h c).1.trans (by rw [(hag c).1, (hag c).2]; rfl), (h c).2⟩)
      (Cert.Reference12Ideal.Value.run m' g')⟩

end Cert.Kernel12Ideal.Hand

end
-- ==== Proof.MixOut.lean ====
/- The mixer's output projection `h + merged · w`: the result array after the run is the reference's term. -/
module

public import proofs.«01_k».proof.Proof.Gen.Kernel13Ideal.Value
public import proofs.«01_k».proof.Proof.Gen.Reference13Ideal.Run
public import proofs.«01_k».proof.Proof.Gen.Reference13Ideal.Read
public import proofs.«01_k».proof.Defs
public import proofs.«01_k».proof.Proof.Common

@[expose] public section

set_option maxRecDepth 16384

noncomputable section

namespace Cert.Kernel13Ideal.Hand

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the windows, at every point. -/
theorem idx : ∀ t : Fin cfg0.N, win0_0.index t = ![t.val, 0] ∧ win0_1.index t = ![t.val, 0] ∧ win0_2.index t = ![t.val, 0] :=
  (by decide +kernel : ∀ t : Fin grid0.N, _)

theorem zero2 : (![0, 0] : Fin 2 → ℕ) = fun _ => 0 := by decide

/-- The weights lie in the carried scratch after every point, as the first point copied them. -/
theorem carried (c : Dev nD) : ∀ (n : ℕ) (h : n < cfg0.N), (outsAt0 m c n h).2 = V m c main_v1
  | 0, h => by
    rw [outsAt0_A m c ⟨0, h⟩ rfl]
    funext y
    frame_out
    rw [Cert.Hand.canon_whole]
    rfl
  | n + 1, h => by
    have hN := lt_of_lt_of_eq h (show cfg0.N = 43 from N_0)
    rw [outsAt0_B m c ⟨n + 1, h⟩ (by dsimp only; omega)]
    dsimp only
    unfold sout0_B_0
    exact carried c n _

/-- The result array's contents. -/
abbrev REF (X0 : FVec Ideal S16512x1024 .f32) (X1 : FVec Ideal S16512x1024 .f32) (X2 : FVec Ideal S1024x1024 .f32) :
    FVec Ideal S16512x1024 .f32 :=
  Cert.Reference13Ideal.Read.val_main_v1 (F := Ideal) X0 X1 X2

/-- What a point computes is its block of the reference's result. -/
theorem point (c : Dev nD) (t : Fin cfg0.N) (y : S384x1024.Idx) :
    k0_pay1 (iblk m c 1 t) (iblk m c 0 t) (V m c main_v1) y
      = REF (m ((c : Thread nD τ).loc main_arg0)) (m ((c : Thread nD τ).loc main_arg1)) (m ((c : Thread nD τ).loc main_arg2))
          (((View.whole main_v2).slice (win0_2.rect t)).emb y) := by
  pointwise [k0_pay1, REF, Cert.Reference13Ideal.Read.val_main_v1, Cert.Reference13Ideal.Read.val_main_v0]
  blk_point [iblk, V, idx t]

theorem final (c : Dev nD) : (dats m 0 c).arrAt 2 cfg0.N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  by_cases h0 : t.val % 43 = 0
  · rw [outsAt0_A m c t h0]
    frame_out
    rw [Cert.Hand.readCov_whole _ zero2]
    exact point m c t y
  · rw [outsAt0_B m c t h0]
    frame_out
    rw [carried, read_unread_whole]
    exact point m c t y

/-- The kernel and the reference compute one array. -/
theorem algebraic : Cert.algebraic_Kernel13Ideal_Reference13Ideal := fun m g m' g' _ hag =>
  ⟨fun c => REF (m ((c : Thread nD τ).loc main_arg0)) (m ((c : Thread nD τ).loc main_arg1)) (m ((c : Thread nD τ).loc main_arg2)),
    (θ_run _ _ _).mono (fun _ h c => ⟨(h c).1.trans (final m c), (h c).2⟩) (Cert.Kernel13Ideal.Value.run_blocks m g),
    (θ_run _ _ _).mono (fun _ h c => ⟨(h c).1.trans (by rw [(hag c).1, (hag c).2.1, (hag c).2.2]; rfl), (h c).2⟩)
      (Cert.Reference13Ideal.Value.run m' g')⟩

end Cert.Kernel13Ideal.Hand

end
-- ==== Proof.Branches.lean ====
/- The gradients of the two branches: two products. -/
module

public import proofs.«01_k».proof.Proof.Gen.Kernel14Ideal.Value
public import proofs.«01_k».proof.Proof.Gen.Reference14Ideal.Run
public import proofs.«01_k».proof.Proof.Gen.Reference14Ideal.Read
public import proofs.«01_k».proof.Defs
public import proofs.«01_k».proof.Proof.Common

@[expose] public section

set_option maxRecDepth 16384

noncomputable section

namespace Cert.Kernel14Ideal.Hand

open Cert.Kernel14Ideal Cert.Kernel14Ideal.Gen Idealize.ShloMosaic Idealize.ShloMosaic.TcCoe Idealize.SL.Sem
open Idealize.ShloMosaic.Pipeline (Dat)
open Cert.Reference14Ideal.Read

variable (m : (ℓ : Loc nD τ sig) → Buf (Elt Ideal) ℓ) (ρ : Dev nD → PrngReg)

/-- The block indices of the windows, at every point. -/
theorem idx : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

theorem zero2 : (![0, 0] : Fin 2 → ℕ) = fun _ => 0 := by decide

/-- What the first point copied lies in the carried scratch after every point. -/
theorem carried (c : Dev nD) : ∀ (n : ℕ) (h : n < cfg0.N), (outsAt0 m c n h).2.2 = (V m c main_v2, V m c main_v3)
  | 0, h => by
    rw [outsAt0_A m c ⟨0, h⟩ rfl]
    refine Prod.ext ?_ ?_ <;> (funext y; dsimp only; frame_out; rw [Cert.Hand.canon_whole]; rfl)
  | n + 1, h => by
    have hN := lt_of_lt_of_eq h (show cfg0.N = 43 from N_0)
    rw [outsAt0_B m c ⟨n + 1, h⟩ (by dsimp only; omega)]
    dsimp only
    unfold sout0_B_0 sout0_B_1
    exact carried c n _

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

/-- The row of the array that row `i` of point `t`'s block is. -/
abbrev row (t : Fin cfg0.N) (i : Fin 384) : Fin 16512 :=
  ⟨t.val * 384 + i.val, by have := lt_of_lt_of_eq t.isLt (show cfg0.N = 43 from N_0); omega⟩

theorem point1 (c : Dev nD) (t : Fin cfg0.N) (i : Fin 384) (j : Fin 1024) :
    k0_pay1 (iblk m c 1 t) (V m c main_v3) (ix2 i j) = val_main_v4 (F := Ideal) (arg1 m c) (arg3 m c) (ix2 (row t i) j) := by
  pointwise [k0_pay1, val_main_v4]
  blk_point [iblk, V, idx t]

theorem point2 (c : Dev nD) (t : Fin cfg0.N) (i : Fin 384) (j : Fin 512) :
    k0_pay2 (iblk m c 0 t) (V m c main_v2) (ix2 i j) = val_main_v5 (F := Ideal) (arg0 m c) (arg2 m c) (ix2 (row t i) j) := by
  pointwise [k0_pay2, val_main_v5]
  blk_point [iblk, V, idx t]

theorem final2 (c : Dev nD) : (dats m 0 c).arrAt 2 cfg0.N = val_main_v4 (F := Ideal) (arg1 m c) (arg3 m c) := by
  refine (dats m 0 c).arrAt_eq_of_covers 2 _ (by decide +kernel) fun t hf y => ?_
  obtain ⟨i, j, rfl⟩ : ∃ (i : Fin 384) (j : Fin 1024), y = ix2 i j := ⟨y 0, y 1, ValueIdx.eq_ix2 y⟩
  have e : ((cfg0.win 2).blk t).view.emb (ix2 i j) = ix2 (row t i) j := by
    blk_ext [idx t]
  rw [e]
  blk_simp
  rw [after0_2]
  by_cases h0 : t.val % 43 = 0
  · rw [outsAt0_A m c t h0]
    dsimp only
    frame_out
    simp only [Cert.Hand.readCov_whole (S := S512x1024) _ zero2, Cert.Hand.readCov_whole (S := S1024x1024) _ zero2]
    exact point1 m c t i j
  · rw [outsAt0_B m c t h0]
    dsimp only
    frame_out
    simp only [carried, read_unread_whole]
    exact point1 m c t i j

theorem final3 (c : Dev nD) : (dats m 0 c).arrAt 3 cfg0.N = val_main_v5 (F := Ideal) (arg0 m c) (arg2 m c) := by
  refine (dats m 0 c).arrAt_eq_of_covers 3 _ (by decide +kernel) fun t hf y => ?_
  obtain ⟨i, j, rfl⟩ : ∃ (i : Fin 384) (j : Fin 512), y = ix2 i j := ⟨y 0, y 1, ValueIdx.eq_ix2 y⟩
  have e : ((cfg0.win 3).blk t).view.emb (ix2 i j) = ix2 (row t i) j := by
    blk_ext [idx t]
  rw [e]
  blk_simp
  rw [after0_3]
  by_cases h0 : t.val % 43 = 0
  · rw [outsAt0_A m c t h0]
    dsimp only
    frame_out
    simp only [Cert.Hand.readCov_whole (S := S512x1024) _ zero2, Cert.Hand.readCov_whole (S := S1024x1024) _ zero2]
    exact point2 m c t i j
  · rw [outsAt0_B m c t h0]
    dsimp only
    frame_out
    simp only [carried, read_unread_whole]
    exact point2 m c t i j

/-- The kernel and the reference compute one array at each result. -/
theorem algebraic : Cert.algebraic_Kernel14Ideal_Reference14Ideal := fun m g m' g' _ hag =>
  ⟨fun c => val_main_v4 (F := Ideal) (arg1 m c) (arg3 m c),
    fun c => val_main_v5 (F := Ideal) (arg0 m c) (arg2 m c),
    (θ_run _ _ _).mono (fun _ h c => ⟨(h c).1.trans (final2 m c), (h c).2.1.trans (final3 m c), (h c).2.2⟩) (Cert.Kernel14Ideal.Value.run_blocks m g),
    (θ_run _ _ _).mono (fun _ h c => ⟨(h c).1.trans (by rw [(hag c).2.1, (hag c).2.2.2]; rfl),
      (h c).2.1.trans (by rw [(hag c).1, (hag c).2.2.1]; rfl),
      (h c).2.2⟩)
      (Cert.Reference14Ideal.Value.run m' g')⟩

end Cert.Kernel14Ideal.Hand

end
-- ==== Proof.Update15.lean ====
/- The update of the weights: ffn1_w_gate, ffn1_w_up, ffn2_w_gate, ffn2_w_up. -/
module

public import proofs.«01_k».proof.Proof.Gen.Kernel15Ideal.Value
public import proofs.«01_k».proof.Proof.Gen.Reference15Ideal.Run
public import proofs.«01_k».proof.Proof.Gen.Reference15Ideal.Read
public import proofs.«01_k».proof.Defs
public import proofs.«01_k».proof.Proof.Common

@[expose] public section

set_option maxRecDepth 16384

noncomputable section

namespace Cert.Kernel15Ideal.Hand

open Cert.Kernel15Ideal Cert.Kernel15Ideal.Gen Idealize.ShloMosaic Idealize.ShloMosaic.TcCoe Idealize.SL.Sem
open Cert.Reference15Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel15Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel15Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel15Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel15Ideal_Reference15Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel15Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference15Ideal.Value.run m' g')⟩

end Cert.Kernel15Ideal.Hand

end
-- ==== Proof.Update16.lean ====
/- The update of the weights: ffn1_w_down, ffn2_w_down. -/
module

public import proofs.«01_k».proof.Proof.Gen.Kernel16Ideal.Value
public import proofs.«01_k».proof.Proof.Gen.Reference16Ideal.Run
public import proofs.«01_k».proof.Proof.Gen.Reference16Ideal.Read
public import proofs.«01_k».proof.Defs
public import proofs.«01_k».proof.Proof.Common

@[expose] public section

set_option maxRecDepth 16384

noncomputable section

namespace Cert.Kernel16Ideal.Hand

open Cert.Kernel16Ideal Cert.Kernel16Ideal.Gen Idealize.ShloMosaic Idealize.ShloMosaic.TcCoe Idealize.SL.Sem
open Cert.Reference16Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel16Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel16Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel16Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel16Ideal_Reference16Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel16Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference16Ideal.Value.run m' g')⟩

end Cert.Kernel16Ideal.Hand

end
-- ==== Proof.Update17.lean ====
/- The update of the weights: w_in. -/
module

public import proofs.«01_k».proof.Proof.Gen.Kernel17Ideal.Value
public import proofs.«01_k».proof.Proof.Gen.Reference17Ideal.Run
public import proofs.«01_k».proof.Proof.Gen.Reference17Ideal.Read
public import proofs.«01_k».proof.Defs
public import proofs.«01_k».proof.Proof.Common

@[expose] public section

set_option maxRecDepth 16384

noncomputable section

namespace Cert.Kernel17Ideal.Hand

open Cert.Kernel17Ideal Cert.Kernel17Ideal.Gen Idealize.ShloMosaic Idealize.ShloMosaic.TcCoe Idealize.SL.Sem
open Cert.Reference17Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel17Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel17Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel17Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel17Ideal_Reference17Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel17Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference17Ideal.Value.run m' g')⟩

end Cert.Kernel17Ideal.Hand

end
-- ==== Proof.Update18.lean ====
/- The update of the weights: ssm_w_glu. -/
module

public import proofs.«01_k».proof.Proof.Gen.Kernel18Ideal.Value
public import proofs.«01_k».proof.Proof.Gen.Reference18Ideal.Run
public import proofs.«01_k».proof.Proof.Gen.Reference18Ideal.Read
public import proofs.«01_k».proof.Defs
public import proofs.«01_k».proof.Proof.Common

@[expose] public section

set_option maxRecDepth 16384

noncomputable section

namespace Cert.Kernel18Ideal.Hand

open Cert.Kernel18Ideal Cert.Kernel18Ideal.Gen Idealize.ShloMosaic Idealize.ShloMosaic.TcCoe Idealize.SL.Sem
open Cert.Reference18Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel18Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel18Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel18Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel18Ideal_Reference18Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel18Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference18Ideal.Value.run m' g')⟩

end Cert.Kernel18Ideal.Hand

end
-- ==== Proof.Update19.lean ====
/- The update of the weights: w_branch_ssm. -/
module

public import proofs.«01_k».proof.Proof.Gen.Kernel19Ideal.Value
public import proofs.«01_k».proof.Proof.Gen.Reference19Ideal.Run
public import proofs.«01_k».proof.Proof.Gen.Reference19Ideal.Read
public import proofs.«01_k».proof.Defs
public import proofs.«01_k».proof.Proof.Common

@[expose] public section

set_option maxRecDepth 16384

noncomputable section

namespace Cert.Kernel19Ideal.Hand

open Cert.Kernel19Ideal Cert.Kernel19Ideal.Gen Idealize.ShloMosaic Idealize.ShloMosaic.TcCoe Idealize.SL.Sem
open Cert.Reference19Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel19Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel19Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel19Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel19Ideal_Reference19Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel19Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference19Ideal.Value.run m' g')⟩

end Cert.Kernel19Ideal.Hand

end
-- ==== Proof.Update20.lean ====
/- The update of the weights: w_branch_attn, w_out. -/
module

public import proofs.«01_k».proof.Proof.Gen.Kernel20Ideal.Value
public import proofs.«01_k».proof.Proof.Gen.Reference20Ideal.Run
public import proofs.«01_k».proof.Proof.Gen.Reference20Ideal.Read
public import proofs.«01_k».proof.Defs
public import proofs.«01_k».proof.Proof.Common

@[expose] public section

set_option maxRecDepth 16384

noncomputable section

namespace Cert.Kernel20Ideal.Hand

open Cert.Kernel20Ideal Cert.Kernel20Ideal.Gen Idealize.ShloMosaic Idealize.ShloMosaic.TcCoe Idealize.SL.Sem
open Cert.Reference20Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel20Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel20Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel20Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel20Ideal_Reference20Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel20Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference20Ideal.Value.run m' g')⟩

end Cert.Kernel20Ideal.Hand

end
-- ==== Proof.Update21.lean ====
/- The update of the weights: meta_tokens. -/
module

public import proofs.«01_k».proof.Proof.Gen.Kernel21Ideal.Value
public import proofs.«01_k».proof.Proof.Gen.Reference21Ideal.Run
public import proofs.«01_k».proof.Proof.Gen.Reference21Ideal.Read
public import proofs.«01_k».proof.Defs
public import proofs.«01_k».proof.Proof.Common

@[expose] public section

set_option maxRecDepth 16384

noncomputable section

namespace Cert.Kernel21Ideal.Hand

open Cert.Kernel21Ideal Cert.Kernel21Ideal.Gen Idealize.ShloMosaic Idealize.ShloMosaic.TcCoe Idealize.SL.Sem
open Cert.Reference21Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel21Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel21Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel21Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel21Ideal_Reference21Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel21Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference21Ideal.Value.run m' g')⟩

end Cert.Kernel21Ideal.Hand

end
-- ==== Proof.Update22.lean ====
/- The update of the weights: ffn1_norm, mix_norm, ffn2_norm. -/
module

public import proofs.«01_k».proof.Proof.Gen.Kernel22Ideal.Value
public import proofs.«01_k».proof.Proof.Gen.Reference22Ideal.Run
public import proofs.«01_k».proof.Proof.Gen.Reference22Ideal.Read
public import proofs.«01_k».proof.Defs
public import proofs.«01_k».proof.Proof.Common

@[expose] public section

set_option maxRecDepth 16384

noncomputable section

namespace Cert.Kernel22Ideal.Hand

open Cert.Kernel22Ideal Cert.Kernel22Ideal.Gen Idealize.ShloMosaic Idealize.ShloMosaic.TcCoe Idealize.SL.Sem
open Cert.Reference22Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel22Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel22Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel22Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel22Ideal_Reference22Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel22Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference22Ideal.Value.run m' g')⟩

end Cert.Kernel22Ideal.Hand

end
-- ==== Proof.Update23.lean ====
/- The update of the weights: final_norm. -/
module

public import proofs.«01_k».proof.Proof.Gen.Kernel23Ideal.Value
public import proofs.«01_k».proof.Proof.Gen.Reference23Ideal.Run
public import proofs.«01_k».proof.Proof.Gen.Reference23Ideal.Read
public import proofs.«01_k».proof.Defs
public import proofs.«01_k».proof.Proof.Common

@[expose] public section

set_option maxRecDepth 16384

noncomputable section

namespace Cert.Kernel23Ideal.Hand

open Cert.Kernel23Ideal Cert.Kernel23Ideal.Gen Idealize.ShloMosaic Idealize.ShloMosaic.TcCoe Idealize.SL.Sem
open Cert.Reference23Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel23Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel23Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel23Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel23Ideal_Reference23Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel23Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference23Ideal.Value.run m' g')⟩

end Cert.Kernel23Ideal.Hand

end
-- ==== Proof.Update24.lean ====
/- The update of the weights: ssm_lam_re, ssm_lam_im. -/
module

public import proofs.«01_k».proof.Proof.Gen.Kernel24Ideal.Value
public import proofs.«01_k».proof.Proof.Gen.Reference24Ideal.Run
public import proofs.«01_k».proof.Proof.Gen.Reference24Ideal.Read
public import proofs.«01_k».proof.Defs
public import proofs.«01_k».proof.Proof.Common

@[expose] public section

set_option maxRecDepth 16384

noncomputable section

namespace Cert.Kernel24Ideal.Hand

open Cert.Kernel24Ideal Cert.Kernel24Ideal.Gen Idealize.ShloMosaic Idealize.ShloMosaic.TcCoe Idealize.SL.Sem
open Cert.Reference24Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel24Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel24Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel24Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel24Ideal_Reference24Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel24Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference24Ideal.Value.run m' g')⟩

end Cert.Kernel24Ideal.Hand

end
-- ==== Proof.Update25.lean ====
/- The update of the weights: ssm_log_dt. -/
module

public import proofs.«01_k».proof.Proof.Gen.Kernel25Ideal.Value
public import proofs.«01_k».proof.Proof.Gen.Reference25Ideal.Run
public import proofs.«01_k».proof.Proof.Gen.Reference25Ideal.Read
public import proofs.«01_k».proof.Defs
public import proofs.«01_k».proof.Proof.Common

@[expose] public section

set_option maxRecDepth 16384

noncomputable section

namespace Cert.Kernel25Ideal.Hand

open Cert.Kernel25Ideal Cert.Kernel25Ideal.Gen Idealize.ShloMosaic Idealize.ShloMosaic.TcCoe Idealize.SL.Sem
open Cert.Reference25Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel25Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel25Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel25Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel25Ideal_Reference25Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel25Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference25Ideal.Value.run m' g')⟩

end Cert.Kernel25Ideal.Hand

end
-- ==== Proof.Update26.lean ====
/- The update of the weights: ssm_b_re, ssm_b_im. -/
module

public import proofs.«01_k».proof.Proof.Gen.Kernel26Ideal.Value
public import proofs.«01_k».proof.Proof.Gen.Reference26Ideal.Run
public import proofs.«01_k».proof.Proof.Gen.Reference26Ideal.Read
public import proofs.«01_k».proof.Defs
public import proofs.«01_k».proof.Proof.Common

@[expose] public section

set_option maxRecDepth 16384

noncomputable section

namespace Cert.Kernel26Ideal.Hand

open Cert.Kernel26Ideal Cert.Kernel26Ideal.Gen Idealize.ShloMosaic Idealize.ShloMosaic.TcCoe Idealize.SL.Sem
open Cert.Reference26Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel26Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel26Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel26Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel26Ideal_Reference26Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel26Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference26Ideal.Value.run m' g')⟩

end Cert.Kernel26Ideal.Hand

end
-- ==== Proof.Update27.lean ====
/- The update of the weights: ssm_c_re, ssm_c_im. -/
module

public import proofs.«01_k».proof.Proof.Gen.Kernel27Ideal.Value
public import proofs.«01_k».proof.Proof.Gen.Reference27Ideal.Run
public import proofs.«01_k».proof.Proof.Gen.Reference27Ideal.Read
public import proofs.«01_k».proof.Defs
public import proofs.«01_k».proof.Proof.Common

@[expose] public section

set_option maxRecDepth 16384

noncomputable section

namespace Cert.Kernel27Ideal.Hand

open Cert.Kernel27Ideal Cert.Kernel27Ideal.Gen Idealize.ShloMosaic Idealize.ShloMosaic.TcCoe Idealize.SL.Sem
open Cert.Reference27Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel27Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel27Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel27Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel27Ideal_Reference27Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel27Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference27Ideal.Value.run m' g')⟩

end Cert.Kernel27Ideal.Hand

end
-- ==== Proof.Update28.lean ====
/- The update of the weights: ssm_d. -/
module

public import proofs.«01_k».proof.Proof.Gen.Kernel28Ideal.Value
public import proofs.«01_k».proof.Proof.Gen.Reference28Ideal.Run
public import proofs.«01_k».proof.Proof.Gen.Reference28Ideal.Read
public import proofs.«01_k».proof.Defs
public import proofs.«01_k».proof.Proof.Common

@[expose] public section

set_option maxRecDepth 16384

noncomputable section

namespace Cert.Kernel28Ideal.Hand

open Cert.Kernel28Ideal Cert.Kernel28Ideal.Gen Idealize.ShloMosaic Idealize.ShloMosaic.TcCoe Idealize.SL.Sem
open Cert.Reference28Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel28Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel28Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel28Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel28Ideal_Reference28Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel28Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference28Ideal.Value.run m' g')⟩

end Cert.Kernel28Ideal.Hand

end
-- ==== Proof.Update29.lean ====
/- The update of the weights: attn_sink. -/
module

public import proofs.«01_k».proof.Proof.Gen.Kernel29Ideal.Value
public import proofs.«01_k».proof.Proof.Gen.Reference29Ideal.Run
public import proofs.«01_k».proof.Proof.Gen.Reference29Ideal.Read
public import proofs.«01_k».proof.Defs
public import proofs.«01_k».proof.Proof.Common

@[expose] public section

set_option maxRecDepth 16384

noncomputable section

namespace Cert.Kernel29Ideal.Hand

open Cert.Kernel29Ideal Cert.Kernel29Ideal.Gen Idealize.ShloMosaic Idealize.ShloMosaic.TcCoe Idealize.SL.Sem
open Cert.Reference29Ideal.Read

variable (m : (ℓ : Loc nD τ sig) → Buf (Elt Ideal) ℓ)

abbrev arg0 (c : Dev nD) := m ((c : Thread nD τ).loc main_arg0)
abbrev arg1 (c : Dev nD) := m ((c : Thread nD τ).loc main_arg1)
abbrev arg2 (c : Dev nD) := m ((c : Thread nD τ).loc main_arg2)
abbrev arg3 (c : Dev nD) := m ((c : Thread nD τ).loc main_arg3)

theorem delta (c : Dev nD) : Cert.Kernel29Ideal.Value.G4 (F := Ideal) (arg1 m c) (arg2 m c) (arg3 m c) (arg0 m c)
    = val_main_v23 (F := Ideal) (arg0 m c) (arg1 m c) (arg2 m c) (arg3 m c) := by
  funext i
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

theorem moment1 (c : Dev nD) : Cert.Kernel29Ideal.Value.G5 (F := Ideal) (arg1 m c) (arg2 m c) = val_main_v4 (F := Ideal) (arg1 m c) (arg2 m c) := by
  funext i
  pointwise [val_main_v4, val_main_v3, val_main_v2, val_main_v1, val_main_v0, val_main_cst, val_main_cst_0]

theorem moment2 (c : Dev nD) : Cert.Kernel29Ideal.Value.G6 (F := Ideal) (arg1 m c) (arg3 m c) = val_main_v10 (F := Ideal) (arg1 m c) (arg3 m c) := by
  funext i
  pointwise [val_main_v10, val_main_v9, val_main_v8, val_main_v7, val_main_v6, val_main_v5, val_main_cst_1, val_main_cst_2]

/-- The kernel and the reference compute one array at each result. -/
theorem algebraic : Cert.algebraic_Kernel29Ideal_Reference29Ideal := fun m g m' g' _ hag =>
  ⟨fun c => val_main_v23 (F := Ideal) (arg0 m c) (arg1 m c) (arg2 m c) (arg3 m c), fun c => val_main_v4 (F := Ideal) (arg1 m c) (arg2 m c),
    fun c => val_main_v10 (F := Ideal) (arg1 m c) (arg3 m c),
    (θ_run _ _ _).mono (fun _ h c => ⟨(h c).1.trans (delta m c), (h c).2.1.trans (moment1 m c), (h c).2.2.1.trans (moment2 m c), (h c).2.2.2⟩)
      (Cert.Kernel29Ideal.Value.run m g),
    (θ_run _ _ _).mono (fun _ h c => ⟨(h c).1.trans (by rw [(hag c).1, (hag c).2.1, (hag c).2.2.1, (hag c).2.2.2]; rfl),
      (h c).2.1.trans (by rw [(hag c).2.1, (hag c).2.2.1]; rfl), (h c).2.2.1.trans (by rw [(hag c).2.1, (hag c).2.2.2]; rfl), (h c).2.2.2⟩)
      (Cert.Reference29Ideal.Value.run m' g')⟩

end Cert.Kernel29Ideal.Hand

end
-- ==== Proof.Loss.lean ====
/- The loss, its gradient at the last rows through the final norm, and the gradient of the gain. -/
module

public import proofs.«01_k».proof.Proof.Gen.Kernel30Ideal.Value
public import proofs.«01_k».proof.Proof.Gen.Reference30Ideal.Run
public import proofs.«01_k».proof.Proof.Gen.Reference30Ideal.Read
public import proofs.«01_k».proof.Defs
public import proofs.«01_k».proof.Proof.Common
public import Idealize.ShloMosaic.Lib.ReduceAll
public import Idealize.ShloMosaic.Lib.KernelVsHost

@[expose] public section

set_option maxRecDepth 16384

noncomputable section

namespace Cert.Kernel30Ideal.Hand

open Cert.Kernel30Ideal Cert.Kernel30Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The block indices of the windows, at every point. -/
theorem idx : ∀ t : Fin cfg0.N, win0_0.index t = ![t.val, 0] ∧ win0_1.index t = ![t.val - 1, 0] ∧ win0_2.index t = ![t.val, 0]
    ∧ win0_3.index t = ![0, 0] ∧ win0_4.index t = ![0, 0] :=
  (by decide +kernel : ∀ t : Fin grid0.N, _)

/-- The test for the first block. -/
theorem first : ∀ t : Fin cfg0.N, Scalar.cmpi .eq (BitVec.ofNat 32 (grid0.coords t 0).val) 0#32 = if t.val = 0 then 1#1 else 0#1 :=
  (by decide +kernel : ∀ t : Fin grid0.N, _)

theorem zero2 : (![0, 0] : Fin 2 → ℕ) = fun _ => 0 := by decide

/-- The gain lies in the carried scratch after every point, as the first point copied it. -/
theorem carried (c : Dev nD) : ∀ (n : ℕ) (h : n < cfg0.N), (outsAt0 m c n h).2.2.2 = V m c main_v0
  | 0, h => by
    rw [outsAt0_A m c ⟨0, h⟩ rfl rfl]
    funext y
    dsimp only
    frame_out
    rw [Cert.Hand.canon_whole]
    rfl
  | n + 1, h => by
    have hN := lt_of_lt_of_eq h (show cfg0.N = 129 from N_0)
    rw [outsAt0_B m c ⟨n + 1, h⟩ (by dsimp only; omega) (by dsimp only; omega)]
    dsimp only
    unfold sout0_B_0
    exact carried c n _

abbrev arg0 (c : Dev nD) : FVec Ideal S16512x1024 .f32 := m ((c : Thread nD τ).loc main_arg0)
abbrev arg1 (c : Dev nD) : FVec Ideal S1024 .f32 := m ((c : Thread nD τ).loc main_arg1)
abbrev arg2 (c : Dev nD) : FVec Ideal S16384x1024 .f32 := m ((c : Thread nD τ).loc main_arg2)

open Cert.Reference30Ideal.Read

/-- The row of the array that row `i` of point `t`'s block is. -/
abbrev row (t : Fin cfg0.N) (i : Fin 128) : Fin 16512 :=
  ⟨t.val * 128 + i.val, by have := lt_of_lt_of_eq t.isLt (show cfg0.N = 129 from N_0); omega⟩

/-- The target's row. -/
abbrev trow (t : Fin cfg0.N) (i : Fin 128) : Fin 16384 :=
  ⟨(t.val - 1) * 128 + i.val, by have := lt_of_lt_of_eq t.isLt (show cfg0.N = 129 from N_0); omega⟩

theorem V_gain (c : Dev nD) (j : Fin 1024) : V m c main_v0 (ix2 0 j) = arg1 m c (ix1 j) := by
  entry_read
  pointwise

theorem blk0 (c : Dev nD) (t : Fin cfg0.N) (i : Fin 128) (k : Fin 1024) : iblk m c 0 t (ix2 i k) = arg0 m c (ix2 (row t i) k) := by
  blk_point [iblk, V, idx t]

theorem blk1 (c : Dev nD) (t : Fin cfg0.N) (i : Fin 128) (k : Fin 1024) : iblk m c 1 t (ix2 i k) = arg2 m c (ix2 (trow t i) k) := by
  blk_point [iblk, V, idx t]

/-! ## Constants -/

theorem two' : Ideal.ofBits .f32 0x40000000#32 = ((2 : ℝ) : EReal) := by
  simp [Ideal.ofBits, Ideal.ieee, -EReal.coe_mul]; norm_num

theorem inv1024 : Ideal.ofBits .f32 0x3A800000#32 = (((1024 : ℝ)⁻¹ : ℝ) : EReal) := by
  simp [Ideal.ofBits, Ideal.ieee, -EReal.coe_mul]; norm_num

/-! ## The rows' norms -/

abbrev MS (X : FVec Ideal S16512x1024 .f32) (r : Fin 16512) : EReal := Cert.Hand.ms fun k => X (ix2 r k)

theorem ref6 (X : FVec Ideal S16512x1024 .f32) (r : Fin 16512) : val_main_v6 (F := Ideal) X (ix2 r 0) = MS X r := by
  pointwise [val_main_v6, val_main_v5, val_main_v4, val_main_v3, val_main_v2, val_main_v1, val_main_v0, val_main_cst, val_main_cst_0, val_main_cst_1]
  rfl

theorem ref7 (X : FVec Ideal S16512x1024 .f32) (r : Fin 16512) : val_main_v7 (F := Ideal) X (ix2 r 0) = Ideal.rsqrt (MS X r) := by
  pointwise [val_main_v7]
  rw [ref6]

theorem ref12 (X : FVec Ideal S16512x1024 .f32) (r : Fin 16512) (j : Fin 1024) :
    val_main_v12 (F := Ideal) X (ix2 r j) = X (ix2 r j) * Ideal.rsqrt (MS X r) := by
  pointwise [val_main_v12, val_main_v11]
  rw [ref7]

/-- The reciprocal root of the rows' mean square. -/
theorem inv (c : Dev nD) (t : Fin cfg0.N) (i : Fin 128) :
    k0_pay1 (k0_pay11 (iblk m c 0 t)) (Ideal.ofBits .f32 0x44800000#32) (ix2 i 0) = Ideal.rsqrt (MS (arg0 m c) (row t i)) := by
  pointwise [k0_pay1, k0_pay11]
  simp only [blk0]
  rfl

/-- The normalised rows. -/
theorem nrm (c : Dev nD) (t : Fin cfg0.N) (i : Fin 128) (j : Fin 1024) :
    k0_pay2 (iblk m c 0 t) (k0_pay11 (iblk m c 0 t)) (Ideal.ofBits .f32 0x44800000#32) (ix2 i j)
      = arg0 m c (ix2 (row t i) j) * Ideal.rsqrt (MS (arg0 m c) (row t i)) := by
  pointwise [k0_pay2]
  rw [blk0, inv]

/-! ## The error -/

theorem slice (X : FVec Ideal S16512x1024 .f32) (g : FVec Ideal S1024 .f32) (t : Fin cfg0.N) (h : t.val ≠ 0) (i : Fin 128) (j : Fin 1024) :
    val_main_v16 (F := Ideal) X g (ix2 (trow t i) j) = X (ix2 (row t i) j) * Ideal.rsqrt (MS X (row t i)) * g (ix1 j) := by
  have hr : ∀ h', (⟨128 + (trow t i).val, h'⟩ : Fin 16512) = row t i := fun h' => Fin.ext (by
    show 128 + ((t.val - 1) * 128 + i.val) = t.val * 128 + i.val
    omega)
  pointwise [val_main_v16, val_main_v15, val_main_v14, val_main_v13]
  rw [hr, ref12]

theorem err0 (c : Dev nD) (t : Fin cfg0.N) (h : t.val = 0) (i : Fin 128) (j : Fin 1024) :
    k0_pay8 (grid0.coords t) (iblk m c 0 t) (V m c main_v0) (iblk m c 1 t) (ix2 i j) = 0 := by
  pointwise [k0_pay8]
  rw [first, if_pos h]
  rfl

theorem err (c : Dev nD) (t : Fin cfg0.N) (h : t.val ≠ 0) (i : Fin 128) (j : Fin 1024) :
    k0_pay8 (grid0.coords t) (iblk m c 0 t) (V m c main_v0) (iblk m c 1 t) (ix2 i j)
      = val_main_v17 (F := Ideal) (arg0 m c) (arg1 m c) (arg2 m c) (ix2 (trow t i) j) := by
  pointwise [k0_pay8, val_main_v17]
  rw [first, if_neg h, slice _ _ t h]
  simp only [blk0, blk1, V_gain]
  rw [V_gain]
  rfl

/-- The gradient that reaches the normalised rows' product with the gain. -/
theorem grad (c : Dev nD) (t : Fin cfg0.N) (i : Fin 128) (j : Fin 1024) :
    k0_pay10 (grid0.coords t) (iblk m c 0 t) (V m c main_v0) (iblk m c 1 t) (ix2 i j)
      = val_main_v32 (F := Ideal) (arg0 m c) (arg1 m c) (arg2 m c) (ix2 (row t i) j) := by
  by_cases h : t.val = 0
  · refine Eq.trans ?_ (pad_apply_of_not_inside _ _ _ _ _ _ _ _ 0 ?_).symm
    · pointwise [k0_pay10, val_main_cst_11]
      rw [err0 m c t h]
      simp
    · rintro ⟨h1, -⟩
      have h2 : 128 ≤ t.val * 128 + i.val := h1
      omega
  · refine Eq.trans ?_ (pad_apply_of_inside _ _ _ _ _ _ _ _ (ix2 (trow t i) j) ?_).symm
    · pointwise [k0_pay10, val_main_v31, val_main_v30, val_main_v29, val_main_v28, val_main_v27, val_main_v26, val_main_v20, val_main_v19, val_main_cst_3,
        val_main_cst_8, val_main_cst_9, val_main_cst_10]
      rw [err m c t h, two', inv1024, Cert.Hand.half, Cert.Hand.c1024, Cert.Hand.div_real _ (by norm_num), ← EReal.coe_mul, ← mul_assoc,
        ← EReal.coe_mul, mul_comm]
      norm_num
    · intro a
      match a with
      | ⟨0, _⟩ =>
        show t.val * 128 + i.val = 128 + ((t.val - 1) * 128 + i.val) * 1
        omega
      | ⟨1, _⟩ =>
        show j.val = 0 + j.val * 1
        omega

/-! ## The gradient of the rows -/

theorem pay3 (x : Vec Ideal S128x1024 .f32) (g : Vec Ideal S1x1024 .f32) (dn : FVec Ideal S128x1024 .f32) (s : FVec Ideal S128x1 .f32) (i : Fin 128) (j : Fin 1024) :
    k0_pay3 x g dn s (Ideal.ofBits .f32 0x44800000#32) (ix2 i j)
      = k0_pay1 s (Ideal.ofBits .f32 0x44800000#32) (ix2 i 0) * (dn (ix2 i j) * g (ix2 0 j)
        - k0_pay2 x s (Ideal.ofBits .f32 0x44800000#32) (ix2 i j) * Ideal.div (∑ k : Fin 1024, dn (ix2 i k) * g (ix2 0 k)
          * k0_pay2 x s (Ideal.ofBits .f32 0x44800000#32) (ix2 i k)) (Ideal.ofBits .f32 0x44800000#32)) := by
  pointwise [k0_pay3]

theorem ref52 (X : FVec Ideal S16512x1024 .f32) (g : FVec Ideal S1024 .f32) (y : FVec Ideal S16384x1024 .f32) (r : Fin 16512) (j : Fin 1024) :
    val_main_v52 (F := Ideal) X g y (ix2 r j)
      = val_main_v32 (F := Ideal) X g y (ix2 r j) * g (ix1 j) * Ideal.rsqrt (MS X r)
        + X (ix2 r j) * (∑ _x : Fin 1, Ideal.div ((∑ k : Fin 1024, X (ix2 r k) * (val_main_v32 (F := Ideal) X g y (ix2 r k) * g (ix1 k)))
          * (Ideal.ofBits .f32 0xBF000000#32 * Ideal.div (Ideal.rsqrt (MS X r)) (MS X r))) (Ideal.ofBits .f32 0x44800000#32))
        + (∑ _x : Fin 1, Ideal.div ((∑ k : Fin 1024, X (ix2 r k) * (val_main_v32 (F := Ideal) X g y (ix2 r k) * g (ix1 k)))
          * (Ideal.ofBits .f32 0xBF000000#32 * Ideal.div (Ideal.rsqrt (MS X r)) (MS X r))) (Ideal.ofBits .f32 0x44800000#32)) * X (ix2 r j) := by
  have hz : ∑ x : Fin 1, Ideal.div ((∑ k : Fin 1024, X (ix2 r k) * (val_main_v32 (F := Ideal) X g y (ix2 r k) * g (ix1 k)))
        * (Ideal.ofBits .f32 0xBF000000#32 * Ideal.div (val_main_v7 (F := Ideal) X (ix2 r x)) (val_main_v6 (F := Ideal) X (ix2 r x))))
        (Ideal.ofBits .f32 0x44800000#32)
      = ∑ _x : Fin 1, Ideal.div ((∑ k : Fin 1024, X (ix2 r k) * (val_main_v32 (F := Ideal) X g y (ix2 r k) * g (ix1 k)))
        * (Ideal.ofBits .f32 0xBF000000#32 * Ideal.div (Ideal.rsqrt (MS X r)) (MS X r))) (Ideal.ofBits .f32 0x44800000#32) :=
    Finset.sum_congr rfl fun x _ => by rw [Subsingleton.elim x 0, ref7, ref6]
  pointwise [val_main_v52, val_main_v51, val_main_v50, val_main_v49, val_main_v48, val_main_v47, val_main_v46, val_main_v45, val_main_v44, val_main_v43,
    val_main_v42, val_main_v41, val_main_v40, val_main_v39, val_main_v37, val_main_v36, val_main_v13, val_main_v10, val_main_v9, val_main_v8, val_main_cst_2,
    val_main_cst_14, val_main_cst_15, val_main_cst_16]
  rw [ref7]
  exact congrArg (fun z => val_main_v32 (F := Ideal) X g y (ix2 r j) * g (ix1 j) * Ideal.rsqrt (MS X r) + X (ix2 r j) * z + z * X (ix2 r j)) hz

theorem point2 (c : Dev nD) (t : Fin cfg0.N) (i : Fin 128) (j : Fin 1024) :
    k0_pay3 (iblk m c 0 t) (V m c main_v0) (k0_pay10 (grid0.coords t) (iblk m c 0 t) (V m c main_v0) (iblk m c 1 t)) (k0_pay11 (iblk m c 0 t))
        (Ideal.ofBits .f32 0x44800000#32) (ix2 i j)
      = val_main_v52 (F := Ideal) (arg0 m c) (arg1 m c) (arg2 m c) (ix2 (row t i) j) := by
  have hs : ∑ k : Fin 1024, k0_pay10 (grid0.coords t) (iblk m c 0 t) (V m c main_v0) (iblk m c 1 t) (ix2 i k) * V m c main_v0 (ix2 0 k)
        * k0_pay2 (iblk m c 0 t) (k0_pay11 (iblk m c 0 t)) (Ideal.ofBits .f32 0x44800000#32) (ix2 i k)
      = ∑ k : Fin 1024, val_main_v32 (F := Ideal) (arg0 m c) (arg1 m c) (arg2 m c) (ix2 (row t i) k) * arg1 m c (ix1 k)
        * (arg0 m c (ix2 (row t i) k) * Ideal.rsqrt (MS (arg0 m c) (row t i))) :=
    Finset.sum_congr rfl fun k _ => by rw [grad, V_gain, nrm]
  rw [pay3, hs, inv, grad, nrm, V_gain, ref52]
  have h := Cert.Hand.rms_grad (fun k => arg0 m c (ix2 (row t i) k))
    (fun k => val_main_v32 (F := Ideal) (arg0 m c) (arg1 m c) (arg2 m c) (ix2 (row t i) k) * arg1 m c (ix1 k)) 0 j
  rw [zero_add, zero_add] at h
  exact h

theorem final2 (c : Dev nD) : (dats m 0 c).arrAt 2 cfg0.N = val_main_v52 (F := Ideal) (arg0 m c) (arg1 m c) (arg2 m c) := by
  refine (dats m 0 c).arrAt_eq_of_covers 2 _ (by decide +kernel) fun t hf y => ?_
  obtain ⟨i, j, rfl⟩ : ∃ (i : Fin 128) (j : Fin 1024), y = ix2 i j := ⟨y 0, y 1, ValueIdx.eq_ix2 y⟩
  have e : ((cfg0.win 2).blk t).view.emb (ix2 i j) = ix2 (row t i) j := by
    blk_ext [idx t]
  rw [e]
  blk_simp
  rw [after0_2]
  by_cases h0 : t.val % 129 = 0
  · rw [outsAt0_A m c t h0 h0]
    dsimp only
    frame_out
    simp only [Cert.Hand.readCov_whole (S := S1x1024) _ zero2]
    exact point2 m c t i j
  · rw [outsAt0_B m c t h0 h0]
    dsimp only
    frame_out
    simp only [carried, read_unread_whole]
    exact point2 m c t i j

/-! ## The gradient of the gain -/

/-- One block's part of the gradient of the gain. -/
theorem pay7 (x : Vec Ideal S128x1024 .f32) (dn : FVec Ideal S128x1024 .f32) (s : FVec Ideal S128x1 .f32) (acc : Vec Ideal S1x1024 .f32) (j : S1x1024.Idx) :
    k0_pay7 x dn s (Ideal.ofBits .f32 0x44800000#32) acc j
      = acc j + ∑ k : Fin 128, k0_pay2 x s (Ideal.ofBits .f32 0x44800000#32) (ix2 k (j 1)) * dn (ix2 k (j 1)) := by
  pointwise [k0_pay7]
  exact congrArg (acc j + ·) (Finset.sum_congr rfl fun k _ => mul_comm _ _)

theorem pay5 (j : S1x1024.Idx) : k0_pay5 (F := Ideal) j = 0 := by
  pointwise [k0_pay5]

theorem final4 (c : Dev nD) : (dats m 0 c).arrAt 4 cfg0.N = val_main_v54 (F := Ideal) (arg0 m c) (arg1 m c) (arg2 m c) := by
  refine (dats m 0 c).arrAt_eq_of_covers 4 _ (by decide +kernel) fun t hf y => ?_
  obtain ⟨i, j, rfl⟩ : ∃ (i : Fin 1) (j : Fin 1024), y = ix2 i j := ⟨y 0, y 1, ValueIdx.eq_ix2 y⟩
  have e : ((cfg0.win 4).blk t).view.emb (ix2 i j) = ix2 i j := by
    blk_ext [idx t]
  rw [e]
  clear e
  blk_simp
  rw [after0_4]
  rw [Pipeline.eq_sum_fin_of_reset_step_apply_of_flush (fun n h => (outsAt0 m c n h).2.2.1) 129 (fun _ => 0)
    (fun t j => ∑ k : Fin 128, k0_pay2 (iblk m c 0 t) (k0_pay11 (iblk m c 0 t)) (Ideal.ofBits .f32 0x44800000#32) (ix2 k (j 1))
      * k0_pay10 (grid0.coords t) (iblk m c 0 t) (V m c main_v0) (iblk m c 1 t) (ix2 k (j 1)))
    (fun t h j => by
      rw [outsAt0_A m c t h h]
      dsimp only
      frame_out
      simp only [Cert.Hand.readCov_whole (S := S1x1024) _ zero2]
      refine (pay7 _ _ _ _ _).trans ?_
      rw [pay5]
      rfl)
    (fun t h j => by
      rw [outsAt0_B m c t h h]
      dsimp only
      frame_out
      simp only [carried, read_unread_whole]
      exact pay7 _ _ _ _ _) t ((flush0_4 t).mp hf) _, zero_add]
  pointwise [val_main_v54, val_main_v38, val_main_v35, val_main_v34, val_main_v33, val_main_cst_12, val_main_cst_13]
  refine (Fin.sum_mul_add_congr (L := 16512) (S := 129) (n := 128)
    (f := fun l : Fin 16512 => val_main_v12 (F := Ideal) (arg0 m c) (ix2 l j) * val_main_v32 (F := Ideal) (arg0 m c) (arg1 m c) (arg2 m c) (ix2 l j))
    fun s k hl => ?_).trans (Fin.sum_univ_one fun _ : Fin 1 => ∑ l : Fin 16512,
      val_main_v12 (F := Ideal) (arg0 m c) (ix2 l j) * val_main_v32 (F := Ideal) (arg0 m c) (arg1 m c) (arg2 m c) (ix2 l j)).symm
  have hr : ∀ h, row ⟨129 * (t.val / 129) + s.val, h⟩ k = ⟨s.val * 128 + k.val, hl⟩ := fun h => Fin.ext (by
    have h1 : t.val < cfg0.N := t.isLt
    have h2 : cfg0.N = 129 := by decide +kernel
    have h3 : t.val / 129 = 0 := by omega
    show (129 * (t.val / 129) + s.val) * 128 + k.val = s.val * 128 + k.val
    omega)
  dsimp only
  rw [grad, nrm, hr, ref12]

/-! ## The loss -/

theorem pay9 (i : grid0.Coords) (x : Vec Ideal S128x1024 .f32) (g : Vec Ideal S1x1024 .f32) (y : Vec Ideal S128x1024 .f32) :
    k0_pay9 i x g y = Ideal.div (Ideal.ofBits .f32 0x3F000000#32 * ∑ a : Fin 128, ∑ k : Fin 1024, k0_pay8 i x g y (ix2 a k) * k0_pay8 i x g y (ix2 a k))
      (Ideal.ofBits .f32 0x44800000#32) := by
  pointwise [k0_pay9]

theorem pay6 (l : EReal) (acc : Vec Ideal S1x128 .f32) (j : S1x128.Idx) : k0_pay6 (F := Ideal) l acc j = acc j + l := by
  pointwise [k0_pay6]

theorem pay4 (j : S1x128.Idx) : k0_pay4 (F := Ideal) j = 0 := by
  pointwise [k0_pay4]

theorem ref53 (X : FVec Ideal S16512x1024 .f32) (g : FVec Ideal S1024 .f32) (y : FVec Ideal S16384x1024 .f32) (j : S1x128.Idx) :
    val_main_v53 (F := Ideal) X g y j = Ideal.ofBits .f32 0x3F000000#32 * ∑ r : Fin 16384, Ideal.div
      (∑ k : Fin 1024, val_main_v17 (F := Ideal) X g y (ix2 r k) * val_main_v17 (F := Ideal) X g y (ix2 r k)) (Ideal.ofBits .f32 0x44800000#32) := by
  pointwise [val_main_v53, val_main_v25, val_main_v24, val_main_v23, val_main_v22, val_main_v21, val_main_v18, val_main_cst_4, val_main_cst_5, val_main_cst_6,
    val_main_cst_7]

/-- One row's loss. -/
abbrev part (c : Dev nD) (r : Fin 16384) : EReal := Ideal.ofBits .f32 0x3F000000#32 * Ideal.div
  (∑ k : Fin 1024, val_main_v17 (F := Ideal) (arg0 m c) (arg1 m c) (arg2 m c) (ix2 r k) * val_main_v17 (F := Ideal) (arg0 m c) (arg1 m c) (arg2 m c) (ix2 r k))
  (Ideal.ofBits .f32 0x44800000#32)

/-- The loss of a block of rows is the sum of the rows' losses. -/
theorem split (A : Fin 128 → EReal) :
    Ideal.div (Ideal.ofBits .f32 0x3F000000#32 * ∑ a, A a) (Ideal.ofBits .f32 0x44800000#32)
      = ∑ a, Ideal.ofBits .f32 0x3F000000#32 * Ideal.div (A a) (Ideal.ofBits .f32 0x44800000#32) := by
  have h : ∀ x : EReal, Ideal.div x (Ideal.ofBits .f32 0x44800000#32) = (((1024 : ℝ)⁻¹ : ℝ) : EReal) * x := fun x => by
    rw [Cert.Hand.c1024, Cert.Hand.div_real _ (by norm_num), mul_comm]
  rw [h, Cert.Hand.half, Cert.Hand.mul_sum_pos (by norm_num), Cert.Hand.mul_sum_pos (by norm_num)]
  exact Finset.sum_congr rfl fun a _ => by rw [h, mul_left_comm]

theorem loss0 (c : Dev nD) (t : Fin cfg0.N) (h : t.val = 0) :
    k0_pay9 (grid0.coords t) (iblk m c 0 t) (V m c main_v0) (iblk m c 1 t) = 0 := by
  have hs : ∀ a : Fin 128, ∑ k : Fin 1024, k0_pay8 (grid0.coords t) (iblk m c 0 t) (V m c main_v0) (iblk m c 1 t) (ix2 a k)
      * k0_pay8 (grid0.coords t) (iblk m c 0 t) (V m c main_v0) (iblk m c 1 t) (ix2 a k) = 0 := fun a =>
    Finset.sum_eq_zero fun k _ => by rw [err0 m c t h, mul_zero]
  rw [pay9, Finset.sum_eq_zero fun a _ => hs a, mul_zero, Cert.Hand.c1024, Cert.Hand.div_real _ (by norm_num), zero_mul]

theorem loss (c : Dev nD) (t : Fin cfg0.N) (h : t.val ≠ 0) :
    k0_pay9 (grid0.coords t) (iblk m c 0 t) (V m c main_v0) (iblk m c 1 t) = ∑ a : Fin 128, part m c (trow t a) := by
  rw [pay9, split]
  exact Finset.sum_congr rfl fun a _ => by
    rw [Finset.sum_congr rfl fun k _ => by rw [err m c t h]]

/-- The blocks' losses, none at the first, make up the loss of all rows. -/
theorem total (c : Dev nD) (f : Fin 129 → EReal) (h0 : f 0 = 0)
    (h : ∀ s : Fin 128, f s.succ = ∑ a : Fin 128, part m c ⟨s.val * 128 + a.val, by omega⟩) :
    ∑ s, f s = Ideal.ofBits .f32 0x3F000000#32 * ∑ r : Fin 16384, Ideal.div
      (∑ k : Fin 1024, val_main_v17 (F := Ideal) (arg0 m c) (arg1 m c) (arg2 m c) (ix2 r k) * val_main_v17 (F := Ideal) (arg0 m c) (arg1 m c) (arg2 m c) (ix2 r k))
      (Ideal.ofBits .f32 0x44800000#32) := by
  rw [Cert.Hand.half, Cert.Hand.mul_sum_pos (by norm_num), ← Cert.Hand.half, Fin.sum_univ_succ, h0, zero_add, Finset.sum_congr rfl fun s _ => h s]
  exact Fin.sum_mul_add_congr (L := 16384) (S := 128) (n := 128) (f := part m c) fun s k hl => rfl

theorem final3 (c : Dev nD) : (dats m 0 c).arrAt 3 cfg0.N = val_main_v53 (F := Ideal) (arg0 m c) (arg1 m c) (arg2 m c) := by
  refine (dats m 0 c).arrAt_eq_of_covers 3 _ (by decide +kernel) fun t hf y => ?_
  obtain ⟨i, j, rfl⟩ : ∃ (i : Fin 1) (j : Fin 128), y = ix2 i j := ⟨y 0, y 1, ValueIdx.eq_ix2 y⟩
  have e : ((cfg0.win 3).blk t).view.emb (ix2 i j) = ix2 i j := by
    blk_ext [idx t]
  rw [e]
  clear e
  blk_simp
  rw [after0_3]
  rw [Pipeline.eq_sum_fin_of_reset_step_apply_of_flush (fun n h => (outsAt0 m c n h).2.1) 129 (fun _ => 0)
    (fun t _ => k0_pay9 (grid0.coords t) (iblk m c 0 t) (V m c main_v0) (iblk m c 1 t))
    (fun t h j => by
      rw [outsAt0_A m c t h h]
      dsimp only
      frame_out
      simp only [Cert.Hand.readCov_whole (S := S1x1024) _ zero2]
      refine (pay6 _ _ _).trans ?_
      rw [pay4]
      rfl)
    (fun t h j => by
      rw [outsAt0_B m c t h h]
      dsimp only
      frame_out
      simp only [carried, read_unread_whole]
      exact pay6 _ _ _) t ((flush0_3 t).mp hf) _, zero_add]
  have h1 : t.val < cfg0.N := t.isLt
  have h2 : cfg0.N = 129 := by decide +kernel
  have h3 : t.val / 129 = 0 := by omega
  have hq : ∀ s : Fin 129, 129 * (t.val / 129) + s.val < cfg0.N := fun s => by rw [h2, h3]; omega
  rw [ref53]
  exact total m c (fun s : Fin 129 => k0_pay9 (grid0.coords ⟨129 * (t.val / 129) + s.val, hq s⟩) (iblk m c 0 ⟨129 * (t.val / 129) + s.val, hq s⟩)
      (V m c main_v0) (iblk m c 1 ⟨129 * (t.val / 129) + s.val, hq s⟩))
    (loss0 m c _ (by show 129 * (t.val / 129) + 0 = 0; omega))
    fun s => (loss m c _ (by show 129 * (t.val / 129) + (s.val + 1) ≠ 0; omega)).trans (Finset.sum_congr rfl fun k _ => congrArg (part m c) (Fin.ext (by
      show (129 * (t.val / 129) + (s.val + 1) - 1) * 128 + k.val = s.val * 128 + k.val
      rw [h3]
      omega)))

/-- The kernel and the reference compute one array at each of the three results. -/
theorem algebraic : Cert.algebraic_Kernel30Ideal_Reference30Ideal := fun m g m' g' _ hag =>
  ⟨fun c => val_main_v52 (F := Ideal) (arg0 m c) (arg1 m c) (arg2 m c),
    fun c => val_main_v53 (F := Ideal) (arg0 m c) (arg1 m c) (arg2 m c),
    fun c => val_main_v54 (F := Ideal) (arg0 m c) (arg1 m c) (arg2 m c),
    (θ_run _ _ _).mono (fun _ h c => ⟨(h c).1.trans (final2 m c), (h c).2.1.trans (final3 m c), (h c).2.2.1.trans (final4 m c), (h c).2.2.2⟩)
      (Cert.Kernel30Ideal.Value.run_blocks m g),
    (θ_run _ _ _).mono (fun _ h c => ⟨(h c).1.trans (by rw [val_main_v52_eq, (hag c).1, (hag c).2.1, (hag c).2.2]),
      (h c).2.1.trans (by rw [(hag c).1, (hag c).2.1, (hag c).2.2]; rfl),
      (h c).2.2.1.trans (by rw [(hag c).1, (hag c).2.1, (hag c).2.2]; rfl), (h c).2.2.2⟩)
      (Cert.Reference30Ideal.Value.run m' g')⟩

end Cert.Kernel30Ideal.Hand

end
-- ==== Proof.Rows.lean ====
/- The number of a row as a word, and the word of zero. -/
module

public import Idealize.ShloMosaic.Lib.Pipeline.ValueKit
public import Idealize.ShloMosaic.Lib.Pointwise

@[expose] public section

namespace Cert.Hand

open Idealize.ShloMosaic

/-- The first row's number of block `n`, plus `k`, is the row's number in the array. -/
theorem row_word (n k : ℕ) : IntOp.addi (Scalar.muli (BitVec.ofNat 32 n) 384#32) (BitVec.ofNat 32 k) = BitVec.ofNat 32 (n * 384 + k) := by
  show BitVec.ofNat 32 n * 384#32 + BitVec.ofNat 32 k = _
  rw [BitVec.ofNat_add, BitVec.ofNat_mul]

theorem zero_word : Ideal.ofBits .f32 0x00000000#32 = 0 := by
  simp [Ideal.ofBits, Ideal.ieee]

end Cert.Hand

end
-- ==== Proof.Merge.lean ====
/- The gated merge of the two branches, with the padding rows at zero. -/
module

public import proofs.«01_k».proof.Proof.Gen.Kernel31Ideal.Value
public import proofs.«01_k».proof.Proof.Gen.Reference31Ideal.Run
public import proofs.«01_k».proof.Proof.Gen.Reference31Ideal.Read
public import proofs.«01_k».proof.Defs
public import proofs.«01_k».proof.Proof.Common
public import proofs.«01_k».proof.Proof.Rows

@[expose] public section

set_option maxRecDepth 16384

noncomputable section

namespace Cert.Kernel31Ideal.Hand

open Cert.Kernel31Ideal Cert.Kernel31Ideal.Gen Idealize.ShloMosaic Idealize.ShloMosaic.TcCoe Idealize.SL.Sem
open Idealize.ShloMosaic.Pipeline (Dat)
open Cert.Reference31Ideal.Read

variable (m : (ℓ : Loc nD τ sig) → Buf (Elt Ideal) ℓ) (ρ : Dev nD → PrngReg)

/-- The block indices of the windows, at every point. -/
theorem idx : ∀ t : Fin cfg0.N, win0_0.index t = ![t.val, 0] ∧ win0_1.index t = ![t.val, 0] ∧ win0_2.index t = ![t.val, 2] ∧ win0_3.index t = ![t.val, 3]
    ∧ win0_4.index t = ![t.val, 0] ∧ win0_5.index t = ![t.val, 0] ∧ win0_6.index t = ![t.val, 0] :=
  (by decide +kernel : ∀ t : Fin grid0.N, _)

theorem zero2 : (![0, 0] : Fin 2 → ℕ) = fun _ => 0 := by decide

/-- What the first point copied lies in the carried scratch after every point. -/
theorem carried (c : Dev nD) : ∀ (n : ℕ) (h : n < cfg0.N), (outsAt0 m c n h).2.2.2 = (V m c main_v2, V m c main_v3)
  | 0, h => by
    rw [outsAt0_A m c ⟨0, h⟩ rfl]
    refine Prod.ext ?_ ?_ <;> (funext y; dsimp only; frame_out; rw [Cert.Hand.canon_whole]; rfl)
  | n + 1, h => by
    have hN := lt_of_lt_of_eq h (show cfg0.N = 43 from N_0)
    rw [outsAt0_B m c ⟨n + 1, h⟩ (by dsimp only; omega)]
    dsimp only
    unfold sout0_B_0 sout0_B_1
    exact carried c n _

abbrev arg0 (c : Dev nD) := m ((c : Thread nD τ).loc main_arg0)
abbrev arg1 (c : Dev nD) := m ((c : Thread nD τ).loc main_arg1)
abbrev arg2 (c : Dev nD) : FVec Ideal S16512x4096 .f32 := m ((c : Thread nD τ).loc main_arg2)
abbrev arg3 (c : Dev nD) := m ((c : Thread nD τ).loc main_arg3)
abbrev arg4 (c : Dev nD) := m ((c : Thread nD τ).loc main_arg4)

/-- The row of the array that row `i` of point `t`'s block is. -/
abbrev row (t : Fin cfg0.N) (i : Fin 384) : Fin 16512 :=
  ⟨t.val * 384 + i.val, by have := lt_of_lt_of_eq t.isLt (show cfg0.N = 43 from N_0); omega⟩

theorem V_ys (c : Dev nD) : V m c main_v0 = truncf (F := Ideal) .bf16 (arg0 m c : FVec Ideal S16512x512 .f32) bitsLt_bf16_f32 := by
  entry_read
  rfl

theorem V_ya (c : Dev nD) : V m c main_v1 = truncf (F := Ideal) .bf16 (arg1 m c : FVec Ideal S16512x1024 .f32) bitsLt_bf16_f32 := by
  entry_read
  rfl

theorem V_wbs (c : Dev nD) : V m c main_v2 = truncf (F := Ideal) .bf16 (arg3 m c : FVec Ideal S512x1024 .f32) bitsLt_bf16_f32 := by
  entry_read
  rfl

theorem V_wba (c : Dev nD) : V m c main_v3 = truncf (F := Ideal) .bf16 (arg4 m c : FVec Ideal S1024x1024 .f32) bitsLt_bf16_f32 := by
  entry_read
  rfl

theorem blk0 (c : Dev nD) (t : Fin cfg0.N) (i : Fin 384) (k : Fin 512) : iblk m c 0 t (ix2 i k) = (arg0 m c : FVec Ideal S16512x512 .f32) (ix2 (row t i) k) := by
  blk_point [iblk, V_ys, idx t]

theorem blk1 (c : Dev nD) (t : Fin cfg0.N) (i : Fin 384) (k : Fin 1024) : iblk m c 1 t (ix2 i k) = (arg1 m c : FVec Ideal S16512x1024 .f32) (ix2 (row t i) k) := by
  blk_point [iblk, V_ya, idx t]

theorem blk2 (c : Dev nD) (t : Fin cfg0.N) (i : Fin 384) (k : Fin 1024) : iblk m c 2 t (ix2 i k) = val_main_v0 (F := Ideal) (arg2 m c) (ix2 (row t i) k) := by
  pointwise [val_main_v0]
  blk_point [iblk, V, idx t]

theorem blk3 (c : Dev nD) (t : Fin cfg0.N) (i : Fin 384) (k : Fin 1024) : iblk m c 3 t (ix2 i k) = val_main_v1 (F := Ideal) (arg2 m c) (ix2 (row t i) k) := by
  pointwise [val_main_v1]
  blk_point [iblk, V, idx t]

/-- The two branches' products. -/
theorem prodS (c : Dev nD) (t : Fin cfg0.N) (i : Fin 384) (j : Fin 1024) :
    k0_pay4 (iblk m c 0 t) (V m c main_v2) (ix2 i j) = val_main_v2 (F := Ideal) (arg0 m c) (arg3 m c) (ix2 (row t i) j) := by
  pointwise [k0_pay4, val_main_v2]
  exact Finset.sum_congr rfl fun k _ => by rw [blk0, V_wbs]; rfl

theorem prodA (c : Dev nD) (t : Fin cfg0.N) (i : Fin 384) (j : Fin 1024) :
    k0_pay5 (iblk m c 1 t) (V m c main_v3) (ix2 i j) = val_main_v3 (F := Ideal) (arg1 m c) (arg4 m c) (ix2 (row t i) j) := by
  pointwise [k0_pay5, val_main_v3]
  exact Finset.sum_congr rfl fun k _ => by rw [blk1, V_wba]; rfl

theorem point4 (c : Dev nD) (t : Fin cfg0.N) (i : Fin 384) (j : Fin 1024) :
    k0_pay1 (k0_pay4 (iblk m c 0 t) (V m c main_v2)) (ix2 i j) = val_main_v24 (F := Ideal) (arg0 m c) (arg3 m c) (ix2 (row t i) j) :=
  prodS m c t i j

theorem point5 (c : Dev nD) (t : Fin cfg0.N) (i : Fin 384) (j : Fin 1024) :
    k0_pay2 (k0_pay5 (iblk m c 1 t) (V m c main_v3)) (ix2 i j) = val_main_v25 (F := Ideal) (arg1 m c) (arg4 m c) (ix2 (row t i) j) :=
  prodA m c t i j

/-- The gates. -/
theorem gateS (c : Dev nD) (r : Fin 16512) (j : Fin 1024) :
    val_main_v9 (F := Ideal) (arg2 m c) (ix2 r j) = Cert.Hand.sg (val_main_v0 (F := Ideal) (arg2 m c) (ix2 r j)) := by
  pointwise [val_main_v9, val_main_v8, val_main_v7, val_main_v6, val_main_v5, val_main_v4, val_main_cst, val_main_cst_0]
  rfl

theorem gateA (c : Dev nD) (r : Fin 16512) (j : Fin 1024) :
    val_main_v16 (F := Ideal) (arg2 m c) (ix2 r j) = Cert.Hand.sg (val_main_v1 (F := Ideal) (arg2 m c) (ix2 r j)) := by
  pointwise [val_main_v16, val_main_v15, val_main_v14, val_main_v13, val_main_v12, val_main_v11, val_main_cst_1, val_main_cst_2]
  rfl

theorem merged (c : Dev nD) (t : Fin cfg0.N) (i : Fin 384) (j : Fin 1024) :
    k0_pay6 (iblk m c 0 t) (V m c main_v2) (iblk m c 1 t) (V m c main_v3) (iblk m c 2 t) (iblk m c 3 t) (ix2 i j)
      = val_main_v18 (F := Ideal) (arg0 m c) (arg1 m c) (arg2 m c) (arg3 m c) (arg4 m c) (ix2 (row t i) j) := by
  pointwise [k0_pay6, val_main_v18, val_main_v17, val_main_v10]
  rw [gateS, gateA, prodS, prodA, blk2, blk3, Cert.Hand.tanh_half, Cert.Hand.tanh_half]

theorem coord : ∀ t : Fin cfg0.N, (grid0.coords t 0).val = t.val :=
  (by decide +kernel : ∀ t : Fin grid0.N, _)

theorem point6 (c : Dev nD) (t : Fin cfg0.N) (i : Fin 384) (j : Fin 1024) :
    k0_pay3 (k0_pay6 (iblk m c 0 t) (V m c main_v2) (iblk m c 1 t) (V m c main_v3) (iblk m c 2 t) (iblk m c 3 t)) (k0_pay7 (grid0.coords t)) 112#32 (ix2 i j)
      = val_main_v26 (F := Ideal) (arg0 m c) (arg1 m c) (arg2 m c) (arg3 m c) (arg4 m c) (ix2 (row t i) j) := by
  pointwise [k0_pay3, k0_pay7, val_main_v26, val_main_v23, val_main_call0_v2, val_main_call0_v1, val_main_call0_v0, val_main_v22, val_main_v21, val_main_v20,
    val_main_v19, val_main_c, val_main_cst_3]
  rw [merged, coord, Cert.Hand.row_word]
  exact congrArg (Scalar.select _ _) (Cert.Hand.zero_word.symm)

theorem final4 (c : Dev nD) : (dats m 0 c).arrAt 4 cfg0.N = val_main_v24 (F := Ideal) (arg0 m c) (arg3 m c) := by
  refine (dats m 0 c).arrAt_eq_of_covers 4 _ (by decide +kernel) fun t hf y => ?_
  obtain ⟨i, j, rfl⟩ : ∃ (i : Fin 384) (j : Fin 1024), y = ix2 i j := ⟨y 0, y 1, ValueIdx.eq_ix2 y⟩
  have e : ((cfg0.win 4).blk t).view.emb (ix2 i j) = ix2 (row t i) j := by
    blk_ext [idx t]
  rw [e]
  blk_simp
  rw [after0_4]
  by_cases h0 : t.val % 43 = 0
  · rw [outsAt0_A m c t h0]
    dsimp only
    frame_out
    simp only [Cert.Hand.readCov_whole (S := S512x1024) _ zero2, Cert.Hand.readCov_whole (S := S1024x1024) _ zero2]
    exact point4 m c t i j
  · rw [outsAt0_B m c t h0]
    dsimp only
    frame_out
    simp only [carried, read_unread_whole]
    exact point4 m c t i j

theorem final5 (c : Dev nD) : (dats m 0 c).arrAt 5 cfg0.N = val_main_v25 (F := Ideal) (arg1 m c) (arg4 m c) := by
  refine (dats m 0 c).arrAt_eq_of_covers 5 _ (by decide +kernel) fun t hf y => ?_
  obtain ⟨i, j, rfl⟩ : ∃ (i : Fin 384) (j : Fin 1024), y = ix2 i j := ⟨y 0, y 1, ValueIdx.eq_ix2 y⟩
  have e : ((cfg0.win 5).blk t).view.emb (ix2 i j) = ix2 (row t i) j := by
    blk_ext [idx t]
  rw [e]
  blk_simp
  rw [after0_5]
  by_cases h0 : t.val % 43 = 0
  · rw [outsAt0_A m c t h0]
    dsimp only
    frame_out
    simp only [Cert.Hand.readCov_whole (S := S512x1024) _ zero2, Cert.Hand.readCov_whole (S := S1024x1024) _ zero2]
    exact point5 m c t i j
  · rw [outsAt0_B m c t h0]
    dsimp only
    frame_out
    simp only [carried, read_unread_whole]
    exact point5 m c t i j

theorem final6 (c : Dev nD) : (dats m 0 c).arrAt 6 cfg0.N = val_main_v26 (F := Ideal) (arg0 m c) (arg1 m c) (arg2 m c) (arg3 m c) (arg4 m c) := by
  refine (dats m 0 c).arrAt_eq_of_covers 6 _ (by decide +kernel) fun t hf y => ?_
  obtain ⟨i, j, rfl⟩ : ∃ (i : Fin 384) (j : Fin 1024), y = ix2 i j := ⟨y 0, y 1, ValueIdx.eq_ix2 y⟩
  have e : ((cfg0.win 6).blk t).view.emb (ix2 i j) = ix2 (row t i) j := by
    blk_ext [idx t]
  rw [e]
  blk_simp
  rw [after0_6]
  by_cases h0 : t.val % 43 = 0
  · rw [outsAt0_A m c t h0]
    dsimp only
    frame_out
    simp only [Cert.Hand.readCov_whole (S := S512x1024) _ zero2, Cert.Hand.readCov_whole (S := S1024x1024) _ zero2]
    exact point6 m c t i j
  · rw [outsAt0_B m c t h0]
    dsimp only
    frame_out
    simp only [carried, read_unread_whole]
    exact point6 m c t i j

/-- The kernel and the reference compute one array at each result. -/
theorem algebraic : Cert.algebraic_Kernel31Ideal_Reference31Ideal := fun m g m' g' _ hag =>
  ⟨fun c => val_main_v24 (F := Ideal) (arg0 m c) (arg3 m c),
    fun c => val_main_v25 (F := Ideal) (arg1 m c) (arg4 m c),
    fun c => val_main_v26 (F := Ideal) (arg0 m c) (arg1 m c) (arg2 m c) (arg3 m c) (arg4 m c),
    (θ_run _ _ _).mono (fun _ h c => ⟨(h c).1.trans (final4 m c), (h c).2.1.trans (final5 m c), (h c).2.2.1.trans (final6 m c), (h c).2.2.2⟩)
      (Cert.Kernel31Ideal.Value.run_blocks m g),
    (θ_run _ _ _).mono (fun _ h c => ⟨(h c).1.trans (by rw [(hag c).1, (hag c).2.2.2.1]; rfl),
      (h c).2.1.trans (by rw [(hag c).2.1, (hag c).2.2.2.2]; rfl),
      (h c).2.2.1.trans (by rw [(hag c).1, (hag c).2.1, (hag c).2.2.1, (hag c).2.2.2.1, (hag c).2.2.2.2]; rfl), (h c).2.2.2⟩)
      (Cert.Reference31Ideal.Value.run m' g')⟩

end Cert.Kernel31Ideal.Hand

end
-- ==== Proof.MergeGrad.lean ====
/- The gradient of the gated merge, at the two branches and at the two gates. -/
module

public import proofs.«01_k».proof.Proof.Gen.Kernel32Ideal.Value
public import proofs.«01_k».proof.Proof.Gen.Reference32Ideal.Run
public import proofs.«01_k».proof.Proof.Gen.Reference32Ideal.Read
public import proofs.«01_k».proof.Defs
public import proofs.«01_k».proof.Proof.Common
public import proofs.«01_k».proof.Proof.Rows

@[expose] public section

set_option maxRecDepth 16384

noncomputable section

namespace Cert.Kernel32Ideal.Hand

open Cert.Kernel32Ideal Cert.Kernel32Ideal.Gen Idealize.ShloMosaic Idealize.ShloMosaic.TcCoe Idealize.SL.Sem
open Idealize.ShloMosaic.Pipeline (Dat)
open Cert.Reference32Ideal.Read

variable (m : (ℓ : Loc nD τ sig) → Buf (Elt Ideal) ℓ) (ρ : Dev nD → PrngReg)

/-- The block indices of the windows, at every point. -/
theorem idx : ∀ t : Fin cfg0.N, win0_0.index t = ![t.val, 0] ∧ win0_1.index t = ![t.val, 2] ∧ win0_2.index t = ![t.val, 3] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem coord : ∀ t : Fin cfg0.N, (grid0.coords t 0).val = t.val :=
  (by decide +kernel : ∀ t : Fin grid0.N, _)

theorem zero2 : (![0, 0] : Fin 2 → ℕ) = fun _ => 0 := by decide

/-- The weight lies in the carried scratch after every point, as the first point copied it. -/
theorem carried (c : Dev nD) : ∀ (n : ℕ) (h : n < cfg0.N), (outsAt0 m c n h).2.2.2.2 = V m c main_v2
  | 0, h => by
    rw [outsAt0_A m c ⟨0, h⟩ rfl]
    funext y
    dsimp only
    frame_out
    rw [Cert.Hand.canon_whole]
    rfl
  | n + 1, h => by
    have hN := lt_of_lt_of_eq h (show cfg0.N = 43 from N_0)
    rw [outsAt0_B m c ⟨n + 1, h⟩ (by dsimp only; omega)]
    dsimp only
    unfold sout0_B_0
    exact carried c n _

abbrev arg0 (c : Dev nD) : FVec Ideal S16512x1024 .f32 := m ((c : Thread nD τ).loc main_arg0)
abbrev arg1 (c : Dev nD) : FVec Ideal S16512x4096 .f32 := m ((c : Thread nD τ).loc main_arg1)
abbrev arg2 (c : Dev nD) : FVec Ideal S16512x1024 .f32 := m ((c : Thread nD τ).loc main_arg2)
abbrev arg3 (c : Dev nD) : FVec Ideal S16512x1024 .f32 := m ((c : Thread nD τ).loc main_arg3)
abbrev arg4 (c : Dev nD) : FVec Ideal S1024x1024 .f32 := m ((c : Thread nD τ).loc main_arg4)

/-- The row of the array that row `i` of point `t`'s block is. -/
abbrev row (t : Fin cfg0.N) (i : Fin 384) : Fin 16512 :=
  ⟨t.val * 384 + i.val, by have := lt_of_lt_of_eq t.isLt (show cfg0.N = 43 from N_0); omega⟩

theorem V_bs (c : Dev nD) : V m c main_v0 = truncf (F := Ideal) .bf16 (arg2 m c : FVec Ideal S16512x1024 .f32) bitsLt_bf16_f32 := by
  entry_read
  rfl

theorem V_ba (c : Dev nD) : V m c main_v1 = truncf (F := Ideal) .bf16 (arg3 m c : FVec Ideal S16512x1024 .f32) bitsLt_bf16_f32 := by
  entry_read
  rfl

theorem V_w (c : Dev nD) : V m c main_v2 = truncf (F := Ideal) .bf16 (arg4 m c : FVec Ideal S1024x1024 .f32) bitsLt_bf16_f32 := by
  entry_read
  rfl

theorem blk0 (c : Dev nD) (t : Fin cfg0.N) (i : Fin 384) (k : Fin 1024) : iblk m c 0 t (ix2 i k) = arg0 m c (ix2 (row t i) k) := by
  blk_point [iblk, V, idx t]

theorem blk1 (c : Dev nD) (t : Fin cfg0.N) (i : Fin 384) (k : Fin 1024) : iblk m c 1 t (ix2 i k) = val_main_v0 (F := Ideal) (arg1 m c) (ix2 (row t i) k) := by
  pointwise [val_main_v0]
  blk_point [iblk, V, idx t]

theorem blk2 (c : Dev nD) (t : Fin cfg0.N) (i : Fin 384) (k : Fin 1024) : iblk m c 2 t (ix2 i k) = val_main_v1 (F := Ideal) (arg1 m c) (ix2 (row t i) k) := by
  pointwise [val_main_v1]
  blk_point [iblk, V, idx t]

theorem blk3 (c : Dev nD) (t : Fin cfg0.N) (i : Fin 384) (k : Fin 1024) : iblk m c 3 t (ix2 i k) = arg2 m c (ix2 (row t i) k) := by
  blk_point [iblk, V_bs, idx t]

theorem blk4 (c : Dev nD) (t : Fin cfg0.N) (i : Fin 384) (k : Fin 1024) : iblk m c 4 t (ix2 i k) = arg3 m c (ix2 (row t i) k) := by
  blk_point [iblk, V_ba, idx t]

/-- The gradient that reaches the merged rows. -/
theorem prodM (c : Dev nD) (t : Fin cfg0.N) (i : Fin 384) (j : Fin 1024) :
    k0_pay5 (grid0.coords t) (iblk m c 0 t) (V m c main_v2) (ix2 i j) = val_main_v30 (F := Ideal) (arg0 m c) (arg4 m c) (ix2 (row t i) j) := by
  pointwise [k0_pay5, val_main_v30, val_main_v29, val_main_v27_1, val_main_v26, val_main_v25, val_main_v24, val_main_v23, val_main_c, val_main_call1_v0,
    val_main_call1_cst]
  rw [coord, Cert.Hand.row_word]
  exact congrArg (fun z => Scalar.select _ z _) (Finset.sum_congr rfl fun k _ => by rw [blk0, V_w]; rfl)

/-- The gates. -/
theorem gateS (c : Dev nD) (r : Fin 16512) (j : Fin 1024) :
    val_main_v7 (F := Ideal) (arg1 m c) (ix2 r j) = Cert.Hand.sg (val_main_v0 (F := Ideal) (arg1 m c) (ix2 r j)) := by
  pointwise [val_main_v7, val_main_v6, val_main_v5, val_main_v4, val_main_v3, val_main_v2, val_main_cst, val_main_cst_0]
  rfl

theorem gateA (c : Dev nD) (r : Fin 16512) (j : Fin 1024) :
    val_main_v17 (F := Ideal) (arg1 m c) (ix2 r j) = Cert.Hand.sg (val_main_v1 (F := Ideal) (arg1 m c) (ix2 r j)) := by
  pointwise [val_main_v17, val_main_v16, val_main_v15, val_main_v14, val_main_v13, val_main_v12, val_main_cst_2, val_main_cst_3]
  rfl

theorem gateS' (c : Dev nD) (t : Fin cfg0.N) (i : Fin 384) (j : Fin 1024) :
    k0_pay6 (iblk m c 1 t) (ix2 i j) = val_main_v7 (F := Ideal) (arg1 m c) (ix2 (row t i) j) := by
  pointwise [k0_pay6]
  rw [gateS, blk1, Cert.Hand.tanh_half]

theorem gateA' (c : Dev nD) (t : Fin cfg0.N) (i : Fin 384) (j : Fin 1024) :
    k0_pay7 (iblk m c 2 t) (ix2 i j) = val_main_v17 (F := Ideal) (arg1 m c) (ix2 (row t i) j) := by
  pointwise [k0_pay7]
  rw [gateA, blk2, Cert.Hand.tanh_half]

theorem point5 (c : Dev nD) (t : Fin cfg0.N) (i : Fin 384) (j : Fin 1024) :
    k0_pay1 (k0_pay8 (grid0.coords t) (iblk m c 0 t) (V m c main_v2) (iblk m c 1 t)) (ix2 i j)
      = val_main_v37 (F := Ideal) (arg0 m c) (arg1 m c) (arg4 m c) (ix2 (row t i) j) := by
  pointwise [k0_pay1, k0_pay8, val_main_v37, val_main_v34]
  rw [prodM, gateS', mul_comm]

theorem point6 (c : Dev nD) (t : Fin cfg0.N) (i : Fin 384) (j : Fin 1024) :
    k0_pay2 (k0_pay9 (grid0.coords t) (iblk m c 0 t) (V m c main_v2) (iblk m c 2 t)) (ix2 i j)
      = val_main_v38 (F := Ideal) (arg0 m c) (arg1 m c) (arg4 m c) (ix2 (row t i) j) := by
  pointwise [k0_pay2, k0_pay9, val_main_v38, val_main_v31]
  rw [prodM, gateA', mul_comm]

theorem point7 (c : Dev nD) (t : Fin cfg0.N) (i : Fin 384) (j : Fin 1024) :
    k0_pay3 (k0_pay5 (grid0.coords t) (iblk m c 0 t) (V m c main_v2)) (k0_pay6 (iblk m c 1 t)) (k0_pay10 (iblk m c 3 t)) (ix2 i j)
      = val_main_v39 (F := Ideal) (arg0 m c) (arg1 m c) (arg2 m c) (arg4 m c) (ix2 (row t i) j) := by
  pointwise [k0_pay3, k0_pay10, val_main_v39, val_main_v36, val_main_v35, val_main_v10, val_main_v9, val_main_v8, val_main_cst_1]
  rw [prodM, gateS', blk3, mul_assoc]

theorem point8 (c : Dev nD) (t : Fin cfg0.N) (i : Fin 384) (j : Fin 1024) :
    k0_pay4 (k0_pay5 (grid0.coords t) (iblk m c 0 t) (V m c main_v2)) (k0_pay7 (iblk m c 2 t)) (iblk m c 4 t) (ix2 i j)
      = val_main_v40 (F := Ideal) (arg0 m c) (arg1 m c) (arg3 m c) (arg4 m c) (ix2 (row t i) j) := by
  pointwise [k0_pay4, val_main_v40, val_main_v33, val_main_v32, val_main_v20, val_main_v19, val_main_v18, val_main_cst_4]
  rw [prodM, gateA', blk4, mul_assoc]

theorem final5 (c : Dev nD) : (dats m 0 c).arrAt 5 cfg0.N = val_main_v37 (F := Ideal) (arg0 m c) (arg1 m c) (arg4 m c) := by
  refine (dats m 0 c).arrAt_eq_of_covers 5 _ (by decide +kernel) fun t hf y => ?_
  obtain ⟨i, j, rfl⟩ : ∃ (i : Fin 384) (j : Fin 1024), y = ix2 i j := ⟨y 0, y 1, ValueIdx.eq_ix2 y⟩
  have e : ((cfg0.win 5).blk t).view.emb (ix2 i j) = ix2 (row t i) j := by
    blk_ext [idx t]
  rw [e]
  blk_simp
  rw [after0_5]
  by_cases h0 : t.val % 43 = 0
  · rw [outsAt0_A m c t h0]
    dsimp only
    frame_out
    simp only [Cert.Hand.readCov_whole (S := S1024x1024) _ zero2]
    exact point5 m c t i j
  · rw [outsAt0_B m c t h0]
    dsimp only
    frame_out
    simp only [carried, read_unread_whole]
    exact point5 m c t i j

theorem final6 (c : Dev nD) : (dats m 0 c).arrAt 6 cfg0.N = val_main_v38 (F := Ideal) (arg0 m c) (arg1 m c) (arg4 m c) := by
  refine (dats m 0 c).arrAt_eq_of_covers 6 _ (by decide +kernel) fun t hf y => ?_
  obtain ⟨i, j, rfl⟩ : ∃ (i : Fin 384) (j : Fin 1024), y = ix2 i j := ⟨y 0, y 1, ValueIdx.eq_ix2 y⟩
  have e : ((cfg0.win 6).blk t).view.emb (ix2 i j) = ix2 (row t i) j := by
    blk_ext [idx t]
  rw [e]
  blk_simp
  rw [after0_6]
  by_cases h0 : t.val % 43 = 0
  · rw [outsAt0_A m c t h0]
    dsimp only
    frame_out
    simp only [Cert.Hand.readCov_whole (S := S1024x1024) _ zero2]
    exact point6 m c t i j
  · rw [outsAt0_B m c t h0]
    dsimp only
    frame_out
    simp only [carried, read_unread_whole]
    exact point6 m c t i j

theorem final7 (c : Dev nD) : (dats m 0 c).arrAt 7 cfg0.N = val_main_v39 (F := Ideal) (arg0 m c) (arg1 m c) (arg2 m c) (arg4 m c) := by
  refine (dats m 0 c).arrAt_eq_of_covers 7 _ (by decide +kernel) fun t hf y => ?_
  obtain ⟨i, j, rfl⟩ : ∃ (i : Fin 384) (j : Fin 1024), y = ix2 i j := ⟨y 0, y 1, ValueIdx.eq_ix2 y⟩
  have e : ((cfg0.win 7).blk t).view.emb (ix2 i j) = ix2 (row t i) j := by
    blk_ext [idx t]
  rw [e]
  blk_simp
  rw [after0_7]
  by_cases h0 : t.val % 43 = 0
  · rw [outsAt0_A m c t h0]
    dsimp only
    frame_out
    simp only [Cert.Hand.readCov_whole (S := S1024x1024) _ zero2]
    exact point7 m c t i j
  · rw [outsAt0_B m c t h0]
    dsimp only
    frame_out
    simp only [carried, read_unread_whole]
    exact point7 m c t i j

theorem final8 (c : Dev nD) : (dats m 0 c).arrAt 8 cfg0.N = val_main_v40 (F := Ideal) (arg0 m c) (arg1 m c) (arg3 m c) (arg4 m c) := by
  refine (dats m 0 c).arrAt_eq_of_covers 8 _ (by decide +kernel) fun t hf y => ?_
  obtain ⟨i, j, rfl⟩ : ∃ (i : Fin 384) (j : Fin 1024), y = ix2 i j := ⟨y 0, y 1, ValueIdx.eq_ix2 y⟩
  have e : ((cfg0.win 8).blk t).view.emb (ix2 i j) = ix2 (row t i) j := by
    blk_ext [idx t]
  rw [e]
  blk_simp
  rw [after0_8]
  by_cases h0 : t.val % 43 = 0
  · rw [outsAt0_A m c t h0]
    dsimp only
    frame_out
    simp only [Cert.Hand.readCov_whole (S := S1024x1024) _ zero2]
    exact point8 m c t i j
  · rw [outsAt0_B m c t h0]
    dsimp only
    frame_out
    simp only [carried, read_unread_whole]
    exact point8 m c t i j

/-- The kernel and the reference compute one array at each result. -/
theorem algebraic : Cert.algebraic_Kernel32Ideal_Reference32Ideal := fun m g m' g' _ hag =>
  ⟨fun c => val_main_v37 (F := Ideal) (arg0 m c) (arg1 m c) (arg4 m c),
    fun c => val_main_v38 (F := Ideal) (arg0 m c) (arg1 m c) (arg4 m c),
    fun c => val_main_v39 (F := Ideal) (arg0 m c) (arg1 m c) (arg2 m c) (arg4 m c),
    fun c => val_main_v40 (F := Ideal) (arg0 m c) (arg1 m c) (arg3 m c) (arg4 m c),
    (θ_run _ _ _).mono (fun _ h c => ⟨(h c).1.trans (final5 m c), (h c).2.1.trans (final6 m c), (h c).2.2.1.trans (final7 m c),
      (h c).2.2.2.1.trans (final8 m c), (h c).2.2.2.2⟩)
      (Cert.Kernel32Ideal.Value.run_blocks m g),
    (θ_run _ _ _).mono (fun _ h c => ⟨(h c).1.trans (by rw [(hag c).1, (hag c).2.1, (hag c).2.2.2.2]; rfl),
      (h c).2.1.trans (by rw [(hag c).1, (hag c).2.1, (hag c).2.2.2.2]; rfl),
      (h c).2.2.1.trans (by rw [(hag c).1, (hag c).2.1, (hag c).2.2.1, (hag c).2.2.2.2]; rfl),
      (h c).2.2.2.1.trans (by rw [(hag c).1, (hag c).2.1, (hag c).2.2.2.1, (hag c).2.2.2.2]; rfl), (h c).2.2.2.2⟩)
      (Cert.Reference32Ideal.Value.run m' g')⟩

end Cert.Kernel32Ideal.Hand

end
-- ==== Proof.MixInGrad.lean ====
/- The gradient of the mixer's input projection: the gradients of its pieces side by side, and the gradient through the norm. -/
module

public import proofs.«01_k».proof.Proof.Gen.Kernel33Ideal.Frame
public import Idealize.ShloMosaic.Lib.Pipeline.Value
public import proofs.«01_k».proof.Proof.Gen.Reference33Ideal.Run
public import proofs.«01_k».proof.Proof.Gen.Reference33Ideal.Read
public import proofs.«01_k».proof.Defs
public import proofs.«01_k».proof.Proof.Common
public import proofs.«01_k».proof.Proof.Rows
public import Idealize.ShloMosaic.Lib.ReduceAll

@[expose] public section

set_option maxRecDepth 16384

noncomputable section

namespace Cert.Kernel33Ideal.Hand

open Cert.Kernel33Ideal Cert.Kernel33Ideal.Gen Idealize.ShloMosaic Idealize.ShloMosaic.TcCoe Idealize.SL.Sem
open Idealize.ShloMosaic.Pipeline (Dat)
open Cert.Reference33Ideal.Read

variable (m : (ℓ : Loc nD τ sig) → Buf (Elt Ideal) ℓ) (ρ : Dev nD → PrngReg)

/-- The block indices of the windows, at every point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![0, 0] :=
  (by decide +kernel : ∀ t : Fin grid0.N, _)

theorem coord : ∀ t : Fin cfg0.N, (grid0.coords t 0).val = t.val :=
  (by decide +kernel : ∀ t : Fin grid0.N, _)

/-- The test for the first block. -/
theorem first : ∀ t : Fin cfg0.N, Scalar.cmpi .eq (BitVec.ofNat 32 (grid0.coords t 0).val) 0#32 = if t.val = 0 then 1#1 else 0#1 :=
  (by decide +kernel : ∀ t : Fin grid0.N, _)

theorem zero2 : (![0, 0] : Fin 2 → ℕ) = fun _ => 0 := by decide

/-- The gradients of the meta rows, the weight and the gain lie in the carried scratch after every point, as the first point copied them. -/
theorem carried (c : Dev nD) : ∀ (n : ℕ) (h : n < cfg0.N),
    (outsAt0 m c n h).2.2.2 = (V m c main_arg10, V m c main_arg11, V m c main_v4, V m c main_v5)
  | 0, h => by
    rw [outsAt0_A m c ⟨0, h⟩ rfl rfl]
    refine Prod.ext ?_ (Prod.ext ?_ (Prod.ext ?_ ?_)) <;> (funext y; dsimp only; frame_out; rw [Cert.Hand.canon_whole]; rfl)
  | n + 1, h => by
    have hN := lt_of_lt_of_eq h (show cfg0.N = 43 from N_0)
    rw [outsAt0_B m c ⟨n + 1, h⟩ (by dsimp only; omega) (by dsimp only; omega)]
    dsimp only
    unfold sout0_B_0 sout0_B_1 sout0_B_2 sout0_B_3
    exact carried c n _

abbrev arg0 (c : Dev nD) : FVec Ideal S16512x1024 .f32 := m ((c : Thread nD τ).loc main_arg0)
abbrev arg1 (c : Dev nD) : FVec Ideal S1024 .f32 := m ((c : Thread nD τ).loc main_arg1)
abbrev arg2 (c : Dev nD) : FVec Ideal S1024x4096 .f32 := m ((c : Thread nD τ).loc main_arg2)
abbrev arg3 (c : Dev nD) : FVec Ideal S16512x1024 .f32 := m ((c : Thread nD τ).loc main_arg3)
abbrev arg4 (c : Dev nD) : FVec Ideal S16512x1024 .f32 := m ((c : Thread nD τ).loc main_arg4)
abbrev arg5 (c : Dev nD) : FVec Ideal S16512x256 .f32 := m ((c : Thread nD τ).loc main_arg5)
abbrev arg6 (c : Dev nD) : FVec Ideal S16512x256 .f32 := m ((c : Thread nD τ).loc main_arg6)
abbrev arg7 (c : Dev nD) : FVec Ideal S16512x512 .f32 := m ((c : Thread nD τ).loc main_arg7)
abbrev arg8 (c : Dev nD) : FVec Ideal S16512x1024 .f32 := m ((c : Thread nD τ).loc main_arg8)
abbrev arg9 (c : Dev nD) : FVec Ideal S16512x1024 .f32 := m ((c : Thread nD τ).loc main_arg9)
abbrev arg10 (c : Dev nD) : FVec Ideal S16x256 .f32 := m ((c : Thread nD τ).loc main_arg10)
abbrev arg11 (c : Dev nD) : FVec Ideal S16x256 .f32 := m ((c : Thread nD τ).loc main_arg11)

/-- The row of the array that row `i` of point `t`'s block is. -/
abbrev row (t : Fin cfg0.N) (i : Fin 384) : Fin 16512 :=
  ⟨t.val * 384 + i.val, by have := lt_of_lt_of_eq t.isLt (show cfg0.N = 43 from N_0); omega⟩

theorem V_dq (c : Dev nD) : V m c main_v0 = truncf (F := Ideal) .bf16 (arg4 m c : FVec Ideal S16512x1024 .f32) bitsLt_bf16_f32 := by
  entry_read
  rfl

theorem V_du (c : Dev nD) : V m c main_v1 = truncf (F := Ideal) .bf16 (arg7 m c : FVec Ideal S16512x512 .f32) bitsLt_bf16_f32 := by
  entry_read
  rfl

theorem V_dgs (c : Dev nD) : V m c main_v2 = truncf (F := Ideal) .bf16 (arg8 m c : FVec Ideal S16512x1024 .f32) bitsLt_bf16_f32 := by
  entry_read
  rfl

theorem V_dga (c : Dev nD) : V m c main_v3 = truncf (F := Ideal) .bf16 (arg9 m c : FVec Ideal S16512x1024 .f32) bitsLt_bf16_f32 := by
  entry_read
  rfl

theorem V_w (c : Dev nD) : V m c main_v4 = truncf (F := Ideal) .bf16 (arg2 m c : FVec Ideal S1024x4096 .f32) bitsLt_bf16_f32 := by
  entry_read
  rfl

theorem V_gain (c : Dev nD) (j : Fin 1024) : V m c main_v5 (ix2 0 j) = arg1 m c (ix1 j) := by
  entry_read
  pointwise

/-- The blocks' entries. -/
theorem blk0 (c : Dev nD) (t : Fin cfg0.N) (i : Fin 384) (k : Fin 1024) : iblk m c 0 t (ix2 i k) = arg4 m c (ix2 (row t i) k) := by
  blk_point [iblk, V_dq, idx t]

theorem blk1 (c : Dev nD) (t : Fin cfg0.N) (i : Fin 384) (k : Fin 256) : iblk m c 1 t (ix2 i k) = arg5 m c (ix2 (row t i) k) := by
  blk_point [iblk, V, idx t]

theorem blk2 (c : Dev nD) (t : Fin cfg0.N) (i : Fin 384) (k : Fin 256) : iblk m c 2 t (ix2 i k) = arg6 m c (ix2 (row t i) k) := by
  blk_point [iblk, V, idx t]

theorem blk3 (c : Dev nD) (t : Fin cfg0.N) (i : Fin 384) (k : Fin 512) : iblk m c 3 t (ix2 i k) = arg7 m c (ix2 (row t i) k) := by
  blk_point [iblk, V_du, idx t]

theorem blk4 (c : Dev nD) (t : Fin cfg0.N) (i : Fin 384) (k : Fin 1024) : iblk m c 4 t (ix2 i k) = arg8 m c (ix2 (row t i) k) := by
  blk_point [iblk, V_dgs, idx t]

theorem blk5 (c : Dev nD) (t : Fin cfg0.N) (i : Fin 384) (k : Fin 1024) : iblk m c 5 t (ix2 i k) = arg9 m c (ix2 (row t i) k) := by
  blk_point [iblk, V_dga, idx t]

theorem blk6 (c : Dev nD) (t : Fin cfg0.N) (i : Fin 384) (k : Fin 1024) : iblk m c 6 t (ix2 i k) = arg0 m c (ix2 (row t i) k) := by
  blk_point [iblk, V, idx t]

theorem blk7 (c : Dev nD) (t : Fin cfg0.N) (i : Fin 384) (k : Fin 1024) : iblk m c 7 t (ix2 i k) = arg3 m c (ix2 (row t i) k) := by
  blk_point [iblk, V, idx t]

/-- The meta rows placed in a block, read at an entry. -/
theorem catK (z : S112x256.Idx → EReal) (x : S16x256.Idx → EReal) (z' : S256x256.Idx → EReal)
    (h : Shape.Concatenates [S112x256, S16x256, S256x256] S384x256 0) (i : Fin 384) (j : Fin 256) :
    concatenate S384x256 0 [⟨S112x256, z⟩, ⟨S16x256, x⟩, ⟨S256x256, z'⟩] h (ix2 i j)
      = if h1 : i.val < 112 then z (ix2 ⟨i.val, h1⟩ j) else if h2 : i.val < 128 then x (ix2 ⟨i.val - 112, by omega⟩ j) else z' (ix2 ⟨i.val - 128, by omega⟩ j) := by
  split
  next h1 =>
    exact concatenate_apply_piece (t := S384x256) 0 [⟨S112x256, z⟩, ⟨S16x256, x⟩, ⟨S256x256, z'⟩] h (ix2 i j) 0 (by show 0 < 3; omega) S112x256 z rfl rfl 0 rfl (ix2 ⟨i.val, h1⟩ j)
      (fun b hb => by match b with | ⟨0, _⟩ => exact absurd rfl hb | ⟨1, _⟩ => rfl) (by show 0 + i.val = i.val; omega)
  next h1 =>
    split
    next h2 =>
      exact concatenate_apply_piece (t := S384x256) 0 [⟨S112x256, z⟩, ⟨S16x256, x⟩, ⟨S256x256, z'⟩] h (ix2 i j) 1 (by show 1 < 3; omega) S16x256 x rfl rfl 112 rfl (ix2 ⟨i.val - 112, by omega⟩ j)
        (fun b hb => by match b with | ⟨0, _⟩ => exact absurd rfl hb | ⟨1, _⟩ => rfl) (by show 112 + (i.val - 112) = i.val; omega)
    next h2 =>
      exact concatenate_apply_piece (t := S384x256) 0 [⟨S112x256, z⟩, ⟨S16x256, x⟩, ⟨S256x256, z'⟩] h (ix2 i j) 2 (by show 2 < 3; omega) S256x256 z' rfl rfl 128 rfl (ix2 ⟨i.val - 128, by omega⟩ j)
        (fun b hb => by match b with | ⟨0, _⟩ => exact absurd rfl hb | ⟨1, _⟩ => rfl) (by show 128 + (i.val - 128) = i.val; omega)

/-- The meta rows placed in the array, read at an entry. -/
theorem catR (z : Cert.Reference33Ideal.S112x256.Idx → EReal) (x : Cert.Reference33Ideal.S16x256.Idx → EReal) (z' : Cert.Reference33Ideal.S16384x256.Idx → EReal)
    (h : Shape.Concatenates [Cert.Reference33Ideal.S112x256, Cert.Reference33Ideal.S16x256, Cert.Reference33Ideal.S16384x256] Cert.Reference33Ideal.S16512x256 0) (i : Fin 16512) (j : Fin 256) :
    concatenate Cert.Reference33Ideal.S16512x256 0 [⟨Cert.Reference33Ideal.S112x256, z⟩, ⟨Cert.Reference33Ideal.S16x256, x⟩, ⟨Cert.Reference33Ideal.S16384x256, z'⟩] h (ix2 i j)
      = if h1 : i.val < 112 then z (ix2 ⟨i.val, h1⟩ j) else if h2 : i.val < 128 then x (ix2 ⟨i.val - 112, by omega⟩ j) else z' (ix2 ⟨i.val - 128, by omega⟩ j) := by
  split
  next h1 =>
    exact concatenate_apply_piece (t := Cert.Reference33Ideal.S16512x256) 0 [⟨Cert.Reference33Ideal.S112x256, z⟩, ⟨Cert.Reference33Ideal.S16x256, x⟩, ⟨Cert.Reference33Ideal.S16384x256, z'⟩] h (ix2 i j) 0 (by show 0 < 3; omega) Cert.Reference33Ideal.S112x256 z rfl rfl 0 rfl (ix2 ⟨i.val, h1⟩ j)
      (fun b hb => by match b with | ⟨0, _⟩ => exact absurd rfl hb | ⟨1, _⟩ => rfl) (by show 0 + i.val = i.val; omega)
  next h1 =>
    split
    next h2 =>
      exact concatenate_apply_piece (t := Cert.Reference33Ideal.S16512x256) 0 [⟨Cert.Reference33Ideal.S112x256, z⟩, ⟨Cert.Reference33Ideal.S16x256, x⟩, ⟨Cert.Reference33Ideal.S16384x256, z'⟩] h (ix2 i j) 1 (by show 1 < 3; omega) Cert.Reference33Ideal.S16x256 x rfl rfl 112 rfl (ix2 ⟨i.val - 112, by omega⟩ j)
        (fun b hb => by match b with | ⟨0, _⟩ => exact absurd rfl hb | ⟨1, _⟩ => rfl) (by show 112 + (i.val - 112) = i.val; omega)
    next h2 =>
      exact concatenate_apply_piece (t := Cert.Reference33Ideal.S16512x256) 0 [⟨Cert.Reference33Ideal.S112x256, z⟩, ⟨Cert.Reference33Ideal.S16x256, x⟩, ⟨Cert.Reference33Ideal.S16384x256, z'⟩] h (ix2 i j) 2 (by show 2 < 3; omega) Cert.Reference33Ideal.S16384x256 z' rfl rfl 128 rfl (ix2 ⟨i.val - 128, by omega⟩ j)
        (fun b hb => by match b with | ⟨0, _⟩ => exact absurd rfl hb | ⟨1, _⟩ => rfl) (by show 128 + (i.val - 128) = i.val; omega)

/-- Pieces side by side agree where the pieces agree. -/
theorem cat6 {i : Fin 384} {r : Fin 16512}
    (a : S384x1024.Idx → EReal) (a' : Cert.Reference33Ideal.S16512x1024.Idx → EReal) (ha : ∀ k, a (ix2 i k) = a' (ix2 r k))
    (b : S384x256.Idx → EReal) (b' : Cert.Reference33Ideal.S16512x256.Idx → EReal) (hb : ∀ k, b (ix2 i k) = b' (ix2 r k))
    (e : S384x256.Idx → EReal) (e' : Cert.Reference33Ideal.S16512x256.Idx → EReal) (he : ∀ k, e (ix2 i k) = e' (ix2 r k))
    (f : S384x512.Idx → EReal) (f' : Cert.Reference33Ideal.S16512x512.Idx → EReal) (hf : ∀ k, f (ix2 i k) = f' (ix2 r k))
    (g : S384x1024.Idx → EReal) (g' : Cert.Reference33Ideal.S16512x1024.Idx → EReal) (hg : ∀ k, g (ix2 i k) = g' (ix2 r k))
    (u : S384x1024.Idx → EReal) (u' : Cert.Reference33Ideal.S16512x1024.Idx → EReal) (hu : ∀ k, u (ix2 i k) = u' (ix2 r k))
    (h : Shape.Concatenates [S384x1024, S384x256, S384x256, S384x512, S384x1024, S384x1024] S384x4096 1) (h' : Shape.Concatenates [Cert.Reference33Ideal.S16512x1024, Cert.Reference33Ideal.S16512x256, Cert.Reference33Ideal.S16512x256, Cert.Reference33Ideal.S16512x512, Cert.Reference33Ideal.S16512x1024, Cert.Reference33Ideal.S16512x1024] Cert.Reference33Ideal.S16512x4096 1) (j : Fin 4096) :
    concatenate S384x4096 1 [⟨S384x1024, a⟩, ⟨S384x256, b⟩, ⟨S384x256, e⟩, ⟨S384x512, f⟩, ⟨S384x1024, g⟩, ⟨S384x1024, u⟩] h (ix2 i j)
      = concatenate Cert.Reference33Ideal.S16512x4096 1 [⟨Cert.Reference33Ideal.S16512x1024, a'⟩, ⟨Cert.Reference33Ideal.S16512x256, b'⟩, ⟨Cert.Reference33Ideal.S16512x256, e'⟩, ⟨Cert.Reference33Ideal.S16512x512, f'⟩, ⟨Cert.Reference33Ideal.S16512x1024, g'⟩, ⟨Cert.Reference33Ideal.S16512x1024, u'⟩] h' (ix2 r j) := by
  by_cases h0 : j.val < 1024
  · exact (concatenate_apply_piece (t := S384x4096) 1 [⟨S384x1024, a⟩, ⟨S384x256, b⟩, ⟨S384x256, e⟩, ⟨S384x512, f⟩, ⟨S384x1024, g⟩, ⟨S384x1024, u⟩] h (ix2 i j) 0 (by show 0 < 6; omega) S384x1024 a rfl rfl 0 rfl (ix2 i ⟨j.val - 0, by omega⟩)
      (fun b hb => by match b with | ⟨0, _⟩ => rfl | ⟨1, _⟩ => exact absurd rfl hb) (by show 0 + (j.val - 0) = j.val; omega)).trans
      ((ha _).trans (concatenate_apply_piece (t := Cert.Reference33Ideal.S16512x4096) 1 [⟨Cert.Reference33Ideal.S16512x1024, a'⟩, ⟨Cert.Reference33Ideal.S16512x256, b'⟩, ⟨Cert.Reference33Ideal.S16512x256, e'⟩, ⟨Cert.Reference33Ideal.S16512x512, f'⟩, ⟨Cert.Reference33Ideal.S16512x1024, g'⟩, ⟨Cert.Reference33Ideal.S16512x1024, u'⟩] h' (ix2 r j) 0 (by show 0 < 6; omega) Cert.Reference33Ideal.S16512x1024 a' rfl rfl 0 rfl (ix2 r ⟨j.val - 0, by omega⟩)
      (fun b hb => by match b with | ⟨0, _⟩ => rfl | ⟨1, _⟩ => exact absurd rfl hb) (by show 0 + (j.val - 0) = j.val; omega)).symm)
  by_cases h1 : j.val < 1280
  · exact (concatenate_apply_piece (t := S384x4096) 1 [⟨S384x1024, a⟩, ⟨S384x256, b⟩, ⟨S384x256, e⟩, ⟨S384x512, f⟩, ⟨S384x1024, g⟩, ⟨S384x1024, u⟩] h (ix2 i j) 1 (by show 1 < 6; omega) S384x256 b rfl rfl 1024 rfl (ix2 i ⟨j.val - 1024, by omega⟩)
      (fun b hb => by match b with | ⟨0, _⟩ => rfl | ⟨1, _⟩ => exact absurd rfl hb) (by show 1024 + (j.val - 1024) = j.val; omega)).trans
      ((hb _).trans (concatenate_apply_piece (t := Cert.Reference33Ideal.S16512x4096) 1 [⟨Cert.Reference33Ideal.S16512x1024, a'⟩, ⟨Cert.Reference33Ideal.S16512x256, b'⟩, ⟨Cert.Reference33Ideal.S16512x256, e'⟩, ⟨Cert.Reference33Ideal.S16512x512, f'⟩, ⟨Cert.Reference33Ideal.S16512x1024, g'⟩, ⟨Cert.Reference33Ideal.S16512x1024, u'⟩] h' (ix2 r j) 1 (by show 1 < 6; omega) Cert.Reference33Ideal.S16512x256 b' rfl rfl 1024 rfl (ix2 r ⟨j.val - 1024, by omega⟩)
      (fun b hb => by match b with | ⟨0, _⟩ => rfl | ⟨1, _⟩ => exact absurd rfl hb) (by show 1024 + (j.val - 1024) = j.val; omega)).symm)
  by_cases h2 : j.val < 1536
  · exact (concatenate_apply_piece (t := S384x4096) 1 [⟨S384x1024, a⟩, ⟨S384x256, b⟩, ⟨S384x256, e⟩, ⟨S384x512, f⟩, ⟨S384x1024, g⟩, ⟨S384x1024, u⟩] h (ix2 i j) 2 (by show 2 < 6; omega) S384x256 e rfl rfl 1280 rfl (ix2 i ⟨j.val - 1280, by omega⟩)
      (fun b hb => by match b with | ⟨0, _⟩ => rfl | ⟨1, _⟩ => exact absurd rfl hb) (by show 1280 + (j.val - 1280) = j.val; omega)).trans
      ((he _).trans (concatenate_apply_piece (t := Cert.Reference33Ideal.S16512x4096) 1 [⟨Cert.Reference33Ideal.S16512x1024, a'⟩, ⟨Cert.Reference33Ideal.S16512x256, b'⟩, ⟨Cert.Reference33Ideal.S16512x256, e'⟩, ⟨Cert.Reference33Ideal.S16512x512, f'⟩, ⟨Cert.Reference33Ideal.S16512x1024, g'⟩, ⟨Cert.Reference33Ideal.S16512x1024, u'⟩] h' (ix2 r j) 2 (by show 2 < 6; omega) Cert.Reference33Ideal.S16512x256 e' rfl rfl 1280 rfl (ix2 r ⟨j.val - 1280, by omega⟩)
      (fun b hb => by match b with | ⟨0, _⟩ => rfl | ⟨1, _⟩ => exact absurd rfl hb) (by show 1280 + (j.val - 1280) = j.val; omega)).symm)
  by_cases h3 : j.val < 2048
  · exact (concatenate_apply_piece (t := S384x4096) 1 [⟨S384x1024, a⟩, ⟨S384x256, b⟩, ⟨S384x256, e⟩, ⟨S384x512, f⟩, ⟨S384x1024, g⟩, ⟨S384x1024, u⟩] h (ix2 i j) 3 (by show 3 < 6; omega) S384x512 f rfl rfl 1536 rfl (ix2 i ⟨j.val - 1536, by omega⟩)
      (fun b hb => by match b with | ⟨0, _⟩ => rfl | ⟨1, _⟩ => exact absurd rfl hb) (by show 1536 + (j.val - 1536) = j.val; omega)).trans
      ((hf _).trans (concatenate_apply_piece (t := Cert.Reference33Ideal.S16512x4096) 1 [⟨Cert.Reference33Ideal.S16512x1024, a'⟩, ⟨Cert.Reference33Ideal.S16512x256, b'⟩, ⟨Cert.Reference33Ideal.S16512x256, e'⟩, ⟨Cert.Reference33Ideal.S16512x512, f'⟩, ⟨Cert.Reference33Ideal.S16512x1024, g'⟩, ⟨Cert.Reference33Ideal.S16512x1024, u'⟩] h' (ix2 r j) 3 (by show 3 < 6; omega) Cert.Reference33Ideal.S16512x512 f' rfl rfl 1536 rfl (ix2 r ⟨j.val - 1536, by omega⟩)
      (fun b hb => by match b with | ⟨0, _⟩ => rfl | ⟨1, _⟩ => exact absurd rfl hb) (by show 1536 + (j.val - 1536) = j.val; omega)).symm)
  by_cases h4 : j.val < 3072
  · exact (concatenate_apply_piece (t := S384x4096) 1 [⟨S384x1024, a⟩, ⟨S384x256, b⟩, ⟨S384x256, e⟩, ⟨S384x512, f⟩, ⟨S384x1024, g⟩, ⟨S384x1024, u⟩] h (ix2 i j) 4 (by show 4 < 6; omega) S384x1024 g rfl rfl 2048 rfl (ix2 i ⟨j.val - 2048, by omega⟩)
      (fun b hb => by match b with | ⟨0, _⟩ => rfl | ⟨1, _⟩ => exact absurd rfl hb) (by show 2048 + (j.val - 2048) = j.val; omega)).trans
      ((hg _).trans (concatenate_apply_piece (t := Cert.Reference33Ideal.S16512x4096) 1 [⟨Cert.Reference33Ideal.S16512x1024, a'⟩, ⟨Cert.Reference33Ideal.S16512x256, b'⟩, ⟨Cert.Reference33Ideal.S16512x256, e'⟩, ⟨Cert.Reference33Ideal.S16512x512, f'⟩, ⟨Cert.Reference33Ideal.S16512x1024, g'⟩, ⟨Cert.Reference33Ideal.S16512x1024, u'⟩] h' (ix2 r j) 4 (by show 4 < 6; omega) Cert.Reference33Ideal.S16512x1024 g' rfl rfl 2048 rfl (ix2 r ⟨j.val - 2048, by omega⟩)
      (fun b hb => by match b with | ⟨0, _⟩ => rfl | ⟨1, _⟩ => exact absurd rfl hb) (by show 2048 + (j.val - 2048) = j.val; omega)).symm)
  exact (concatenate_apply_piece (t := S384x4096) 1 [⟨S384x1024, a⟩, ⟨S384x256, b⟩, ⟨S384x256, e⟩, ⟨S384x512, f⟩, ⟨S384x1024, g⟩, ⟨S384x1024, u⟩] h (ix2 i j) 5 (by show 5 < 6; omega) S384x1024 u rfl rfl 3072 rfl (ix2 i ⟨j.val - 3072, by omega⟩)
    (fun b hb => by match b with | ⟨0, _⟩ => rfl | ⟨1, _⟩ => exact absurd rfl hb) (by show 3072 + (j.val - 3072) = j.val; omega)).trans
    ((hu _).trans (concatenate_apply_piece (t := Cert.Reference33Ideal.S16512x4096) 1 [⟨Cert.Reference33Ideal.S16512x1024, a'⟩, ⟨Cert.Reference33Ideal.S16512x256, b'⟩, ⟨Cert.Reference33Ideal.S16512x256, e'⟩, ⟨Cert.Reference33Ideal.S16512x512, f'⟩, ⟨Cert.Reference33Ideal.S16512x1024, g'⟩, ⟨Cert.Reference33Ideal.S16512x1024, u'⟩] h' (ix2 r j) 5 (by show 5 < 6; omega) Cert.Reference33Ideal.S16512x1024 u' rfl rfl 3072 rfl (ix2 r ⟨j.val - 3072, by omega⟩)
    (fun b hb => by match b with | ⟨0, _⟩ => rfl | ⟨1, _⟩ => exact absurd rfl hb) (by show 3072 + (j.val - 3072) = j.val; omega)).symm)

/-- The first block alone has the meta rows. -/
theorem flag (t : Fin cfg0.N) : k0_pay3 (F := Ideal) (grid0.coords t) = if t.val = 0 then 1 else 0 := by
  pointwise [k0_pay3]
  rw [first]
  split <;> rfl

/-- The meta rows placed in a block are the block of the meta rows placed in the array. -/
theorem placed (t : Fin cfg0.N) (x : FVec Ideal S16x256 .f32) (z z' : EReal) (hz : z = 0) (hz' : z' = 0)
    (h : Shape.Concatenates [S112x256, S16x256, S256x256] S384x256 0)
    (h' : Shape.Concatenates [Cert.Reference33Ideal.S112x256, Cert.Reference33Ideal.S16x256, Cert.Reference33Ideal.S16384x256] Cert.Reference33Ideal.S16512x256 0) (i : Fin 384) (j : Fin 256) :
    concatenate S384x256 0 [⟨S112x256, fun _ => z⟩, ⟨S16x256, fun k => x k * k0_pay3 (F := Ideal) (grid0.coords t)⟩, ⟨S256x256, fun _ => z⟩] h (ix2 i j)
      = concatenate Cert.Reference33Ideal.S16512x256 0 [⟨Cert.Reference33Ideal.S112x256, fun _ => z'⟩, ⟨Cert.Reference33Ideal.S16x256, x⟩, ⟨Cert.Reference33Ideal.S16384x256, fun _ => z'⟩] h' (ix2 (row t i) j) := by
  subst hz hz'
  rw [catK, catR, flag]
  dsimp only
  by_cases h0 : t.val = 0
  · have e : t.val * 384 + i.val = i.val := by omega
    simp only [h0, e, if_true, mul_one, Nat.zero_mul, Nat.zero_add]
  · have e1 : ¬t.val * 384 + i.val < 112 := by omega
    have e2 : ¬t.val * 384 + i.val < 128 := by omega
    simp only [h0, e1, e2, if_false, dif_neg, not_false_iff, mul_zero]
    split
    · rfl
    · split <;> rfl

theorem dk (c : Dev nD) (t : Fin cfg0.N) (i : Fin 384) (j : Fin 256) :
    k0_pay5 (grid0.coords t) (iblk m c 1 t) (V m c main_arg10) (ix2 i j) = val_main_v3 (F := Ideal) (arg5 m c) (arg10 m c) (ix2 (row t i) j) := by
  refine (congrArg₂ (fun a b : EReal => a + b) (blk1 m c t i j) ?_ : _)
  rw [show V m c main_arg10 = arg10 m c from V_main_arg10 m c]
  exact placed t (arg10 m c) (Ideal.ofBits .f32 0x00000000#32) (Ideal.ofBits .f32 0x00000000#32) Cert.Hand.zero_word Cert.Hand.zero_word _ _ i j

theorem dv (c : Dev nD) (t : Fin cfg0.N) (i : Fin 384) (j : Fin 256) :
    k0_pay6 (grid0.coords t) (iblk m c 2 t) (V m c main_arg11) (ix2 i j) = val_main_v7 (F := Ideal) (arg6 m c) (arg11 m c) (ix2 (row t i) j) := by
  refine (congrArg₂ (fun a b : EReal => a + b) (blk2 m c t i j) ?_ : _)
  rw [show V m c main_arg11 = arg11 m c from V_main_arg11 m c]
  exact placed t (arg11 m c) (Ideal.ofBits .f32 0x00000000#32) (Ideal.ofBits .f32 0x00000000#32) Cert.Hand.zero_word Cert.Hand.zero_word _ _ i j

/-- The pieces side by side under the row mask, read at an entry. -/
theorem mask (w : BitVec 32) (a : FVec Ideal S384x1024 .f32) (b e : FVec Ideal S384x256 .f32) (f : FVec Ideal S384x512 .f32) (g u : FVec Ideal S384x1024 .f32)
    (i : Fin 384) (j : Fin 4096) :
    k0_pay10 w a b e f g u (ix2 i j) = Scalar.select (IntOp.cmpi .sge (IntOp.addi (Scalar.muli w 384#32) (BitVec.ofNat 32 i.val)) 112#32)
      (concatenate S384x4096 1 [⟨S384x1024, a⟩, ⟨S384x256, b⟩, ⟨S384x256, e⟩, ⟨S384x512, f⟩, ⟨S384x1024, g⟩, ⟨S384x1024, u⟩]
        concatenates_S384x1024_S384x256_S384x256_S384x512_S384x1024_S384x1024_S384x4096_d1 (ix2 i j))
      (Ideal.ofBits .f32 0x00000000#32) := by
  unfold k0_pay10
  dsimp only
  generalize concatenate S384x4096 1 [⟨S384x1024, a⟩, ⟨S384x256, b⟩, ⟨S384x256, e⟩, ⟨S384x512, f⟩, ⟨S384x1024, g⟩, ⟨S384x1024, u⟩]
    concatenates_S384x1024_S384x256_S384x256_S384x512_S384x1024_S384x1024_S384x4096_d1 = X
  pointwise

/-- The pieces side by side, no gradient in the padding. -/
theorem point8 (c : Dev nD) (t : Fin cfg0.N) (i : Fin 384) (j : Fin 4096) :
    k0_pay10 (BitVec.ofNat 32 (grid0.coords t 0).val) (k0_pay4 (iblk m c 0 t)) (k0_pay5 (grid0.coords t) (iblk m c 1 t) (V m c main_arg10)) (k0_pay6 (grid0.coords t) (iblk m c 2 t) (V m c main_arg11)) (k0_pay7 (iblk m c 3 t)) (k0_pay8 (iblk m c 4 t)) (k0_pay9 (iblk m c 5 t)) (ix2 i j)
      = val_main_v13 (F := Ideal) (arg4 m c) (arg5 m c) (arg6 m c) (arg7 m c) (arg8 m c) (arg9 m c) (arg10 m c) (arg11 m c) (ix2 (row t i) j) := by
  rw [mask, coord, Cert.Hand.row_word, cat6 (k0_pay4 (iblk m c 0 t)) (arg4 m c) (fun k => by pointwise [k0_pay4]; exact blk0 m c t i k) _ (val_main_v3 (F := Ideal) (arg5 m c) (arg10 m c)) (dk m c t i)
    _ (val_main_v7 (F := Ideal) (arg6 m c) (arg11 m c)) (dv m c t i) (k0_pay7 (iblk m c 3 t)) (arg7 m c) (fun k => by pointwise [k0_pay7]; exact blk3 m c t i k)
    (k0_pay8 (iblk m c 4 t)) (arg8 m c) (fun k => by pointwise [k0_pay8]; exact blk4 m c t i k) (k0_pay9 (iblk m c 5 t)) (arg9 m c) (fun k => by pointwise [k0_pay9]; exact blk5 m c t i k)
    _ Cert.Reference33Ideal.Gen.concatenates_S16512x1024_S16512x256_S16512x256_S16512x512_S16512x1024_S16512x1024_S16512x4096_d1 j]
  rfl

abbrev dp (c : Dev nD) : FVec Ideal S16512x1024 .f32 := val_main_v31 (F := Ideal) (arg2 m c) (arg4 m c) (arg5 m c) (arg6 m c) (arg7 m c) (arg8 m c) (arg9 m c) (arg10 m c) (arg11 m c)

/-- The gradient that reaches the normalised rows. -/
theorem prodD (c : Dev nD) (t : Fin cfg0.N) (i : Fin 384) (j : Fin 1024) :
    k0_pay11 (BitVec.ofNat 32 (grid0.coords t 0).val) (k0_pay4 (iblk m c 0 t)) (k0_pay5 (grid0.coords t) (iblk m c 1 t) (V m c main_arg10)) (k0_pay6 (grid0.coords t) (iblk m c 2 t) (V m c main_arg11)) (k0_pay7 (iblk m c 3 t)) (k0_pay8 (iblk m c 4 t)) (k0_pay9 (iblk m c 5 t)) (V m c main_v4) (ix2 i j) = dp m c (ix2 (row t i) j) := by
  pointwise [k0_pay11, val_main_v31]
  exact Finset.sum_congr rfl fun k _ => by rw [point8, V_w]; rfl

/-- The reciprocal root of the rows' mean square. -/
theorem inv (c : Dev nD) (t : Fin cfg0.N) (i : Fin 384) :
    k0_pay12 (iblk m c 6 t) (ix2 i 0) = val_main_v21 (F := Ideal) (arg0 m c) (ix2 (row t i) 0) := by
  pointwise [k0_pay12, val_main_v21, val_main_v20, val_main_v19, val_main_v18, val_main_v17, val_main_v16, val_main_v15, val_main_v14, val_main_cst_4, val_main_cst_5,
    val_main_cst_6]
  simp only [blk6]

/-- The normalised rows. -/
theorem nrm (c : Dev nD) (t : Fin cfg0.N) (i : Fin 384) (j : Fin 1024) :
    k0_pay13 (iblk m c 6 t) (ix2 i j) = val_main_v26 (F := Ideal) (arg0 m c) (ix2 (row t i) j) := by
  pointwise [k0_pay13, val_main_v26, val_main_v25]
  rw [blk6, inv]

/-- The reference's mean of the squares, its root's reciprocal, and the normalised rows. -/
abbrev MS (X : FVec Ideal S16512x1024 .f32) (r : Fin 16512) : EReal := Cert.Hand.ms fun k => X (ix2 r k)

theorem ref20 (X : FVec Ideal S16512x1024 .f32) (r : Fin 16512) : val_main_v20 (F := Ideal) X (ix2 r 0) = MS X r := by
  pointwise [val_main_v20, val_main_v19, val_main_v18, val_main_v17, val_main_v16, val_main_v15, val_main_v14, val_main_cst_4, val_main_cst_5, val_main_cst_6]
  rfl

theorem ref21 (X : FVec Ideal S16512x1024 .f32) (r : Fin 16512) : val_main_v21 (F := Ideal) X (ix2 r 0) = Ideal.rsqrt (MS X r) := by
  pointwise [val_main_v21]
  rw [ref20]

theorem ref26 (X : FVec Ideal S16512x1024 .f32) (r : Fin 16512) (j : Fin 1024) :
    val_main_v26 (F := Ideal) X (ix2 r j) = X (ix2 r j) * Ideal.rsqrt (MS X r) := by
  pointwise [val_main_v26, val_main_v25]
  rw [ref21]

theorem point9 (c : Dev nD) (t : Fin cfg0.N) (i : Fin 384) (j : Fin 1024) :
    k0_pay15 (BitVec.ofNat 32 (grid0.coords t 0).val) (k0_pay4 (iblk m c 0 t)) (k0_pay5 (grid0.coords t) (iblk m c 1 t) (V m c main_arg10)) (k0_pay6 (grid0.coords t) (iblk m c 2 t) (V m c main_arg11)) (k0_pay7 (iblk m c 3 t)) (k0_pay8 (iblk m c 4 t)) (k0_pay9 (iblk m c 5 t)) (iblk m c 6 t) (V m c main_v5) (V m c main_v4) (iblk m c 7 t) (ix2 i j)
      = val_main_v52 (F := Ideal) (arg0 m c) (arg1 m c) (arg2 m c) (arg3 m c) (arg4 m c) (arg5 m c) (arg6 m c) (arg7 m c) (arg8 m c) (arg9 m c) (arg10 m c) (arg11 m c) (ix2 (row t i) j) := by
  have hs : ∑ k : Fin 1024, k0_pay11 (BitVec.ofNat 32 (grid0.coords t 0).val) (k0_pay4 (iblk m c 0 t)) (k0_pay5 (grid0.coords t) (iblk m c 1 t) (V m c main_arg10)) (k0_pay6 (grid0.coords t) (iblk m c 2 t) (V m c main_arg11)) (k0_pay7 (iblk m c 3 t)) (k0_pay8 (iblk m c 4 t)) (k0_pay9 (iblk m c 5 t)) (V m c main_v4) (ix2 i k) * V m c main_v5 (ix2 0 k)
        * k0_pay13 (iblk m c 6 t) (ix2 i k)
      = ∑ k : Fin 1024, dp m c (ix2 (row t i) k) * arg1 m c (ix1 k)
        * (arg0 m c (ix2 (row t i) k) * Ideal.rsqrt (MS (arg0 m c) (row t i))) :=
    Finset.sum_congr rfl fun k _ => by rw [prodD, V_gain, nrm, ref26]
  pointwise [k0_pay15, val_main_v52, val_main_v51, val_main_v50, val_main_v49, val_main_v48, val_main_v47, val_main_v46, val_main_v45, val_main_v44, val_main_v43, val_main_v42, val_main_v41, val_main_v40, val_main_v39, val_main_v38, val_main_v36, val_main_v35, val_main_v27, val_main_v24, val_main_v23, val_main_v22, val_main_cst_7,
    val_main_cst_10, val_main_cst_11, val_main_cst_12]
  rw [blk7, prodD, nrm, inv, V_gain, ref21, ref26]
  refine (congrArg (fun z => arg3 m c (ix2 (row t i) j) + Ideal.rsqrt (MS (arg0 m c) (row t i))
    * (dp m c (ix2 (row t i) j) * arg1 m c (ix1 j)
      - arg0 m c (ix2 (row t i) j) * Ideal.rsqrt (MS (arg0 m c) (row t i)) * Ideal.div z (Ideal.ofBits .f32 0x44800000#32))) hs).trans ?_
  refine (Cert.Hand.rms_grad (fun k => arg0 m c (ix2 (row t i) k))
    (fun k => dp m c (ix2 (row t i) k) * arg1 m c (ix1 k)) (arg3 m c (ix2 (row t i) j)) j).trans ?_
  have hz : ∑ x : Fin 1, Ideal.div ((∑ k : Fin 1024, arg0 m c (ix2 (row t i) k)
        * (dp m c (ix2 (row t i) k) * arg1 m c (ix1 k)))
        * (Ideal.ofBits .f32 0xBF000000#32 * Ideal.div (val_main_v21 (F := Ideal) (arg0 m c) (ix2 (row t i) x)) (val_main_v20 (F := Ideal) (arg0 m c) (ix2 (row t i) x))))
        (Ideal.ofBits .f32 0x44800000#32)
      = ∑ _x : Fin 1, Ideal.div ((∑ k : Fin 1024, arg0 m c (ix2 (row t i) k)
        * (dp m c (ix2 (row t i) k) * arg1 m c (ix1 k)))
        * (Ideal.ofBits .f32 0xBF000000#32 * Ideal.div (Ideal.rsqrt (MS (arg0 m c) (row t i))) (MS (arg0 m c) (row t i))))
        (Ideal.ofBits .f32 0x44800000#32) :=
    Finset.sum_congr rfl fun x _ => by rw [Subsingleton.elim x 0, ref21, ref20]
  exact congrArg (fun z => arg3 m c (ix2 (row t i) j) + dp m c (ix2 (row t i) j) * arg1 m c (ix1 j)
    * Ideal.rsqrt (MS (arg0 m c) (row t i)) + arg0 m c (ix2 (row t i) j) * z + z * arg0 m c (ix2 (row t i) j)) hz.symm

/-- One block's part of the gradient of the gain. -/
theorem pay2 (c : Dev nD) (t : Fin cfg0.N) (acc : Vec Ideal S1x1024 .f32) (j : S1x1024.Idx) :
    k0_pay2 (k0_pay14 (BitVec.ofNat 32 (grid0.coords t 0).val) (k0_pay4 (iblk m c 0 t)) (k0_pay5 (grid0.coords t) (iblk m c 1 t) (V m c main_arg10)) (k0_pay6 (grid0.coords t) (iblk m c 2 t) (V m c main_arg11)) (k0_pay7 (iblk m c 3 t)) (k0_pay8 (iblk m c 4 t)) (k0_pay9 (iblk m c 5 t)) (iblk m c 6 t) (V m c main_v4)) acc j
      = acc j + ∑ k : Fin 384, k0_pay13 (iblk m c 6 t) (ix2 k (j 1)) * dp m c (ix2 (row t k) (j 1)) := by
  pointwise [k0_pay2, k0_pay14]
  exact congrArg (acc j + ·) (Finset.sum_congr rfl fun k _ => (congrArg (fun z : EReal => z * k0_pay13 (iblk m c 6 t) (ix2 k (j 1))) (prodD m c t k (j 1))).trans (mul_comm _ _))

/-- The sum starts from zero. -/
theorem pay1 (j : S1x1024.Idx) : k0_pay1 (F := Ideal) j = 0 := by
  pointwise [k0_pay1]

theorem final10 (c : Dev nD) : (dats m 0 c).arrAt 10 cfg0.N = val_main_v54 (F := Ideal) (arg0 m c) (arg2 m c) (arg4 m c) (arg5 m c) (arg6 m c) (arg7 m c) (arg8 m c) (arg9 m c) (arg10 m c) (arg11 m c) := by
  refine (dats m 0 c).arrAt_eq_of_covers 10 _ (by decide +kernel) fun t hf y => ?_
  obtain ⟨i, j, rfl⟩ : ∃ (i : Fin 1) (j : Fin 1024), y = ix2 i j := ⟨y 0, y 1, ValueIdx.eq_ix2 y⟩
  have e : ((cfg0.win 10).blk t).view.emb (ix2 i j) = ix2 i j := by
    blk_ext [idx t]
  rw [e]
  clear e
  blk_simp
  rw [after0_10]
  rw [Pipeline.eq_sum_fin_of_reset_step_apply_of_flush (fun n h => (outsAt0 m c n h).2.2.1) 43 (fun _ => 0)
    (fun t j => ∑ k : Fin 384, k0_pay13 (iblk m c 6 t) (ix2 k (j 1)) * dp m c (ix2 (row t k) (j 1)))
    (fun t h j => by
      rw [outsAt0_A m c t h h]
      dsimp only
      frame_out
      simp only [Cert.Hand.readCov_whole (S := S16x256) _ zero2, Cert.Hand.readCov_whole (S := S1024x4096) _ zero2, Cert.Hand.readCov_whole (S := S1x1024) _ zero2]
      refine (pay2 m c t _ j).trans ?_
      rw [pay1])
    (fun t h j => by
      rw [outsAt0_B m c t h h]
      dsimp only
      frame_out
      simp only [carried, read_unread_whole]
      exact pay2 m c t _ j) t ((flush0_10 t).mp hf) _, zero_add]
  pointwise [val_main_v54, val_main_v37, val_main_v34, val_main_v33, val_main_v32, val_main_cst_8, val_main_cst_9]
  refine (Fin.sum_mul_add_congr (L := 16512) (S := 43) (n := 384)
    (f := fun l : Fin 16512 => val_main_v26 (F := Ideal) (arg0 m c) (ix2 l j) * dp m c (ix2 l j))
    fun s k hl => ?_).trans (Fin.sum_univ_one fun _ : Fin 1 => ∑ l : Fin 16512,
      val_main_v26 (F := Ideal) (arg0 m c) (ix2 l j) * dp m c (ix2 l j)).symm
  have hr : ∀ h, row ⟨43 * (t.val / 43) + s.val, h⟩ k = ⟨s.val * 384 + k.val, hl⟩ := fun h => Fin.ext (by
    have h1 : t.val < cfg0.N := t.isLt
    have h2 : cfg0.N = 43 := by decide +kernel
    have h3 : t.val / 43 = 0 := by omega
    show (43 * (t.val / 43) + s.val) * 384 + k.val = s.val * 384 + k.val
    omega)
  dsimp only
  rw [nrm, hr]

theorem final9 (c : Dev nD) : (dats m 0 c).arrAt 9 cfg0.N
    = val_main_v52 (F := Ideal) (arg0 m c) (arg1 m c) (arg2 m c) (arg3 m c) (arg4 m c) (arg5 m c) (arg6 m c) (arg7 m c) (arg8 m c) (arg9 m c) (arg10 m c) (arg11 m c) := by
  refine (dats m 0 c).arrAt_eq_of_covers 9 _ (by decide +kernel) fun t hf y => ?_
  obtain ⟨i, j, rfl⟩ : ∃ (i : Fin 384) (j : Fin 1024), y = ix2 i j := ⟨y 0, y 1, ValueIdx.eq_ix2 y⟩
  have e : ((cfg0.win 9).blk t).view.emb (ix2 i j) = ix2 (row t i) j := by
    blk_ext [idx t]
  rw [e]
  blk_simp
  rw [after0_9]
  by_cases h0 : t.val % 43 = 0
  · rw [outsAt0_A m c t h0 h0]
    dsimp only
    frame_out
    simp only [Cert.Hand.readCov_whole (S := S16x256) _ zero2, Cert.Hand.readCov_whole (S := S1024x4096) _ zero2, Cert.Hand.readCov_whole (S := S1x1024) _ zero2]
    exact point9 m c t i j
  · rw [outsAt0_B m c t h0 h0]
    dsimp only
    frame_out
    simp only [carried, read_unread_whole]
    exact point9 m c t i j

theorem final8 (c : Dev nD) : (dats m 0 c).arrAt 8 cfg0.N
    = val_main_v53 (F := Ideal) (arg4 m c) (arg5 m c) (arg6 m c) (arg7 m c) (arg8 m c) (arg9 m c) (arg10 m c) (arg11 m c) := by
  refine (dats m 0 c).arrAt_eq_of_covers 8 _ (by decide +kernel) fun t hf y => ?_
  obtain ⟨i, j, rfl⟩ : ∃ (i : Fin 384) (j : Fin 4096), y = ix2 i j := ⟨y 0, y 1, ValueIdx.eq_ix2 y⟩
  have e : ((cfg0.win 8).blk t).view.emb (ix2 i j) = ix2 (row t i) j := by
    blk_ext [idx t]
  rw [e]
  blk_simp
  rw [after0_8]
  by_cases h0 : t.val % 43 = 0
  · rw [outsAt0_A m c t h0 h0]
    dsimp only
    frame_out
    simp only [Cert.Hand.readCov_whole (S := S16x256) _ zero2, Cert.Hand.readCov_whole (S := S1024x4096) _ zero2, Cert.Hand.readCov_whole (S := S1x1024) _ zero2]
    exact point8 m c t i j
  · rw [outsAt0_B m c t h0 h0]
    dsimp only
    frame_out
    simp only [carried, read_unread_whole]
    exact point8 m c t i j

/-- The run leaves each output window's array in its result, and the arguments as they were. -/
theorem run_blocks : θ_run defs (onTc (τ := τ) (main (F := Ideal))) ⟨m, fun _ => 0, ρ⟩ fun r => ∀ c : Dev nD,
      r.2.mem ((c : Thread nD τ).loc main_v6_0) = (dats m 0 c).arrAt 8 cfg0.N
      ∧ r.2.mem ((c : Thread nD τ).loc main_v6_1) = (dats m 0 c).arrAt 9 cfg0.N
      ∧ r.2.mem ((c : Thread nD τ).loc main_v6_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1 8, (h c).1 9, (h c).1 10,
      ((h c).1 6).trans (((dats m 0 c).arrAt_in 6 rfl _).trans ((A_eq m c 6).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 7).trans (((dats m 0 c).arrAt_in 7 rfl _).trans ((A_eq m c 7).trans (V_main_arg3 m c))),
      ((h c).2 main_arg4 (Pipeline.mem_restRefs_of main_arg4 (by decide) (by decide))).trans (V_main_arg4 m c),
      ((h c).1 1).trans (((dats m 0 c).arrAt_in 1 rfl _).trans ((A_eq m c 1).trans (V_main_arg5 m c))),
      ((h c).1 2).trans (((dats m 0 c).arrAt_in 2 rfl _).trans ((A_eq m c 2).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

/-- The kernel and the reference compute one array at each result. -/
theorem algebraic : Cert.algebraic_Kernel33Ideal_Reference33Ideal := fun m g m' g' _ hag =>
  ⟨fun c => val_main_v53 (F := Ideal) (arg4 m c) (arg5 m c) (arg6 m c) (arg7 m c) (arg8 m c) (arg9 m c) (arg10 m c) (arg11 m c),
    fun c => val_main_v52 (F := Ideal) (arg0 m c) (arg1 m c) (arg2 m c) (arg3 m c) (arg4 m c) (arg5 m c) (arg6 m c) (arg7 m c) (arg8 m c) (arg9 m c) (arg10 m c) (arg11 m c),
    fun c => val_main_v54 (F := Ideal) (arg0 m c) (arg2 m c) (arg4 m c) (arg5 m c) (arg6 m c) (arg7 m c) (arg8 m c) (arg9 m c) (arg10 m c) (arg11 m c),
    (θ_run _ _ _).mono (fun _ h c => ⟨(h c).1.trans (final8 m c), (h c).2.1.trans (final9 m c), (h c).2.2.1.trans (final10 m c), (h c).2.2.2⟩)
      (run_blocks m g),
    (θ_run _ _ _).mono (fun _ h c => ⟨(h c).1.trans (by rw [(hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2]; rfl),
      (h c).2.1.trans (by rw [val_main_v52_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2]),
      (h c).2.2.1.trans (by rw [(hag c).1, (hag c).2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2]; rfl), (h c).2.2.2⟩)
      (Cert.Reference33Ideal.Value.run m' g')⟩

end Cert.Kernel33Ideal.Hand

end
-- ==== Proof.lean ====
/- The proof of the claims on the calls of the feed-forward sublayers, of the mixer and of the update. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Reference33Ideal.Run
public import proofs.«01_k».proof.Proof.Gen.Reference33Ideal.Read
public import proofs.«01_k».proof.Proof.Refs
public import proofs.«01_k».proof.Proof.Gate
public import proofs.«01_k».proof.Proof.In
public import proofs.«01_k».proof.Proof.Dwd
public import proofs.«01_k».proof.Proof.Dwg
public import proofs.«01_k».proof.Proof.Up
public import proofs.«01_k».proof.Proof.Down
public import proofs.«01_k».proof.Proof.MixIn
public import proofs.«01_k».proof.Proof.DwIn
public import proofs.«01_k».proof.Proof.DwOut
public import proofs.«01_k».proof.Proof.DwBa
public import proofs.«01_k».proof.Proof.DwBs
public import proofs.«01_k».proof.Proof.DwGlu
public import proofs.«01_k».proof.Proof.MixOut
public import proofs.«01_k».proof.Proof.Branches
public import proofs.«01_k».proof.Proof.Update15
public import proofs.«01_k».proof.Proof.Update16
public import proofs.«01_k».proof.Proof.Update17
public import proofs.«01_k».proof.Proof.Update18
public import proofs.«01_k».proof.Proof.Update19
public import proofs.«01_k».proof.Proof.Update20
public import proofs.«01_k».proof.Proof.Update21
public import proofs.«01_k».proof.Proof.Update22
public import proofs.«01_k».proof.Proof.Update23
public import proofs.«01_k».proof.Proof.Update24
public import proofs.«01_k».proof.Proof.Update25
public import proofs.«01_k».proof.Proof.Update26
public import proofs.«01_k».proof.Proof.Update27
public import proofs.«01_k».proof.Proof.Update28
public import proofs.«01_k».proof.Proof.Update29
public import proofs.«01_k».proof.Proof.Loss
public import proofs.«01_k».proof.Proof.Merge
public import proofs.«01_k».proof.Proof.MergeGrad
public import proofs.«01_k».proof.Proof.MixInGrad
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Kernel26.Gen.facts,
  Cert.Kernel26Ideal.Gen.facts,
  Cert.Reference26Ideal.Gen.facts,
  Cert.Kernel27.Gen.facts,
  Cert.Kernel27Ideal.Gen.facts,
  Cert.Reference27Ideal.Gen.facts,
  Cert.Kernel28.Gen.facts,
  Cert.Kernel28Ideal.Gen.facts,
  Cert.Reference28Ideal.Gen.facts,
  Cert.Kernel29.Gen.facts,
  Cert.Kernel29Ideal.Gen.facts,
  Cert.Reference29Ideal.Gen.facts,
  Cert.Kernel30.Gen.facts,
  Cert.Kernel30Ideal.Gen.facts,
  Cert.Reference30Ideal.Gen.facts,
  Cert.Kernel31.Gen.facts,
  Cert.Kernel31Ideal.Gen.facts,
  Cert.Reference31Ideal.Gen.facts,
  Cert.Kernel32.Gen.facts,
  Cert.Kernel32Ideal.Gen.facts,
  Cert.Reference32Ideal.Gen.facts,
  Cert.Kernel33.Gen.facts,
  Cert.Kernel33Ideal.Gen.facts,
  Cert.Reference33Ideal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  Cert.ReferenceIdeal.Hand.frame,
  Cert.ReferenceIdeal.Hand.frame_finite,
  fun m ρ _ => Cert.Kernel2.Gen.frame m ρ,
  fun m ρ _ => Cert.Kernel2Ideal.Gen.frame m ρ,
  Cert.Reference2Ideal.Hand.frame,
  fun m ρ _ => Cert.Kernel3.Gen.frame m ρ,
  fun m ρ _ => Cert.Kernel3Ideal.Gen.frame m ρ,
  Cert.Reference3Ideal.Hand.frame,
  fun m ρ _ => Cert.Kernel4.Gen.frame m ρ,
  fun m ρ _ => Cert.Kernel4Ideal.Gen.frame m ρ,
  Cert.Reference4Ideal.Hand.frame,
  fun m ρ _ => Cert.Kernel5.Gen.frame m ρ,
  fun m ρ _ => Cert.Kernel5Ideal.Gen.frame m ρ,
  Cert.Reference5Ideal.Hand.frame,
  fun m ρ _ => Cert.Kernel6.Gen.frame m ρ,
  fun m ρ _ => Cert.Kernel6Ideal.Gen.frame m ρ,
  Cert.Reference6Ideal.Hand.frame,
  fun m ρ _ => Cert.Kernel7.Gen.frame m ρ,
  fun m ρ _ => Cert.Kernel7Ideal.Gen.frame m ρ,
  Cert.Reference7Ideal.Hand.frame,
  fun m ρ _ => Cert.Kernel8.Gen.frame m ρ,
  fun m ρ _ => Cert.Kernel8Ideal.Gen.frame m ρ,
  Cert.Reference8Ideal.Hand.frame,
  fun m ρ _ => Cert.Kernel9.Gen.frame m ρ,
  fun m ρ _ => Cert.Kernel9Ideal.Gen.frame m ρ,
  Cert.Reference9Ideal.Hand.frame,
  fun m ρ _ => Cert.Kernel10.Gen.frame m ρ,
  fun m ρ _ => Cert.Kernel10Ideal.Gen.frame m ρ,
  Cert.Reference10Ideal.Hand.frame,
  fun m ρ _ => Cert.Kernel11.Gen.frame m ρ,
  fun m ρ _ => Cert.Kernel11Ideal.Gen.frame m ρ,
  Cert.Reference11Ideal.Hand.frame,
  fun m ρ _ => Cert.Kernel12.Gen.frame m ρ,
  fun m ρ _ => Cert.Kernel12Ideal.Gen.frame m ρ,
  Cert.Reference12Ideal.Hand.frame,
  fun m ρ _ => Cert.Kernel13.Gen.frame m ρ,
  fun m ρ _ => Cert.Kernel13Ideal.Gen.frame m ρ,
  Cert.Reference13Ideal.Hand.frame,
  fun m ρ _ => Cert.Kernel14.Gen.frame m ρ,
  fun m ρ _ => Cert.Kernel14Ideal.Gen.frame m ρ,
  Cert.Reference14Ideal.Hand.frame,
  fun m ρ _ => Cert.Kernel15.Gen.frame m ρ,
  fun m ρ _ => Cert.Kernel15Ideal.Gen.frame m ρ,
  Cert.Reference15Ideal.Hand.frame,
  fun m ρ _ => Cert.Kernel16.Gen.frame m ρ,
  fun m ρ _ => Cert.Kernel16Ideal.Gen.frame m ρ,
  Cert.Reference16Ideal.Hand.frame,
  fun m ρ _ => Cert.Kernel17.Gen.frame m ρ,
  fun m ρ _ => Cert.Kernel17Ideal.Gen.frame m ρ,
  Cert.Reference17Ideal.Hand.frame,
  fun m ρ _ => Cert.Kernel18.Gen.frame m ρ,
  fun m ρ _ => Cert.Kernel18Ideal.Gen.frame m ρ,
  Cert.Reference18Ideal.Hand.frame,
  fun m ρ _ => Cert.Kernel19.Gen.frame m ρ,
  fun m ρ _ => Cert.Kernel19Ideal.Gen.frame m ρ,
  Cert.Reference19Ideal.Hand.frame,
  fun m ρ _ => Cert.Kernel20.Gen.frame m ρ,
  fun m ρ _ => Cert.Kernel20Ideal.Gen.frame m ρ,
  Cert.Reference20Ideal.Hand.frame,
  fun m ρ _ => Cert.Kernel21.Gen.frame m ρ,
  fun m ρ _ => Cert.Kernel21Ideal.Gen.frame m ρ,
  Cert.Reference21Ideal.Hand.frame,
  fun m ρ _ => Cert.Kernel22.Gen.frame m ρ,
  fun m ρ _ => Cert.Kernel22Ideal.Gen.frame m ρ,
  Cert.Reference22Ideal.Hand.frame,
  fun m ρ _ => Cert.Kernel23.Gen.frame m ρ,
  fun m ρ _ => Cert.Kernel23Ideal.Gen.frame m ρ,
  Cert.Reference23Ideal.Hand.frame,
  fun m ρ _ => Cert.Kernel24.Gen.frame m ρ,
  fun m ρ _ => Cert.Kernel24Ideal.Gen.frame m ρ,
  Cert.Reference24Ideal.Hand.frame,
  fun m ρ _ => Cert.Kernel25.Gen.frame m ρ,
  fun m ρ _ => Cert.Kernel25Ideal.Gen.frame m ρ,
  Cert.Reference25Ideal.Hand.frame,
  fun m ρ _ => Cert.Kernel26.Gen.frame m ρ,
  fun m ρ _ => Cert.Kernel26Ideal.Gen.frame m ρ,
  Cert.Reference26Ideal.Hand.frame,
  fun m ρ _ => Cert.Kernel27.Gen.frame m ρ,
  fun m ρ _ => Cert.Kernel27Ideal.Gen.frame m ρ,
  Cert.Reference27Ideal.Hand.frame,
  fun m ρ _ => Cert.Kernel28.Gen.frame m ρ,
  fun m ρ _ => Cert.Kernel28Ideal.Gen.frame m ρ,
  Cert.Reference28Ideal.Hand.frame,
  fun m ρ _ => Cert.Kernel29.Gen.frame m ρ,
  fun m ρ _ => Cert.Kernel29Ideal.Gen.frame m ρ,
  Cert.Reference29Ideal.Hand.frame,
  fun m ρ _ => Cert.Kernel30.Gen.frame m ρ,
  fun m ρ _ => Cert.Kernel30Ideal.Gen.frame m ρ,
  Cert.Reference30Ideal.Hand.frame,
  fun m ρ _ => Cert.Kernel31.Gen.frame m ρ,
  fun m ρ _ => Cert.Kernel31Ideal.Gen.frame m ρ,
  Cert.Reference31Ideal.Hand.frame,
  fun m ρ _ => Cert.Kernel32.Gen.frame m ρ,
  fun m ρ _ => Cert.Kernel32Ideal.Gen.frame m ρ,
  Cert.Reference32Ideal.Hand.frame,
  fun m ρ _ => Cert.Kernel33.Gen.frame m ρ,
  fun m ρ _ => Cert.Kernel33Ideal.Gen.frame m ρ,
  Cert.Reference33Ideal.Hand.frame,
  trivial,
  Cert.KernelIdeal.Hand.algebraic,
  trivial,
  Cert.Kernel2Ideal.Hand.algebraic,
  trivial,
  Cert.Kernel3Ideal.Hand.algebraic,
  trivial,
  Cert.Kernel4Ideal.Hand.algebraic,
  trivial,
  Cert.Kernel5Ideal.Hand.algebraic,
  trivial,
  Cert.Kernel6Ideal.Hand.algebraic,
  trivial,
  Cert.Kernel7Ideal.Hand.algebraic,
  trivial,
  Cert.Kernel8Ideal.Hand.algebraic,
  trivial,
  Cert.Kernel9Ideal.Hand.algebraic,
  trivial,
  Cert.Kernel10Ideal.Hand.algebraic,
  trivial,
  Cert.Kernel11Ideal.Hand.algebraic,
  trivial,
  Cert.Kernel12Ideal.Hand.algebraic,
  trivial,
  Cert.Kernel13Ideal.Hand.algebraic,
  trivial,
  Cert.Kernel14Ideal.Hand.algebraic,
  trivial,
  Cert.Kernel15Ideal.Hand.algebraic,
  trivial,
  Cert.Kernel16Ideal.Hand.algebraic,
  trivial,
  Cert.Kernel17Ideal.Hand.algebraic,
  trivial,
  Cert.Kernel18Ideal.Hand.algebraic,
  trivial,
  Cert.Kernel19Ideal.Hand.algebraic,
  trivial,
  Cert.Kernel20Ideal.Hand.algebraic,
  trivial,
  Cert.Kernel21Ideal.Hand.algebraic,
  trivial,
  Cert.Kernel22Ideal.Hand.algebraic,
  trivial,
  Cert.Kernel23Ideal.Hand.algebraic,
  trivial,
  Cert.Kernel24Ideal.Hand.algebraic,
  trivial,
  Cert.Kernel25Ideal.Hand.algebraic,
  trivial,
  Cert.Kernel26Ideal.Hand.algebraic,
  trivial,
  Cert.Kernel27Ideal.Hand.algebraic,
  trivial,
  Cert.Kernel28Ideal.Hand.algebraic,
  trivial,
  Cert.Kernel29Ideal.Hand.algebraic,
  trivial,
  Cert.Kernel30Ideal.Hand.algebraic,
  trivial,
  Cert.Kernel31Ideal.Hand.algebraic,
  trivial,
  Cert.Kernel32Ideal.Hand.algebraic,
  trivial,
  Cert.Kernel33Ideal.Hand.algebraic⟩

end Cert.Proof

end
